-- ==== Defs.lean ====
def Pre_Kernel (m : (ℓ : Loc Cert.Kernel.nD Cert.Kernel.τ Cert.Kernel.sig) → Buf (Elt Bits) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8)
      ∧ r.2.mem ((c.tc : Thread Cert.Kernel3.nD Cert.Kernel3.τ).loc Cert.Kernel3.main_arg9) = m ((c.tc : Thread Cert.Kernel3.nD Cert.Kernel3.τ).loc Cert.Kernel3.main_arg9))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
      ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8)
      ∧ r.2.mem ((c.tc : Thread Cert.Reference3Ideal.nD Cert.Reference3Ideal.τ).loc Cert.Reference3Ideal.main_arg9) = m ((c.tc : Thread Cert.Reference3Ideal.nD Cert.Reference3Ideal.τ).loc Cert.Reference3Ideal.main_arg9))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6))
      ∧ r.2.sem = fun _ => 0)

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)) →
    ∃ (v0 : (c : Dev Cert.Kernel2Ideal.nD) → Buf (Elt Ideal) ((c.tc : Thread Cert.Kernel2Ideal.nD Cert.Kernel2Ideal.τ).loc Cert.Kernel2Ideal.main_v6)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v6) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v28) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)
      ∧ m' ((c.tc : Thread Cert.Reference3Ideal.nD Cert.Reference3Ideal.τ).loc Cert.Reference3Ideal.main_arg9) = m ((c.tc : Thread Cert.Kernel3Ideal.nD Cert.Kernel3Ideal.τ).loc Cert.Kernel3Ideal.main_arg9)) →
    ∃ (v0 : (c : Dev Cert.Kernel3Ideal.nD) → Buf (Elt Ideal) ((c.tc : Thread Cert.Kernel3Ideal.nD Cert.Kernel3Ideal.τ).loc Cert.Kernel3Ideal.main_v11)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v11) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
          ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v74) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8)
          ∧ r.2.mem ((c.tc : Thread Cert.Reference3Ideal.nD Cert.Reference3Ideal.τ).loc Cert.Reference3Ideal.main_arg9) = m' ((c.tc : Thread Cert.Reference3Ideal.nD Cert.Reference3Ideal.τ).loc Cert.Reference3Ideal.main_arg9))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)) →
    ∃ (v0 : (c : Dev Cert.Kernel4Ideal.nD) → Buf (Elt Ideal) ((c.tc : Thread Cert.Kernel4Ideal.nD Cert.Kernel4Ideal.τ).loc Cert.Kernel4Ideal.main_v61_0)) (v1 : (c : Dev Cert.Kernel4Ideal.nD) → Buf (Elt Ideal) ((c.tc : Thread Cert.Kernel4Ideal.nD Cert.Kernel4Ideal.τ).loc Cert.Kernel4Ideal.main_v61_1)) (v2 : (c : Dev Cert.Kernel4Ideal.nD) → Buf (Elt Ideal) ((c.tc : Thread Cert.Kernel4Ideal.nD Cert.Kernel4Ideal.τ).loc Cert.Kernel4Ideal.main_v61_2)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v61_0) = v0 c
          ∧ r.2.mem ((c.tc : Thread Cert.Kernel4Ideal.nD Cert.Kernel4Ideal.τ).loc Cert.Kernel4Ideal.main_v61_1) = v1 c
          ∧ r.2.mem ((c.tc : Thread Cert.Kernel4Ideal.nD Cert.Kernel4Ideal.τ).loc Cert.Kernel4Ideal.main_v61_2) = v2 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v111) = v0 c
          ∧ r.2.mem ((c.tc : Thread Cert.Reference4Ideal.nD Cert.Reference4Ideal.τ).loc Cert.Reference4Ideal.main_v113) = v1 c
          ∧ r.2.mem ((c.tc : Thread Cert.Reference4Ideal.nD Cert.Reference4Ideal.τ).loc Cert.Reference4Ideal.main_v116) = v2 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6))

def Claim : Prop :=
  ∃ (hKernel : Cert.Kernel.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts),
    quiescent_Kernel (hKernel := hKernel)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
-- ==== Kernel.lean ====
abbrev S32768x4096 : Shape := ⟨2, ![32768, 4096]⟩
abbrev S32768x1792 : Shape := ⟨2, ![32768, 1792]⟩
abbrev S128x1152x256 : Shape := ⟨3, ![128, 1152, 256]⟩
abbrev S256x256 : Shape := ⟨2, ![256, 256]⟩
abbrev S4x2x256x256 : Shape := ⟨4, ![4, 2, 256, 256]⟩
abbrev S8x2x256x128 : Shape := ⟨4, ![8, 2, 256, 128]⟩
abbrev S8 : Shape := ⟨1, ![8]⟩
abbrev S4x64 : Shape := ⟨2, ![4, 64]⟩
abbrev S128 : Shape := ⟨1, ![128]⟩
abbrev S16x2048x4096 : Shape := ⟨3, ![16, 2048, 4096]⟩
abbrev S16x2048x1792 : Shape := ⟨3, ![16, 2048, 1792]⟩
abbrev S128x1 : Shape := ⟨2, ![128, 1]⟩
abbrev S16x2048x1536 : Shape := ⟨3, ![16, 2048, 1536]⟩
abbrev S1x256x512 : Shape := ⟨3, ![1, 256, 512]⟩
abbrev S1x2048x512 : Shape := ⟨3, ![1, 2048, 512]⟩
abbrev S1x2048x256 : Shape := ⟨3, ![1, 2048, 256]⟩
abbrev S8x512x256 : Shape := ⟨3, ![8, 512, 256]⟩
abbrev S8x128x256 : Shape := ⟨3, ![8, 128, 256]⟩
abbrev S1x256x1536 : Shape := ⟨3, ![1, 256, 1536]⟩
abbrev S512x256 : Shape := ⟨2, ![512, 256]⟩
abbrev S16x256x256 : Shape := ⟨3, ![16, 256, 256]⟩
abbrev S24x256x256 : Shape := ⟨3, ![24, 256, 256]⟩
abbrev S24x144x256 : Shape := ⟨3, ![24, 144, 256]⟩
abbrev S16x256x128 : Shape := ⟨3, ![16, 256, 128]⟩
abbrev S16x80x128 : Shape := ⟨3, ![16, 80, 128]⟩
abbrev S16x256 : Shape := ⟨2, ![16, 256]⟩
abbrev S256x512 : Shape := ⟨2, ![256, 512]⟩
abbrev S1x128 : Shape := ⟨2, ![1, 128]⟩
abbrev S256x128 : Shape := ⟨2, ![256, 128]⟩
abbrev S1x256 : Shape := ⟨2, ![1, 256]⟩
abbrev S1x512x256 : Shape := ⟨3, ![1, 512, 256]⟩
abbrev S1x256x256 : Shape := ⟨3, ![1, 256, 256]⟩
abbrev S1x128x256 : Shape := ⟨3, ![1, 128, 256]⟩
abbrev S128x256 : Shape := ⟨2, ![128, 256]⟩
abbrev S128x128 : Shape := ⟨2, ![128, 128]⟩
abbrev S128x512 : Shape := ⟨2, ![128, 512]⟩
abbrev S1x256x128 : Shape := ⟨3, ![1, 256, 128]⟩
abbrev S1x1x256x256 : Shape := ⟨4, ![1, 1, 256, 256]⟩
abbrev S256 : Shape := ⟨1, ![256]⟩
abbrev S1 : Shape := ⟨1, ![1]⟩
abbrev S1x1x256x128 : Shape := ⟨4, ![1, 1, 256, 128]⟩
abbrev S64x256 : Shape := ⟨2, ![64, 256]⟩
abbrev S80x256 : Shape := ⟨2, ![80, 256]⟩
abbrev S80x128 : Shape := ⟨2, ![80, 128]⟩
abbrev S1x80x128 : Shape := ⟨3, ![1, 80, 128]⟩
abbrev S144x256 : Shape := ⟨2, ![144, 256]⟩
abbrev S1x144x256 : Shape := ⟨3, ![1, 144, 256]⟩
abbrev S64x128 : Shape := ⟨2, ![64, 128]⟩
abbrev S512x128 : Shape := ⟨2, ![512, 128]⟩
abbrev S8x256 : Shape := ⟨2, ![8, 256]⟩
abbrev S1x8x256 : Shape := ⟨3, ![1, 8, 256]⟩
abbrev S1x1x1 : Shape := ⟨3, ![1, 1, 1]⟩
abbrev S1x512x512 : Shape := ⟨3, ![1, 512, 512]⟩
abbrev S512x512 : Shape := ⟨2, ![512, 512]⟩
abbrev S16x512 : Shape := ⟨2, ![16, 512]⟩
abbrev S2x256x256 : Shape := ⟨3, ![2, 256, 256]⟩
abbrev S144x512 : Shape := ⟨2, ![144, 512]⟩
abbrev S1x64 : Shape := ⟨2, ![1, 64]⟩
abbrev S1x1 : Shape := ⟨2, ![1, 1]⟩

abbrev nBuf : Space → Nat
  | .hbm => 13
  | .vmem => 33
  | .smem => 1
  | _ => 0

abbrev bufTy : (tb : Table) → Fin (tcTables nBuf tb) → BufTy
  | .hbm, ⟨0, _⟩ => ⟨S32768x4096, .bf16⟩
  | .hbm, ⟨1, _⟩ => ⟨S32768x1792, .bf16⟩
  | .hbm, ⟨2, _⟩ => ⟨S128x1152x256, .bf16⟩
  | .hbm, ⟨3, _⟩ => ⟨S256x256, .bf16⟩
  | .hbm, ⟨4, _⟩ => ⟨S4x2x256x256, .f32⟩
  | .hbm, ⟨5, _⟩ => ⟨S8x2x256x128, .f32⟩
  | .hbm, ⟨6, _⟩ => ⟨S8, .f32⟩
  | .hbm, ⟨7, _⟩ => ⟨S4x64, .f32⟩
  | .hbm, ⟨8, _⟩ => ⟨S128, .f32⟩
  | .hbm, ⟨9, _⟩ => ⟨S16x2048x4096, .bf16⟩
  | .hbm, ⟨10, _⟩ => ⟨S16x2048x1792, .bf16⟩
  | .hbm, ⟨11, _⟩ => ⟨S128x1, .f32⟩
  | .hbm, ⟨12, _⟩ => ⟨S16x2048x1536, .bf16⟩
  | .local _ .vmem, ⟨0, _⟩ => ⟨S1x256x512, .bf16⟩
  | .local _ .vmem, ⟨1, _⟩ => ⟨S1x256x512, .bf16⟩
  | .local _ .vmem, ⟨2, _⟩ => ⟨S1x2048x512, .bf16⟩
  | .local _ .vmem, ⟨3, _⟩ => ⟨S1x2048x512, .bf16⟩
  | .local _ .vmem, ⟨4, _⟩ => ⟨S1x256x512, .bf16⟩
  | .local _ .vmem, ⟨5, _⟩ => ⟨S1x256x512, .bf16⟩
  | .local _ .vmem, ⟨6, _⟩ => ⟨S1x2048x512, .bf16⟩
  | .local _ .vmem, ⟨7, _⟩ => ⟨S1x2048x512, .bf16⟩
  | .local _ .vmem, ⟨8, _⟩ => ⟨S1x256x512, .bf16⟩
  | .local _ .vmem, ⟨9, _⟩ => ⟨S1x256x512, .bf16⟩
  | .local _ .vmem, ⟨10, _⟩ => ⟨S1x2048x256, .bf16⟩
  | .local _ .vmem, ⟨11, _⟩ => ⟨S1x2048x256, .bf16⟩
  | .local _ .vmem, ⟨12, _⟩ => ⟨S8x512x256, .bf16⟩
  | .local _ .vmem, ⟨13, _⟩ => ⟨S8x512x256, .bf16⟩
  | .local _ .vmem, ⟨14, _⟩ => ⟨S8x512x256, .bf16⟩
  | .local _ .vmem, ⟨15, _⟩ => ⟨S8x512x256, .bf16⟩
  | .local _ .vmem, ⟨16, _⟩ => ⟨S8x128x256, .bf16⟩
  | .local _ .vmem, ⟨17, _⟩ => ⟨S8x128x256, .bf16⟩
  | .local _ .vmem, ⟨18, _⟩ => ⟨S256x256, .bf16⟩
  | .local _ .vmem, ⟨19, _⟩ => ⟨S4x2x256x256, .f32⟩
  | .local _ .vmem, ⟨20, _⟩ => ⟨S8x2x256x128, .f32⟩
  | .local _ .vmem, ⟨21, _⟩ => ⟨S4x64, .f32⟩
  | .local _ .vmem, ⟨22, _⟩ => ⟨S128x1, .f32⟩
  | .local _ .vmem, ⟨23, _⟩ => ⟨S1x256x1536, .bf16⟩
  | .local _ .vmem, ⟨24, _⟩ => ⟨S1x256x1536, .bf16⟩
  | .local _ .vmem, ⟨25, _⟩ => ⟨S512x256, .f32⟩
  | .local _ .vmem, ⟨26, _⟩ => ⟨S16x256x256, .f32⟩
  | .local _ .vmem, ⟨27, _⟩ => ⟨S16x256x256, .f32⟩
  | .local _ .vmem, ⟨28, _⟩ => ⟨S8x128x256, .f32⟩
  | .local _ .vmem, ⟨29, _⟩ => ⟨S24x256x256, .f32⟩
  | .local _ .vmem, ⟨30, _⟩ => ⟨S24x144x256, .f32⟩
  | .local _ .vmem, ⟨31, _⟩ => ⟨S16x256x128, .f32⟩
  | .local _ .vmem, ⟨32, _⟩ => ⟨S16x80x128, .f32⟩
  | .local _ .smem, ⟨0, _⟩ => ⟨S8, .f32⟩
  | _, _ => ⟨S32768x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .smem, ⟨0, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg11_0 : Ref sig .tc := ⟨.vmem, 19, rfl⟩
abbrev cc0_stg12_0 : Ref sig .tc := ⟨.vmem, 20, rfl⟩
abbrev cc0_stg13_0 : Ref sig .tc := ⟨.vmem, 21, rfl⟩
abbrev cc0_stg14_0 : Ref sig .tc := ⟨.vmem, 22, rfl⟩
abbrev cc0_stg15_0 : Ref sig .tc := ⟨.vmem, 23, rfl⟩
abbrev cc0_stg15_1 : Ref sig .tc := ⟨.vmem, 24, rfl⟩
abbrev cc0_scratch0 : Ref sig .tc := ⟨.vmem, 25, rfl⟩
abbrev cc0_scratch1 : Ref sig .tc := ⟨.vmem, 26, rfl⟩
abbrev cc0_scratch2 : Ref sig .tc := ⟨.vmem, 27, rfl⟩
abbrev cc0_scratch3 : Ref sig .tc := ⟨.vmem, 28, rfl⟩
abbrev cc0_scratch4 : Ref sig .tc := ⟨.vmem, 29, rfl⟩
abbrev cc0_scratch5 : Ref sig .tc := ⟨.vmem, 30, rfl⟩
abbrev cc0_scratch6 : Ref sig .tc := ⟨.vmem, 31, rfl⟩
abbrev cc0_scratch7 : Ref sig .tc := ⟨.vmem, 32, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem11_0 : DmaSem sig := 20
abbrev cc0_sem12_0 : DmaSem sig := 21
abbrev cc0_sem13_0 : DmaSem sig := 22
abbrev cc0_sem14_0 : DmaSem sig := 23
abbrev cc0_sem15_0 : DmaSem sig := 24
abbrev cc0_sem15_1 : DmaSem sig := 25

abbrev nD : Nat := 1
abbrev τ : Topo := Topo.v7x

variable {F : FTy → Type} [BitOps F]

abbrev grid0 : Pipeline.Grid := ⟨2, ![16, 8], ![false, false]⟩

def k0_cond1 (i : grid0.Coords) : BitVec 1 :=
  let arg1 : BitVec 32 := BitVec.ofNat 32 (i 1).val
  let c0_i32_21 : BitVec 32 := 0#32
  let v80 : BitVec 1 := Scalar.cmpi .eq arg1 c0_i32_21
  let c1_i32_23 : BitVec 32 := 1#32
  let c3_i32 : BitVec 32 := 3#32
  let c1_i32_22 : BitVec 32 := 1#32
  let v81 : BitVec 32 := Scalar.andi arg1 c1_i32_22
  let v82 : BitVec 32 := Scalar.subi c3_i32 v81
  let v83 : BitVec 32 := Scalar.select v80 c1_i32_23 v82
  let c1_i32_24 : BitVec 32 := 1#32
  let v84 : BitVec 32 := Scalar.subi v83 c1_i32_24
  let c0_i32_25 : BitVec 32 := 0#32
  let v85 : BitVec 32 := Scalar.maxsi v84 c0_i32_25
  let c2_i32 : BitVec 32 := 2#32
  let v86 : BitVec 32 := Scalar.minsi v85 c2_i32
  let c0_i32_26 : BitVec 32 := 0#32
  let v87 : BitVec 1 := Scalar.cmpi .ne v86 c0_i32_26
  v87

def k0_cond2 (i : grid0.Coords) : BitVec 1 :=
  let arg1 : BitVec 32 := BitVec.ofNat 32 (i 1).val
  let c0_i32_21 : BitVec 32 := 0#32
  let v80 : BitVec 1 := Scalar.cmpi .eq arg1 c0_i32_21
  let c1_i32_23 : BitVec 32 := 1#32
  let c3_i32 : BitVec 32 := 3#32
  let c1_i32_22 : BitVec 32 := 1#32
  let v81 : BitVec 32 := Scalar.andi arg1 c1_i32_22
  let v82 : BitVec 32 := Scalar.subi c3_i32 v81
  let v83 : BitVec 32 := Scalar.select v80 c1_i32_23 v82
  let c1_i32_24 : BitVec 32 := 1#32
  let v84 : BitVec 32 := Scalar.subi v83 c1_i32_24
  let c0_i32_25 : BitVec 32 := 0#32
  let v85 : BitVec 32 := Scalar.maxsi v84 c0_i32_25
  let c2_i32 : BitVec 32 := 2#32
  let v86 : BitVec 32 := Scalar.minsi v85 c2_i32
  let c1_i32_87 : BitVec 32 := 1#32
  let v237 : BitVec 32 := Scalar.subi v86 c1_i32_87
  let c0_i32_88 : BitVec 32 := 0#32
  let v238 : BitVec 1 := Scalar.cmpi .ne v237 c0_i32_88
  v238

def k0_mult1 (i : grid0.Coords) : BitVec 32 :=
  let arg1 : BitVec 32 := BitVec.ofNat 32 (i 1).val
  let c256_i32 : BitVec 32 := 256#32
  let v243 : BitVec 32 := Scalar.muli arg1 c256_i32
  v243
def k0_off1 (i : grid0.Coords) : Fin 3 → Nat :=
  let c0_92 : Index := 0#32
  let arg1 : BitVec 32 := BitVec.ofNat 32 (i 1).val
  let c256_i32 : BitVec 32 := 256#32
  let v243 : BitVec 32 := Scalar.muli arg1 c256_i32
  let v244 : BitVec 32 := v243
  let v245 : Index := Scalar.indexCast v244
  let c0_93 : Index := 0#32
  ![0, v245.toNat, 0]
def k0_off2 (i : grid0.Coords) : Fin 3 → Nat :=
  let arg1 : BitVec 32 := BitVec.ofNat 32 (i 1).val
  let v248 : Index := Scalar.indexCast arg1
  let c0_94 : Index := 0#32
  let c0_95 : Index := 0#32
  ![v248.toNat, 0, 0]
def k0_mult2 (i : grid0.Coords) : BitVec 32 :=
  let arg1 : BitVec 32 := BitVec.ofNat 32 (i 1).val
  let c1_i32_19 : BitVec 32 := 1#32
  let v78 : BitVec 32 := Scalar.subi arg1 c1_i32_19
  let c256_i32_96 : BitVec 32 := 256#32
  let v251 : BitVec 32 := Scalar.muli v78 c256_i32_96
  v251
def k0_off3 (i : grid0.Coords) (c1_i32_19 : BitVec 32) : Fin 3 → Nat :=
  let c0_97 : Index := 0#32
  let arg1 : BitVec 32 := BitVec.ofNat 32 (i 1).val
  let v78 : BitVec 32 := Scalar.subi arg1 c1_i32_19
  let c256_i32_96 : BitVec 32 := 256#32
  let v251 : BitVec 32 := Scalar.muli v78 c256_i32_96
  let v252 : BitVec 32 := v251
  let v253 : Index := Scalar.indexCast v252
  let c0_98 : Index := 0#32
  ![0, v253.toNat, 0]
def k0_off4 (i : grid0.Coords) (c1_i32_19 : BitVec 32) : Fin 3 → Nat :=
  let arg1 : BitVec 32 := BitVec.ofNat 32 (i 1).val
  let v78 : BitVec 32 := Scalar.subi arg1 c1_i32_19
  let v256 : Index := Scalar.indexCast v78
  let c0_99 : Index := 0#32
  let c0_100 : Index := 0#32
  ![v256.toNat, 0, 0]
def k0_mult3 (i : grid0.Coords) : BitVec 32 :=
  let arg1 : BitVec 32 := BitVec.ofNat 32 (i 1).val
  let c256_i32_101 : BitVec 32 := 256#32
  let v259 : BitVec 32 := Scalar.muli arg1 c256_i32_101
  v259
def k0_mult4 (i : grid0.Coords) : BitVec 32 :=
  let arg1 : BitVec 32 := BitVec.ofNat 32 (i 1).val
  let c1_i32_20 : BitVec 32 := 1#32
  let v79 : BitVec 32 := Scalar.subi arg1 c1_i32_20
  let c256_i32_106 : BitVec 32 := 256#32
  let v267 : BitVec 32 := Scalar.muli v79 c256_i32_106
  v267
def k0_mult5 (i : grid0.Coords) : BitVec 32 :=
  let arg1 : BitVec 32 := BitVec.ofNat 32 (i 1).val
  let c2_i32_89 : BitVec 32 := 2#32
  let v240 : BitVec 32 := Scalar.subi arg1 c2_i32_89
  let c256_i32_111 : BitVec 32 := 256#32
  let v275 : BitVec 32 := Scalar.muli v240 c256_i32_111
  v275
def k0_mult6 (i : grid0.Coords) : BitVec 32 :=
  let arg1 : BitVec 32 := BitVec.ofNat 32 (i 1).val
  let c256_i32_119 : BitVec 32 := 256#32
  let v285 : BitVec 32 := Scalar.muli arg1 c256_i32_119
  v285
def k0_off5 (i : grid0.Coords) : Fin 3 → Nat :=
  let c0_120 : Index := 0#32
  let arg1 : BitVec 32 := BitVec.ofNat 32 (i 1).val
  let c256_i32_119 : BitVec 32 := 256#32
  let v285 : BitVec 32 := Scalar.muli arg1 c256_i32_119
  let v286 : BitVec 32 := v285
  let v287 : Index := Scalar.indexCast v286
  let c0_121 : Index := 0#32
  ![0, v287.toNat, 0]
def k0_off6 (i : grid0.Coords) : Fin 3 → Nat :=
  let arg1 : BitVec 32 := BitVec.ofNat 32 (i 1).val
  let v290 : Index := Scalar.indexCast arg1
  let c0_122 : Index := 0#32
  let c0_123 : Index := 0#32
  ![v290.toNat, 0, 0]
def k0_mult7 (i : grid0.Coords) : BitVec 32 :=
  let arg1 : BitVec 32 := BitVec.ofNat 32 (i 1).val
  let c256_i32_124 : BitVec 32 := 256#32
  let v293 : BitVec 32 := Scalar.muli arg1 c256_i32_124
  let c128_i32 : BitVec 32 := 128#32
  let v294 : BitVec 32 := Scalar.subi v293 c128_i32
  let c0_i32_125 : BitVec 32 := 0#32
  let v295 : BitVec 32 := Scalar.maxsi v294 c0_i32_125
  v295
def k0_off7 (i : grid0.Coords) : Fin 3 → Nat :=
  let c0_126 : Index := 0#32
  let arg1 : BitVec 32 := BitVec.ofNat 32 (i 1).val
  let c256_i32_124 : BitVec 32 := 256#32
  let v293 : BitVec 32 := Scalar.muli arg1 c256_i32_124
  let c128_i32 : BitVec 32 := 128#32
  let v294 : BitVec 32 := Scalar.subi v293 c128_i32
  let c0_i32_125 : BitVec 32 := 0#32
  let v295 : BitVec 32 := Scalar.maxsi v294 c0_i32_125
  let v296 : BitVec 32 := v295
  let v297 : Index := Scalar.indexCast v296
  let c0_127 : Index := 0#32
  ![0, v297.toNat, 0]
def k0_off8 (i : grid0.Coords) : Fin 3 → Nat :=
  let arg1 : BitVec 32 := BitVec.ofNat 32 (i 1).val
  let c1_i32 : BitVec 32 := 1#32
  let v1 : BitVec 32 := Scalar.subi arg1 c1_i32
  let c0_i32_0 : BitVec 32 := 0#32
  let v2 : BitVec 32 := Scalar.maxsi v1 c0_i32_0
  let v300 : Index := Scalar.indexCast v2
  let c0_128 : Index := 0#32
  let c0_129 : Index := 0#32
  ![v300.toNat, 0, 0]
def k0_off9 (i : grid0.Coords) : Fin 4 → Nat :=
  let c0_188 : Index := 0#32
  let arg1 : BitVec 32 := BitVec.ofNat 32 (i 1).val
  let c0_i32 : BitVec 32 := 0#32
  let v0 : BitVec 1 := Scalar.cmpi .eq arg1 c0_i32
  let c1_i32_130 : BitVec 32 := 1#32
  let c0_i32_131 : BitVec 32 := 0#32
  let v307 : BitVec 32 := Scalar.select v0 c1_i32_130 c0_i32_131
  let v435 : Index := Scalar.indexCast v307
  let c0_189 : Index := 0#32
  let c0_190 : Index := 0#32
  ![0, v435.toNat, 0, 0]
def k0_off10 (i : grid0.Coords) : Fin 4 → Nat :=
  let c1_244 : Index := 1#32
  let arg1 : BitVec 32 := BitVec.ofNat 32 (i 1).val
  let c0_i32 : BitVec 32 := 0#32
  let v0 : BitVec 1 := Scalar.cmpi .eq arg1 c0_i32
  let c1_i32_130 : BitVec 32 := 1#32
  let c0_i32_131 : BitVec 32 := 0#32
  let v307 : BitVec 32 := Scalar.select v0 c1_i32_130 c0_i32_131
  let v530 : Index := Scalar.indexCast v307
  let c0_245 : Index := 0#32
  let c0_246 : Index := 0#32
  ![1, v530.toNat, 0, 0]
def k0_off11 (i : grid0.Coords) : Fin 4 → Nat :=
  let c2_308 : Index := 2#32
  let arg1 : BitVec 32 := BitVec.ofNat 32 (i 1).val
  let c0_i32 : BitVec 32 := 0#32
  let v0 : BitVec 1 := Scalar.cmpi .eq arg1 c0_i32
  let c1_i32_130 : BitVec 32 := 1#32
  let c0_i32_131 : BitVec 32 := 0#32
  let v307 : BitVec 32 := Scalar.select v0 c1_i32_130 c0_i32_131
  let v642 : Index := Scalar.indexCast v307
  let c0_309 : Index := 0#32
  let c0_310 : Index := 0#32
  ![2, v642.toNat, 0, 0]
def k0_off12 (i : grid0.Coords) : Fin 4 → Nat :=
  let c3_372 : Index := 3#32
  let arg1 : BitVec 32 := BitVec.ofNat 32 (i 1).val
  let c0_i32 : BitVec 32 := 0#32
  let v0 : BitVec 1 := Scalar.cmpi .eq arg1 c0_i32
  let c1_i32_130 : BitVec 32 := 1#32
  let c0_i32_131 : BitVec 32 := 0#32
  let v307 : BitVec 32 := Scalar.select v0 c1_i32_130 c0_i32_131
  let v754 : Index := Scalar.indexCast v307
  let c0_373 : Index := 0#32
  let c0_374 : Index := 0#32
  ![3, v754.toNat, 0, 0]
def k0_off13 (i : grid0.Coords) : Fin 4 → Nat :=
  let c4_436 : Index := 4#32
  let arg1 : BitVec 32 := BitVec.ofNat 32 (i 1).val
  let c0_i32 : BitVec 32 := 0#32
  let v0 : BitVec 1 := Scalar.cmpi .eq arg1 c0_i32
  let c1_i32_130 : BitVec 32 := 1#32
  let c0_i32_131 : BitVec 32 := 0#32
  let v307 : BitVec 32 := Scalar.select v0 c1_i32_130 c0_i32_131
  let v866 : Index := Scalar.indexCast v307
  let c0_437 : Index := 0#32
  let c0_438 : Index := 0#32
  ![4, v866.toNat, 0, 0]
def k0_off14 (i : grid0.Coords) : Fin 4 → Nat :=
  let c5_500 : Index := 5#32
  let arg1 : BitVec 32 := BitVec.ofNat 32 (i 1).val
  let c0_i32 : BitVec 32 := 0#32
  let v0 : BitVec 1 := Scalar.cmpi .eq arg1 c0_i32
  let c1_i32_130 : BitVec 32 := 1#32
  let c0_i32_131 : BitVec 32 := 0#32
  let v307 : BitVec 32 := Scalar.select v0 c1_i32_130 c0_i32_131
  let v978 : Index := Scalar.indexCast v307
  let c0_501 : Index := 0#32
  let c0_502 : Index := 0#32
  ![5, v978.toNat, 0, 0]
def k0_off15 (i : grid0.Coords) : Fin 4 → Nat :=
  let c6_564 : Index := 6#32
  let arg1 : BitVec 32 := BitVec.ofNat 32 (i 1).val
  let c0_i32 : BitVec 32 := 0#32
  let v0 : BitVec 1 := Scalar.cmpi .eq arg1 c0_i32
  let c1_i32_130 : BitVec 32 := 1#32
  let c0_i32_131 : BitVec 32 := 0#32
  let v307 : BitVec 32 := Scalar.select v0 c1_i32_130 c0_i32_131
  let v1090 : Index := Scalar.indexCast v307
  let c0_565 : Index := 0#32
  let c0_566 : Index := 0#32
  ![6, v1090.toNat, 0, 0]
def k0_off16 (i : grid0.Coords) : Fin 4 → Nat :=
  let c7_627 : Index := 7#32
  let arg1 : BitVec 32 := BitVec.ofNat 32 (i 1).val
  let c0_i32 : BitVec 32 := 0#32
  let v0 : BitVec 1 := Scalar.cmpi .eq arg1 c0_i32
  let c1_i32_130 : BitVec 32 := 1#32
  let c0_i32_131 : BitVec 32 := 0#32
  let v307 : BitVec 32 := Scalar.select v0 c1_i32_130 c0_i32_131
  let v1202 : Index := Scalar.indexCast v307
  let c0_628 : Index := 0#32
  let c0_629 : Index := 0#32
  ![7, v1202.toNat, 0, 0]
def k0_mult8 (i : grid0.Coords) : BitVec 32 :=
  let arg1 : BitVec 32 := BitVec.ofNat 32 (i 1).val
  let c256_i32 : BitVec 32 := 256#32
  let v242 : BitVec 32 := Scalar.muli arg1 c256_i32
  v242
def k0_off17 (i : grid0.Coords) : Fin 3 → Nat :=
  let c0_91 : Index := 0#32
  let arg1 : BitVec 32 := BitVec.ofNat 32 (i 1).val
  let c256_i32 : BitVec 32 := 256#32
  let v242 : BitVec 32 := Scalar.muli arg1 c256_i32
  let v243 : BitVec 32 := v242
  let v244 : Index := Scalar.indexCast v243
  let c0_92 : Index := 0#32
  ![0, v244.toNat, 0]
def k0_off18 (i : grid0.Coords) : Fin 3 → Nat :=
  let arg1 : BitVec 32 := BitVec.ofNat 32 (i 1).val
  let v247 : Index := Scalar.indexCast arg1
  let c0_93 : Index := 0#32
  let c0_94 : Index := 0#32
  ![v247.toNat, 0, 0]
def k0_mult9 (i : grid0.Coords) : BitVec 32 :=
  let arg1 : BitVec 32 := BitVec.ofNat 32 (i 1).val
  let c1_i32_19 : BitVec 32 := 1#32
  let v78 : BitVec 32 := Scalar.subi arg1 c1_i32_19
  let c256_i32_95 : BitVec 32 := 256#32
  let v250 : BitVec 32 := Scalar.muli v78 c256_i32_95
  v250
def k0_off19 (i : grid0.Coords) : Fin 3 → Nat :=
  let c0_96 : Index := 0#32
  let arg1 : BitVec 32 := BitVec.ofNat 32 (i 1).val
  let c1_i32_19 : BitVec 32 := 1#32
  let v78 : BitVec 32 := Scalar.subi arg1 c1_i32_19
  let c256_i32_95 : BitVec 32 := 256#32
  let v250 : BitVec 32 := Scalar.muli v78 c256_i32_95
  let v251 : BitVec 32 := v250
  let v252 : Index := Scalar.indexCast v251
  let c0_97 : Index := 0#32
  ![0, v252.toNat, 0]
def k0_off20 (i : grid0.Coords) : Fin 3 → Nat :=
  let arg1 : BitVec 32 := BitVec.ofNat 32 (i 1).val
  let c1_i32_19 : BitVec 32 := 1#32
  let v78 : BitVec 32 := Scalar.subi arg1 c1_i32_19
  let v255 : Index := Scalar.indexCast v78
  let c0_98 : Index := 0#32
  let c0_99 : Index := 0#32
  ![v255.toNat, 0, 0]
def k0_mult10 (i : grid0.Coords) : BitVec 32 :=
  let arg1 : BitVec 32 := BitVec.ofNat 32 (i 1).val
  let c256_i32_100 : BitVec 32 := 256#32
  let v258 : BitVec 32 := Scalar.muli arg1 c256_i32_100
  v258
def k0_mult11 (i : grid0.Coords) : BitVec 32 :=
  let arg1 : BitVec 32 := BitVec.ofNat 32 (i 1).val
  let c1_i32_20 : BitVec 32 := 1#32
  let v79 : BitVec 32 := Scalar.subi arg1 c1_i32_20
  let c256_i32_105 : BitVec 32 := 256#32
  let v266 : BitVec 32 := Scalar.muli v79 c256_i32_105
  v266
def k0_mult12 (i : grid0.Coords) : BitVec 32 :=
  let arg1 : BitVec 32 := BitVec.ofNat 32 (i 1).val
  let c256_i32_113 : BitVec 32 := 256#32
  let v276 : BitVec 32 := Scalar.muli arg1 c256_i32_113
  v276
def k0_off21 (i : grid0.Coords) : Fin 3 → Nat :=
  let c0_114 : Index := 0#32
  let arg1 : BitVec 32 := BitVec.ofNat 32 (i 1).val
  let c256_i32_113 : BitVec 32 := 256#32
  let v276 : BitVec 32 := Scalar.muli arg1 c256_i32_113
  let v277 : BitVec 32 := v276
  let v278 : Index := Scalar.indexCast v277
  let c0_115 : Index := 0#32
  ![0, v278.toNat, 0]
def k0_off22 (i : grid0.Coords) : Fin 3 → Nat :=
  let arg1 : BitVec 32 := BitVec.ofNat 32 (i 1).val
  let v281 : Index := Scalar.indexCast arg1
  let c0_116 : Index := 0#32
  let c0_117 : Index := 0#32
  ![v281.toNat, 0, 0]
def k0_mult13 (i : grid0.Coords) : BitVec 32 :=
  let arg1 : BitVec 32 := BitVec.ofNat 32 (i 1).val
  let c256_i32_118 : BitVec 32 := 256#32
  let v284 : BitVec 32 := Scalar.muli arg1 c256_i32_118
  let c128_i32 : BitVec 32 := 128#32
  let v285 : BitVec 32 := Scalar.subi v284 c128_i32
  let c0_i32_119 : BitVec 32 := 0#32
  let v286 : BitVec 32 := Scalar.maxsi v285 c0_i32_119
  v286
def k0_off23 (i : grid0.Coords) : Fin 3 → Nat :=
  let c0_120 : Index := 0#32
  let arg1 : BitVec 32 := BitVec.ofNat 32 (i 1).val
  let c256_i32_118 : BitVec 32 := 256#32
  let v284 : BitVec 32 := Scalar.muli arg1 c256_i32_118
  let c128_i32 : BitVec 32 := 128#32
  let v285 : BitVec 32 := Scalar.subi v284 c128_i32
  let c0_i32_119 : BitVec 32 := 0#32
  let v286 : BitVec 32 := Scalar.maxsi v285 c0_i32_119
  let v287 : BitVec 32 := v286
  let v288 : Index := Scalar.indexCast v287
  let c0_121 : Index := 0#32
  ![0, v288.toNat, 0]
def k0_off24 (i : grid0.Coords) : Fin 3 → Nat :=
  let arg1 : BitVec 32 := BitVec.ofNat 32 (i 1).val
  let c1_i32 : BitVec 32 := 1#32
  let v1 : BitVec 32 := Scalar.subi arg1 c1_i32
  let c0_i32_0 : BitVec 32 := 0#32
  let v2 : BitVec 32 := Scalar.maxsi v1 c0_i32_0
  let v291 : Index := Scalar.indexCast v2
  let c0_122 : Index := 0#32
  let c0_123 : Index := 0#32
  ![v291.toNat, 0, 0]
def k0_off25 (i : grid0.Coords) : Fin 4 → Nat :=
  let c0_182 : Index := 0#32
  let arg1 : BitVec 32 := BitVec.ofNat 32 (i 1).val
  let c0_i32 : BitVec 32 := 0#32
  let v0 : BitVec 1 := Scalar.cmpi .eq arg1 c0_i32
  let c1_i32_124 : BitVec 32 := 1#32
  let c0_i32_125 : BitVec 32 := 0#32
  let v298 : BitVec 32 := Scalar.select v0 c1_i32_124 c0_i32_125
  let v426 : Index := Scalar.indexCast v298
  let c0_183 : Index := 0#32
  let c0_184 : Index := 0#32
  ![0, v426.toNat, 0, 0]
def k0_off26 (i : grid0.Coords) : Fin 4 → Nat :=
  let c1_238 : Index := 1#32
  let arg1 : BitVec 32 := BitVec.ofNat 32 (i 1).val
  let c0_i32 : BitVec 32 := 0#32
  let v0 : BitVec 1 := Scalar.cmpi .eq arg1 c0_i32
  let c1_i32_124 : BitVec 32 := 1#32
  let c0_i32_125 : BitVec 32 := 0#32
  let v298 : BitVec 32 := Scalar.select v0 c1_i32_124 c0_i32_125
  let v521 : Index := Scalar.indexCast v298
  let c0_239 : Index := 0#32
  let c0_240 : Index := 0#32
  ![1, v521.toNat, 0, 0]
def k0_off27 (i : grid0.Coords) : Fin 4 → Nat :=
  let c2_302 : Index := 2#32
  let arg1 : BitVec 32 := BitVec.ofNat 32 (i 1).val
  let c0_i32 : BitVec 32 := 0#32
  let v0 : BitVec 1 := Scalar.cmpi .eq arg1 c0_i32
  let c1_i32_124 : BitVec 32 := 1#32
  let c0_i32_125 : BitVec 32 := 0#32
  let v298 : BitVec 32 := Scalar.select v0 c1_i32_124 c0_i32_125
  let v633 : Index := Scalar.indexCast v298
  let c0_303 : Index := 0#32
  let c0_304 : Index := 0#32
  ![2, v633.toNat, 0, 0]
def k0_off28 (i : grid0.Coords) : Fin 4 → Nat :=
  let c3_366 : Index := 3#32
  let arg1 : BitVec 32 := BitVec.ofNat 32 (i 1).val
  let c0_i32 : BitVec 32 := 0#32
  let v0 : BitVec 1 := Scalar.cmpi .eq arg1 c0_i32
  let c1_i32_124 : BitVec 32 := 1#32
  let c0_i32_125 : BitVec 32 := 0#32
  let v298 : BitVec 32 := Scalar.select v0 c1_i32_124 c0_i32_125
  let v745 : Index := Scalar.indexCast v298
  let c0_367 : Index := 0#32
  let c0_368 : Index := 0#32
  ![3, v745.toNat, 0, 0]
def k0_off29 (i : grid0.Coords) : Fin 4 → Nat :=
  let c4_430 : Index := 4#32
  let arg1 : BitVec 32 := BitVec.ofNat 32 (i 1).val
  let c0_i32 : BitVec 32 := 0#32
  let v0 : BitVec 1 := Scalar.cmpi .eq arg1 c0_i32
  let c1_i32_124 : BitVec 32 := 1#32
  let c0_i32_125 : BitVec 32 := 0#32
  let v298 : BitVec 32 := Scalar.select v0 c1_i32_124 c0_i32_125
  let v857 : Index := Scalar.indexCast v298
  let c0_431 : Index := 0#32
  let c0_432 : Index := 0#32
  ![4, v857.toNat, 0, 0]
def k0_off30 (i : grid0.Coords) : Fin 4 → Nat :=
  let c5_494 : Index := 5#32
  let arg1 : BitVec 32 := BitVec.ofNat 32 (i 1).val
  let c0_i32 : BitVec 32 := 0#32
  let v0 : BitVec 1 := Scalar.cmpi .eq arg1 c0_i32
  let c1_i32_124 : BitVec 32 := 1#32
  let c0_i32_125 : BitVec 32 := 0#32
  let v298 : BitVec 32 := Scalar.select v0 c1_i32_124 c0_i32_125
  let v969 : Index := Scalar.indexCast v298
  let c0_495 : Index := 0#32
  let c0_496 : Index := 0#32
  ![5, v969.toNat, 0, 0]
def k0_off31 (i : grid0.Coords) : Fin 4 → Nat :=
  let c6_558 : Index := 6#32
  let arg1 : BitVec 32 := BitVec.ofNat 32 (i 1).val
  let c0_i32 : BitVec 32 := 0#32
  let v0 : BitVec 1 := Scalar.cmpi .eq arg1 c0_i32
  let c1_i32_124 : BitVec 32 := 1#32
  let c0_i32_125 : BitVec 32 := 0#32
  let v298 : BitVec 32 := Scalar.select v0 c1_i32_124 c0_i32_125
  let v1081 : Index := Scalar.indexCast v298
  let c0_559 : Index := 0#32
  let c0_560 : Index := 0#32
  ![6, v1081.toNat, 0, 0]
def k0_off32 (i : grid0.Coords) : Fin 4 → Nat :=
  let c7_621 : Index := 7#32
  let arg1 : BitVec 32 := BitVec.ofNat 32 (i 1).val
  let c0_i32 : BitVec 32 := 0#32
  let v0 : BitVec 1 := Scalar.cmpi .eq arg1 c0_i32
  let c1_i32_124 : BitVec 32 := 1#32
  let c0_i32_125 : BitVec 32 := 0#32
  let v298 : BitVec 32 := Scalar.select v0 c1_i32_124 c0_i32_125
  let v1193 : Index := Scalar.indexCast v298
  let c0_622 : Index := 0#32
  let c0_623 : Index := 0#32
  ![7, v1193.toNat, 0, 0]
def k0_mult14 (i : grid0.Coords) : BitVec 32 :=
  let arg1 : BitVec 32 := BitVec.ofNat 32 (i 1).val
  let c256_i32 : BitVec 32 := 256#32
  let v239 : BitVec 32 := Scalar.muli arg1 c256_i32
  v239
def k0_off33 (i : grid0.Coords) : Fin 3 → Nat :=
  let c0_89 : Index := 0#32
  let arg1 : BitVec 32 := BitVec.ofNat 32 (i 1).val
  let c256_i32 : BitVec 32 := 256#32
  let v239 : BitVec 32 := Scalar.muli arg1 c256_i32
  let v240 : BitVec 32 := v239
  let v241 : Index := Scalar.indexCast v240
  let c0_90 : Index := 0#32
  ![0, v241.toNat, 0]
def k0_off34 (i : grid0.Coords) : Fin 3 → Nat :=
  let arg1 : BitVec 32 := BitVec.ofNat 32 (i 1).val
  let v244 : Index := Scalar.indexCast arg1
  let c0_91 : Index := 0#32
  let c0_92 : Index := 0#32
  ![v244.toNat, 0, 0]
def k0_mult15 (i : grid0.Coords) : BitVec 32 :=
  let arg1 : BitVec 32 := BitVec.ofNat 32 (i 1).val
  let c256_i32_93 : BitVec 32 := 256#32
  let v247 : BitVec 32 := Scalar.muli arg1 c256_i32_93
  v247
def k0_mult16 (i : grid0.Coords) : BitVec 32 :=
  let arg1 : BitVec 32 := BitVec.ofNat 32 (i 1).val
  let c256_i32_101 : BitVec 32 := 256#32
  let v257 : BitVec 32 := Scalar.muli arg1 c256_i32_101
  v257
def k0_off35 (i : grid0.Coords) : Fin 3 → Nat :=
  let c0_102 : Index := 0#32
  let arg1 : BitVec 32 := BitVec.ofNat 32 (i 1).val
  let c256_i32_101 : BitVec 32 := 256#32
  let v257 : BitVec 32 := Scalar.muli arg1 c256_i32_101
  let v258 : BitVec 32 := v257
  let v259 : Index := Scalar.indexCast v258
  let c0_103 : Index := 0#32
  ![0, v259.toNat, 0]
def k0_off36 (i : grid0.Coords) : Fin 3 → Nat :=
  let arg1 : BitVec 32 := BitVec.ofNat 32 (i 1).val
  let v262 : Index := Scalar.indexCast arg1
  let c0_104 : Index := 0#32
  let c0_105 : Index := 0#32
  ![v262.toNat, 0, 0]
def k0_mult17 (i : grid0.Coords) : BitVec 32 :=
  let arg1 : BitVec 32 := BitVec.ofNat 32 (i 1).val
  let c256_i32_106 : BitVec 32 := 256#32
  let v265 : BitVec 32 := Scalar.muli arg1 c256_i32_106
  let c128_i32 : BitVec 32 := 128#32
  let v266 : BitVec 32 := Scalar.subi v265 c128_i32
  let c0_i32_107 : BitVec 32 := 0#32
  let v267 : BitVec 32 := Scalar.maxsi v266 c0_i32_107
  v267
def k0_off37 (i : grid0.Coords) : Fin 3 → Nat :=
  let c0_108 : Index := 0#32
  let arg1 : BitVec 32 := BitVec.ofNat 32 (i 1).val
  let c256_i32_106 : BitVec 32 := 256#32
  let v265 : BitVec 32 := Scalar.muli arg1 c256_i32_106
  let c128_i32 : BitVec 32 := 128#32
  let v266 : BitVec 32 := Scalar.subi v265 c128_i32
  let c0_i32_107 : BitVec 32 := 0#32
  let v267 : BitVec 32 := Scalar.maxsi v266 c0_i32_107
  let v268 : BitVec 32 := v267
  let v269 : Index := Scalar.indexCast v268
  let c0_109 : Index := 0#32
  ![0, v269.toNat, 0]
def k0_off38 (i : grid0.Coords) : Fin 3 → Nat :=
  let arg1 : BitVec 32 := BitVec.ofNat 32 (i 1).val
  let c1_i32 : BitVec 32 := 1#32
  let v1 : BitVec 32 := Scalar.subi arg1 c1_i32
  let c0_i32_0 : BitVec 32 := 0#32
  let v2 : BitVec 32 := Scalar.maxsi v1 c0_i32_0
  let v272 : Index := Scalar.indexCast v2
  let c0_110 : Index := 0#32
  let c0_111 : Index := 0#32
  ![v272.toNat, 0, 0]
def k0_off39 (i : grid0.Coords) : Fin 4 → Nat :=
  let c0_170 : Index := 0#32
  let arg1 : BitVec 32 := BitVec.ofNat 32 (i 1).val
  let c0_i32 : BitVec 32 := 0#32
  let v0 : BitVec 1 := Scalar.cmpi .eq arg1 c0_i32
  let c1_i32_112 : BitVec 32 := 1#32
  let c0_i32_113 : BitVec 32 := 0#32
  let v279 : BitVec 32 := Scalar.select v0 c1_i32_112 c0_i32_113
  let v407 : Index := Scalar.indexCast v279
  let c0_171 : Index := 0#32
  let c0_172 : Index := 0#32
  ![0, v407.toNat, 0, 0]
def k0_off40 (i : grid0.Coords) : Fin 4 → Nat :=
  let c1_226 : Index := 1#32
  let arg1 : BitVec 32 := BitVec.ofNat 32 (i 1).val
  let c0_i32 : BitVec 32 := 0#32
  let v0 : BitVec 1 := Scalar.cmpi .eq arg1 c0_i32
  let c1_i32_112 : BitVec 32 := 1#32
  let c0_i32_113 : BitVec 32 := 0#32
  let v279 : BitVec 32 := Scalar.select v0 c1_i32_112 c0_i32_113
  let v502 : Index := Scalar.indexCast v279
  let c0_227 : Index := 0#32
  let c0_228 : Index := 0#32
  ![1, v502.toNat, 0, 0]
def k0_off41 (i : grid0.Coords) : Fin 4 → Nat :=
  let c2_290 : Index := 2#32
  let arg1 : BitVec 32 := BitVec.ofNat 32 (i 1).val
  let c0_i32 : BitVec 32 := 0#32
  let v0 : BitVec 1 := Scalar.cmpi .eq arg1 c0_i32
  let c1_i32_112 : BitVec 32 := 1#32
  let c0_i32_113 : BitVec 32 := 0#32
  let v279 : BitVec 32 := Scalar.select v0 c1_i32_112 c0_i32_113
  let v614 : Index := Scalar.indexCast v279
  let c0_291 : Index := 0#32
  let c0_292 : Index := 0#32
  ![2, v614.toNat, 0, 0]
def k0_off42 (i : grid0.Coords) : Fin 4 → Nat :=
  let c3_354 : Index := 3#32
  let arg1 : BitVec 32 := BitVec.ofNat 32 (i 1).val
  let c0_i32 : BitVec 32 := 0#32
  let v0 : BitVec 1 := Scalar.cmpi .eq arg1 c0_i32
  let c1_i32_112 : BitVec 32 := 1#32
  let c0_i32_113 : BitVec 32 := 0#32
  let v279 : BitVec 32 := Scalar.select v0 c1_i32_112 c0_i32_113
  let v726 : Index := Scalar.indexCast v279
  let c0_355 : Index := 0#32
  let c0_356 : Index := 0#32
  ![3, v726.toNat, 0, 0]
def k0_off43 (i : grid0.Coords) : Fin 4 → Nat :=
  let c4_418 : Index := 4#32
  let arg1 : BitVec 32 := BitVec.ofNat 32 (i 1).val
  let c0_i32 : BitVec 32 := 0#32
  let v0 : BitVec 1 := Scalar.cmpi .eq arg1 c0_i32
  let c1_i32_112 : BitVec 32 := 1#32
  let c0_i32_113 : BitVec 32 := 0#32
  let v279 : BitVec 32 := Scalar.select v0 c1_i32_112 c0_i32_113
  let v838 : Index := Scalar.indexCast v279
  let c0_419 : Index := 0#32
  let c0_420 : Index := 0#32
  ![4, v838.toNat, 0, 0]
def k0_off44 (i : grid0.Coords) : Fin 4 → Nat :=
  let c5_482 : Index := 5#32
  let arg1 : BitVec 32 := BitVec.ofNat 32 (i 1).val
  let c0_i32 : BitVec 32 := 0#32
  let v0 : BitVec 1 := Scalar.cmpi .eq arg1 c0_i32
  let c1_i32_112 : BitVec 32 := 1#32
  let c0_i32_113 : BitVec 32 := 0#32
  let v279 : BitVec 32 := Scalar.select v0 c1_i32_112 c0_i32_113
  let v950 : Index := Scalar.indexCast v279
  let c0_483 : Index := 0#32
  let c0_484 : Index := 0#32
  ![5, v950.toNat, 0, 0]
def k0_off45 (i : grid0.Coords) : Fin 4 → Nat :=
  let c6_546 : Index := 6#32
  let arg1 : BitVec 32 := BitVec.ofNat 32 (i 1).val
  let c0_i32 : BitVec 32 := 0#32
  let v0 : BitVec 1 := Scalar.cmpi .eq arg1 c0_i32
  let c1_i32_112 : BitVec 32 := 1#32
  let c0_i32_113 : BitVec 32 := 0#32
  let v279 : BitVec 32 := Scalar.select v0 c1_i32_112 c0_i32_113
  let v1062 : Index := Scalar.indexCast v279
  let c0_547 : Index := 0#32
  let c0_548 : Index := 0#32
  ![6, v1062.toNat, 0, 0]
def k0_off46 (i : grid0.Coords) : Fin 4 → Nat :=
  let c7_608 : Index := 7#32
  let arg1 : BitVec 32 := BitVec.ofNat 32 (i 1).val
  let c0_i32 : BitVec 32 := 0#32
  let v0 : BitVec 1 := Scalar.cmpi .eq arg1 c0_i32
  let c1_i32_112 : BitVec 32 := 1#32
  let c0_i32_113 : BitVec 32 := 0#32
  let v279 : BitVec 32 := Scalar.select v0 c1_i32_112 c0_i32_113
  let v1174 : Index := Scalar.indexCast v279
  let c0_609 : Index := 0#32
  let c0_610 : Index := 0#32
  ![7, v1174.toNat, 0, 0]
@[reducible] def k0_t1_loop (i : grid0.Coords) : Scf.Loop 32 :=
  let c0_i32_29 : BitVec 32 := 0#32
  let arg1 : BitVec 32 := BitVec.ofNat 32 (i 1).val
  let c1_i32_27 : BitVec 32 := 1#32
  let v89 : BitVec 32 := Scalar.addi arg1 c1_i32_27
  let c0_i32_21 : BitVec 32 := 0#32
  let v80 : BitVec 1 := Scalar.cmpi .eq arg1 c0_i32_21
  let c1_i32_23 : BitVec 32 := 1#32
  let c3_i32 : BitVec 32 := 3#32
  let c1_i32_22 : BitVec 32 := 1#32
  let v81 : BitVec 32 := Scalar.andi arg1 c1_i32_22
  let v82 : BitVec 32 := Scalar.subi c3_i32 v81
  let v83 : BitVec 32 := Scalar.select v80 c1_i32_23 v82
  let v90 : BitVec 32 := Scalar.subi v89 v83
  let c1_i32_28 : BitVec 32 := 1#32
  let v91 : BitVec 32 := Scalar.shrui v90 c1_i32_28
  let v92 : BitVec 32 := Scalar.subi v91 c0_i32_29
  let c1_i32_30 : BitVec 32 := 1#32
  let v94 : BitVec 32 := Scalar.divsi v92 c1_i32_30
  let v95 : BitVec 32 := Scalar.muli v94 c1_i32_30
  let v96 : BitVec 32 := Scalar.addi c0_i32_29 v95
  let c1_i32_31 : BitVec 32 := 1#32
  ⟨c0_i32_29, v96, c1_i32_31⟩
def k0_mult18 (i : grid0.Coords) (k0_t1 : Fin (k0_t1_loop i).trips) : BitVec 32 :=
  let arg1 : BitVec 32 := BitVec.ofNat 32 (i 1).val
  let c0_i32_21 : BitVec 32 := 0#32
  let v80 : BitVec 1 := Scalar.cmpi .eq arg1 c0_i32_21
  let c1_i32_23 : BitVec 32 := 1#32
  let c3_i32 : BitVec 32 := 3#32
  let c1_i32_22 : BitVec 32 := 1#32
  let v81 : BitVec 32 := Scalar.andi arg1 c1_i32_22
  let v82 : BitVec 32 := Scalar.subi c3_i32 v81
  let v83 : BitVec 32 := Scalar.select v80 c1_i32_23 v82
  let v237 : BitVec 32 := Scalar.subi arg1 v83
  let c1_i32_87 : BitVec 32 := 1#32
  let v238 : BitVec 32 := Scalar.subi v237 c1_i32_87
  let c2_i32_88 : BitVec 32 := 2#32
  let c0_i32_29 : BitVec 32 := 0#32
  let c1_i32_31 : BitVec 32 := 1#32
  let arg26 : BitVec 32 := Scf.iv c0_i32_29 c1_i32_31 k0_t1
  let v239 : BitVec 32 := Scalar.muli c2_i32_88 arg26
  let v240 : BitVec 32 := Scalar.subi v238 v239
  let c256_i32 : BitVec 32 := 256#32
  let v241 : BitVec 32 := Scalar.muli v240 c256_i32
  v241
def k0_off47 (i : grid0.Coords) (k0_t1 : Fin (k0_t1_loop i).trips) : Fin 3 → Nat :=
  let c0_89 : Index := 0#32
  let arg1 : BitVec 32 := BitVec.ofNat 32 (i 1).val
  let c0_i32_21 : BitVec 32 := 0#32
  let v80 : BitVec 1 := Scalar.cmpi .eq arg1 c0_i32_21
  let c1_i32_23 : BitVec 32 := 1#32
  let c3_i32 : BitVec 32 := 3#32
  let c1_i32_22 : BitVec 32 := 1#32
  let v81 : BitVec 32 := Scalar.andi arg1 c1_i32_22
  let v82 : BitVec 32 := Scalar.subi c3_i32 v81
  let v83 : BitVec 32 := Scalar.select v80 c1_i32_23 v82
  let v237 : BitVec 32 := Scalar.subi arg1 v83
  let c1_i32_87 : BitVec 32 := 1#32
  let v238 : BitVec 32 := Scalar.subi v237 c1_i32_87
  let c2_i32_88 : BitVec 32 := 2#32
  let c0_i32_29 : BitVec 32 := 0#32
  let c1_i32_31 : BitVec 32 := 1#32
  let arg26 : BitVec 32 := Scf.iv c0_i32_29 c1_i32_31 k0_t1
  let v239 : BitVec 32 := Scalar.muli c2_i32_88 arg26
  let v240 : BitVec 32 := Scalar.subi v238 v239
  let c256_i32 : BitVec 32 := 256#32
  let v241 : BitVec 32 := Scalar.muli v240 c256_i32
  let v242 : BitVec 32 := v241
  let v243 : Index := Scalar.indexCast v242
  let c0_90 : Index := 0#32
  ![0, v243.toNat, 0]
def k0_off48 (i : grid0.Coords) (k0_t1 : Fin (k0_t1_loop i).trips) : Fin 3 → Nat :=
  let arg1 : BitVec 32 := BitVec.ofNat 32 (i 1).val
  let c0_i32_21 : BitVec 32 := 0#32
  let v80 : BitVec 1 := Scalar.cmpi .eq arg1 c0_i32_21
  let c1_i32_23 : BitVec 32 := 1#32
  let c3_i32 : BitVec 32 := 3#32
  let c1_i32_22 : BitVec 32 := 1#32
  let v81 : BitVec 32 := Scalar.andi arg1 c1_i32_22
  let v82 : BitVec 32 := Scalar.subi c3_i32 v81
  let v83 : BitVec 32 := Scalar.select v80 c1_i32_23 v82
  let v237 : BitVec 32 := Scalar.subi arg1 v83
  let c1_i32_87 : BitVec 32 := 1#32
  let v238 : BitVec 32 := Scalar.subi v237 c1_i32_87
  let c2_i32_88 : BitVec 32 := 2#32
  let c0_i32_29 : BitVec 32 := 0#32
  let c1_i32_31 : BitVec 32 := 1#32
  let arg26 : BitVec 32 := Scf.iv c0_i32_29 c1_i32_31 k0_t1
  let v239 : BitVec 32 := Scalar.muli c2_i32_88 arg26
  let v240 : BitVec 32 := Scalar.subi v238 v239
  let v246 : Index := Scalar.indexCast v240
  let c0_91 : Index := 0#32
  let c0_92 : Index := 0#32
  ![v246.toNat, 0, 0]
def k0_off49 (i : grid0.Coords) (k0_t1 : Fin (k0_t1_loop i).trips) : Fin 3 → Nat :=
  let arg1 : BitVec 32 := BitVec.ofNat 32 (i 1).val
  let c0_i32_21 : BitVec 32 := 0#32
  let v80 : BitVec 1 := Scalar.cmpi .eq arg1 c0_i32_21
  let c1_i32_23 : BitVec 32 := 1#32
  let c3_i32 : BitVec 32 := 3#32
  let c1_i32_22 : BitVec 32 := 1#32
  let v81 : BitVec 32 := Scalar.andi arg1 c1_i32_22
  let v82 : BitVec 32 := Scalar.subi c3_i32 v81
  let v83 : BitVec 32 := Scalar.select v80 c1_i32_23 v82
  let v237 : BitVec 32 := Scalar.subi arg1 v83
  let c1_i32_87 : BitVec 32 := 1#32
  let v238 : BitVec 32 := Scalar.subi v237 c1_i32_87
  let c2_i32_88 : BitVec 32 := 2#32
  let c0_i32_29 : BitVec 32 := 0#32
  let c1_i32_31 : BitVec 32 := 1#32
  let arg26 : BitVec 32 := Scf.iv c0_i32_29 c1_i32_31 k0_t1
  let v239 : BitVec 32 := Scalar.muli c2_i32_88 arg26
  let v240 : BitVec 32 := Scalar.subi v238 v239
  let c1_i32_93 : BitVec 32 := 1#32
  let v249 : BitVec 32 := Scalar.addi v240 c1_i32_93
  let v250 : Index := Scalar.indexCast v249
  let c0_94 : Index := 0#32
  let c0_95 : Index := 0#32
  ![v250.toNat, 0, 0]
@[reducible] def k0_t2_loop (i : grid0.Coords) : Scf.Loop 32 :=
  let c0_i32_29 : BitVec 32 := 0#32
  let arg1 : BitVec 32 := BitVec.ofNat 32 (i 1).val
  let c1_i32_27 : BitVec 32 := 1#32
  let v89 : BitVec 32 := Scalar.addi arg1 c1_i32_27
  let c0_i32_21 : BitVec 32 := 0#32
  let v80 : BitVec 1 := Scalar.cmpi .eq arg1 c0_i32_21
  let c1_i32_23 : BitVec 32 := 1#32
  let c3_i32 : BitVec 32 := 3#32
  let c1_i32_22 : BitVec 32 := 1#32
  let v81 : BitVec 32 := Scalar.andi arg1 c1_i32_22
  let v82 : BitVec 32 := Scalar.subi c3_i32 v81
  let v83 : BitVec 32 := Scalar.select v80 c1_i32_23 v82
  let v90 : BitVec 32 := Scalar.subi v89 v83
  let c1_i32_28 : BitVec 32 := 1#32
  let v91 : BitVec 32 := Scalar.shrui v90 c1_i32_28
  let v92 : BitVec 32 := Scalar.subi v91 c0_i32_29
  let c1_i32_30 : BitVec 32 := 1#32
  let v94 : BitVec 32 := Scalar.divsi v92 c1_i32_30
  let v95 : BitVec 32 := Scalar.muli v94 c1_i32_30
  let v96 : BitVec 32 := Scalar.addi c0_i32_29 v95
  let v93 : BitVec 32 := Scalar.addi c0_i32_29 v92
  let c1_i32_32 : BitVec 32 := 1#32
  ⟨v96, v93, c1_i32_32⟩
def k0_mult19 (i : grid0.Coords) (k0_t2 : Fin (k0_t2_loop i).trips) : BitVec 32 :=
  let arg1 : BitVec 32 := BitVec.ofNat 32 (i 1).val
  let c0_i32_21 : BitVec 32 := 0#32
  let v80 : BitVec 1 := Scalar.cmpi .eq arg1 c0_i32_21
  let c1_i32_23 : BitVec 32 := 1#32
  let c3_i32 : BitVec 32 := 3#32
  let c1_i32_22 : BitVec 32 := 1#32
  let v81 : BitVec 32 := Scalar.andi arg1 c1_i32_22
  let v82 : BitVec 32 := Scalar.subi c3_i32 v81
  let v83 : BitVec 32 := Scalar.select v80 c1_i32_23 v82
  let v237 : BitVec 32 := Scalar.subi arg1 v83
  let c1_i32_87 : BitVec 32 := 1#32
  let v238 : BitVec 32 := Scalar.subi v237 c1_i32_87
  let c2_i32_88 : BitVec 32 := 2#32
  let c0_i32_29 : BitVec 32 := 0#32
  let c1_i32_27 : BitVec 32 := 1#32
  let v89 : BitVec 32 := Scalar.addi arg1 c1_i32_27
  let v90 : BitVec 32 := Scalar.subi v89 v83
  let c1_i32_28 : BitVec 32 := 1#32
  let v91 : BitVec 32 := Scalar.shrui v90 c1_i32_28
  let v92 : BitVec 32 := Scalar.subi v91 c0_i32_29
  let c1_i32_30 : BitVec 32 := 1#32
  let v94 : BitVec 32 := Scalar.divsi v92 c1_i32_30
  let v95 : BitVec 32 := Scalar.muli v94 c1_i32_30
  let v96 : BitVec 32 := Scalar.addi c0_i32_29 v95
  let c1_i32_32 : BitVec 32 := 1#32
  let arg26 : BitVec 32 := Scf.iv v96 c1_i32_32 k0_t2
  let v239 : BitVec 32 := Scalar.muli c2_i32_88 arg26
  let v240 : BitVec 32 := Scalar.subi v238 v239
  let c256_i32 : BitVec 32 := 256#32
  let v241 : BitVec 32 := Scalar.muli v240 c256_i32
  v241
def k0_off50 (i : grid0.Coords) (k0_t2 : Fin (k0_t2_loop i).trips) : Fin 3 → Nat :=
  let c0_89 : Index := 0#32
  let arg1 : BitVec 32 := BitVec.ofNat 32 (i 1).val
  let c0_i32_21 : BitVec 32 := 0#32
  let v80 : BitVec 1 := Scalar.cmpi .eq arg1 c0_i32_21
  let c1_i32_23 : BitVec 32 := 1#32
  let c3_i32 : BitVec 32 := 3#32
  let c1_i32_22 : BitVec 32 := 1#32
  let v81 : BitVec 32 := Scalar.andi arg1 c1_i32_22
  let v82 : BitVec 32 := Scalar.subi c3_i32 v81
  let v83 : BitVec 32 := Scalar.select v80 c1_i32_23 v82
  let v237 : BitVec 32 := Scalar.subi arg1 v83
  let c1_i32_87 : BitVec 32 := 1#32
  let v238 : BitVec 32 := Scalar.subi v237 c1_i32_87
  let c2_i32_88 : BitVec 32 := 2#32
  let c0_i32_29 : BitVec 32 := 0#32
  let c1_i32_27 : BitVec 32 := 1#32
  let v89 : BitVec 32 := Scalar.addi arg1 c1_i32_27
  let v90 : BitVec 32 := Scalar.subi v89 v83
  let c1_i32_28 : BitVec 32 := 1#32
  let v91 : BitVec 32 := Scalar.shrui v90 c1_i32_28
  let v92 : BitVec 32 := Scalar.subi v91 c0_i32_29
  let c1_i32_30 : BitVec 32 := 1#32
  let v94 : BitVec 32 := Scalar.divsi v92 c1_i32_30
  let v95 : BitVec 32 := Scalar.muli v94 c1_i32_30
  let v96 : BitVec 32 := Scalar.addi c0_i32_29 v95
  let c1_i32_32 : BitVec 32 := 1#32
  let arg26 : BitVec 32 := Scf.iv v96 c1_i32_32 k0_t2
  let v239 : BitVec 32 := Scalar.muli c2_i32_88 arg26
  let v240 : BitVec 32 := Scalar.subi v238 v239
  let c256_i32 : BitVec 32 := 256#32
  let v241 : BitVec 32 := Scalar.muli v240 c256_i32
  let v242 : BitVec 32 := v241
  let v243 : Index := Scalar.indexCast v242
  let c0_90 : Index := 0#32
  ![0, v243.toNat, 0]
def k0_off51 (i : grid0.Coords) (k0_t2 : Fin (k0_t2_loop i).trips) : Fin 3 → Nat :=
  let arg1 : BitVec 32 := BitVec.ofNat 32 (i 1).val
  let c0_i32_21 : BitVec 32 := 0#32
  let v80 : BitVec 1 := Scalar.cmpi .eq arg1 c0_i32_21
  let c1_i32_23 : BitVec 32 := 1#32
  let c3_i32 : BitVec 32 := 3#32
  let c1_i32_22 : BitVec 32 := 1#32
  let v81 : BitVec 32 := Scalar.andi arg1 c1_i32_22
  let v82 : BitVec 32 := Scalar.subi c3_i32 v81
  let v83 : BitVec 32 := Scalar.select v80 c1_i32_23 v82
  let v237 : BitVec 32 := Scalar.subi arg1 v83
  let c1_i32_87 : BitVec 32 := 1#32
  let v238 : BitVec 32 := Scalar.subi v237 c1_i32_87
  let c2_i32_88 : BitVec 32 := 2#32
  let c0_i32_29 : BitVec 32 := 0#32
  let c1_i32_27 : BitVec 32 := 1#32
  let v89 : BitVec 32 := Scalar.addi arg1 c1_i32_27
  let v90 : BitVec 32 := Scalar.subi v89 v83
  let c1_i32_28 : BitVec 32 := 1#32
  let v91 : BitVec 32 := Scalar.shrui v90 c1_i32_28
  let v92 : BitVec 32 := Scalar.subi v91 c0_i32_29
  let c1_i32_30 : BitVec 32 := 1#32
  let v94 : BitVec 32 := Scalar.divsi v92 c1_i32_30
  let v95 : BitVec 32 := Scalar.muli v94 c1_i32_30
  let v96 : BitVec 32 := Scalar.addi c0_i32_29 v95
  let c1_i32_32 : BitVec 32 := 1#32
  let arg26 : BitVec 32 := Scf.iv v96 c1_i32_32 k0_t2
  let v239 : BitVec 32 := Scalar.muli c2_i32_88 arg26
  let v240 : BitVec 32 := Scalar.subi v238 v239
  let v246 : Index := Scalar.indexCast v240
  let c0_91 : Index := 0#32
  let c0_92 : Index := 0#32
  ![v246.toNat, 0, 0]
def k0_off52 (i : grid0.Coords) (k0_t2 : Fin (k0_t2_loop i).trips) : Fin 3 → Nat :=
  let arg1 : BitVec 32 := BitVec.ofNat 32 (i 1).val
  let c0_i32_21 : BitVec 32 := 0#32
  let v80 : BitVec 1 := Scalar.cmpi .eq arg1 c0_i32_21
  let c1_i32_23 : BitVec 32 := 1#32
  let c3_i32 : BitVec 32 := 3#32
  let c1_i32_22 : BitVec 32 := 1#32
  let v81 : BitVec 32 := Scalar.andi arg1 c1_i32_22
  let v82 : BitVec 32 := Scalar.subi c3_i32 v81
  let v83 : BitVec 32 := Scalar.select v80 c1_i32_23 v82
  let v237 : BitVec 32 := Scalar.subi arg1 v83
  let c1_i32_87 : BitVec 32 := 1#32
  let v238 : BitVec 32 := Scalar.subi v237 c1_i32_87
  let c2_i32_88 : BitVec 32 := 2#32
  let c0_i32_29 : BitVec 32 := 0#32
  let c1_i32_27 : BitVec 32 := 1#32
  let v89 : BitVec 32 := Scalar.addi arg1 c1_i32_27
  let v90 : BitVec 32 := Scalar.subi v89 v83
  let c1_i32_28 : BitVec 32 := 1#32
  let v91 : BitVec 32 := Scalar.shrui v90 c1_i32_28
  let v92 : BitVec 32 := Scalar.subi v91 c0_i32_29
  let c1_i32_30 : BitVec 32 := 1#32
  let v94 : BitVec 32 := Scalar.divsi v92 c1_i32_30
  let v95 : BitVec 32 := Scalar.muli v94 c1_i32_30
  let v96 : BitVec 32 := Scalar.addi c0_i32_29 v95
  let c1_i32_32 : BitVec 32 := 1#32
  let arg26 : BitVec 32 := Scf.iv v96 c1_i32_32 k0_t2
  let v239 : BitVec 32 := Scalar.muli c2_i32_88 arg26
  let v240 : BitVec 32 := Scalar.subi v238 v239
  let c1_i32_93 : BitVec 32 := 1#32
  let v249 : BitVec 32 := Scalar.addi v240 c1_i32_93
  let v250 : Index := Scalar.indexCast v249
  let c0_94 : Index := 0#32
  let c0_95 : Index := 0#32
  ![v250.toNat, 0, 0]
def k0_mult20 (arg26 : BitVec 32) : BitVec 32 :=
  let c256_i32 : BitVec 32 := 256#32
  let v237 : BitVec 32 := Scalar.muli arg26 c256_i32
  v237

def k0_off53 (arg26 : BitVec 32) : Fin 3 → Nat :=
  let c0_87 : Index := 0#32
  let c256_i32 : BitVec 32 := 256#32
  let v237 : BitVec 32 := Scalar.muli arg26 c256_i32
  let v238 : BitVec 32 := v237
  let v239 : Index := Scalar.indexCast v238
  let c0_88 : Index := 0#32
  ![0, v239.toNat, 0]
def k0_off54 (arg26 : BitVec 32) : Fin 3 → Nat :=
  let v242 : Index := Scalar.indexCast arg26
  let c0_89 : Index := 0#32
  let c0_90 : Index := 0#32
  ![v242.toNat, 0, 0]

def k0_chk1 (arg26 : BitVec 32) : Prop :=
  (256 ∣ (k0_mult20 arg26).toNat) ∧
  (∀ a, (k0_off53 arg26) a + S1x256x512.size a ≤ S1x2048x512.size a) ∧
  (∀ a, (k0_off54 arg26) a + S1x512x256.size a ≤ S8x512x256.size a)
theorem k0_mult20_dvd : ∀ (arg26 : BitVec 32) (k0_hw1 : k0_chk1 arg26), 256 ∣ (k0_mult20 arg26).toNat := fun arg26 k0_hw1 => k0_hw1.1
theorem k0_off53_inb : ∀ (arg26 : BitVec 32) (k0_hw1 : k0_chk1 arg26), ∀ a, (k0_off53 arg26) a + S1x256x512.size a ≤ S1x2048x512.size a := fun arg26 k0_hw1 => k0_hw1.2.1
theorem k0_off54_inb : ∀ (arg26 : BitVec 32) (k0_hw1 : k0_chk1 arg26), ∀ a, (k0_off54 arg26) a + S1x512x256.size a ≤ S8x512x256.size a := fun arg26 k0_hw1 => k0_hw1.2.2

def cc0_transform_0 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c1_i32 : BitVec 32 := 1#32
  let c0_i32_0 : BitVec 32 := 0#32
  ![arg0.toNat, c0_i32.toNat, c1_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c1_i32 : BitVec 32 := 1#32
  let c0_i32_0 : BitVec 32 := 0#32
  ![arg0.toNat, c0_i32.toNat, c1_i32.toNat]

def cc0_transform_5 (i : grid0.Coords) : Fin 3 → Nat :=
  let arg0 : BitVec 32 := BitVec.ofNat 32 (i 0).val
  let arg1 : BitVec 32 := BitVec.ofNat 32 (i 1).val
  let c2_i32 : BitVec 32 := 2#32
  let c0_i32 : BitVec 32 := 0#32
  ![arg0.toNat, arg1.toNat, c2_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c6_i32 : BitVec 32 := 6#32
  let c0_i32_0 : BitVec 32 := 0#32
  ![arg0.toNat, c0_i32.toNat, c6_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![arg0.toNat, c1_i32.toNat, c0_i32.toNat]

def cc0_transform_9 (i : grid0.Coords) : Fin 3 → Nat :=
  let arg0 : BitVec 32 := BitVec.ofNat 32 (i 0).val
  let arg1 : BitVec 32 := BitVec.ofNat 32 (i 1).val
  let c8_i32 : BitVec 32 := 8#32
  let c0_i32 : BitVec 32 := 0#32
  let c0_i32_0 : BitVec 32 := 0#32
  ![arg0.toNat, c8_i32.toNat, c0_i32.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_12 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 1 → Memref sig .tc .smem S8 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x256x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x256x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x2048x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x256x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x2048x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S8x512x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S8x512x256 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S8x128x256 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 1 → Memref sig .tc .vmem S256x256 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S4x2x256x256 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S8x2x256x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 1 → Memref sig .tc .vmem S4x64 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 1 → Memref sig .tc .vmem S128x1 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false, false]

abbrev stage0_15 : Fin 2 → Memref sig .tc .vmem S1x256x1536 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]
-- ==== Kernel2.lean ====
abbrev S16x2048x1024 : Shape := ⟨3, ![16, 2048, 1024]⟩
abbrev S2x1024 : Shape := ⟨2, ![2, 1024]⟩
abbrev S2x1024x5632 : Shape := ⟨3, ![2, 1024, 5632]⟩
abbrev S2x2816x1024 : Shape := ⟨3, ![2, 2816, 1024]⟩
abbrev S32768x1024 : Shape := ⟨2, ![32768, 1024]⟩
abbrev S1x1024 : Shape := ⟨2, ![1, 1024]⟩
abbrev S1024 : Shape := ⟨1, ![1024]⟩
abbrev S1024x1024 : Shape := ⟨2, ![1024, 1024]⟩
abbrev S1x1024x2816 : Shape := ⟨3, ![1, 1024, 2816]⟩
abbrev S1x2816x1024 : Shape := ⟨3, ![1, 2816, 1024]⟩
abbrev S1024x1 : Shape := ⟨2, ![1024, 1]⟩
abbrev S1x1024x768 : Shape := ⟨3, ![1, 1024, 768]⟩
abbrev S1024x768 : Shape := ⟨2, ![1024, 768]⟩
abbrev S1x768x1024 : Shape := ⟨3, ![1, 768, 1024]⟩
abbrev S768x1024 : Shape := ⟨2, ![768, 1024]⟩
abbrev S1x1024x512 : Shape := ⟨3, ![1, 1024, 512]⟩
abbrev S1024x512 : Shape := ⟨2, ![1024, 512]⟩
abbrev S1x512x1024 : Shape := ⟨3, ![1, 512, 1024]⟩
abbrev S512x1024 : Shape := ⟨2, ![512, 1024]⟩

abbrev nBuf : Space → Nat
  | .hbm => 11
  | .vmem => 8
  | .smem => 0
  | _ => 0

abbrev bufTy : (tb : Table) → Fin (tcTables nBuf tb) → BufTy
  | .hbm, ⟨0, _⟩ => ⟨S16x2048x1024, .f32⟩
  | .hbm, ⟨1, _⟩ => ⟨S2x1024, .f32⟩
  | .hbm, ⟨2, _⟩ => ⟨S2x1024x5632, .f32⟩
  | .hbm, ⟨3, _⟩ => ⟨S2x2816x1024, .f32⟩
  | .hbm, ⟨4, _⟩ => ⟨S32768x1024, .f32⟩
  | .hbm, ⟨5, _⟩ => ⟨S1x1024, .f32⟩
  | .hbm, ⟨6, _⟩ => ⟨S1024, .f32⟩
  | .hbm, ⟨7, _⟩ => ⟨S2x1024x5632, .bf16⟩
  | .hbm, ⟨8, _⟩ => ⟨S2x2816x1024, .bf16⟩
  | .hbm, ⟨9, _⟩ => ⟨S1x1024, .f32⟩
  | .hbm, ⟨10, _⟩ => ⟨S32768x1024, .f32⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1x1024x2816, .bf16⟩
  | .local _ .vmem, ⟨4, _⟩ => ⟨S1x1024x2816, .bf16⟩
  | .local _ .vmem, ⟨5, _⟩ => ⟨S1x2816x1024, .bf16⟩
  | .local _ .vmem, ⟨6, _⟩ => ⟨S1024x1024, .f32⟩
  | .local _ .vmem, ⟨7, _⟩ => ⟨S1024x1024, .f32⟩
  | _, _ => ⟨S16x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let c0_i32 : BitVec 32 := 0#32
  let c0_i32_0 : BitVec 32 := 0#32
  let c1_i32 : BitVec 32 := 1#32
  let c0_i32_1 : BitVec 32 := 0#32
  ![c0_i32.toNat, c0_i32_0.toNat, c1_i32.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024x2816 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024x2816 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2816x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference2Ideal.lean ====
abbrev S16x2048x1024 : Shape := ⟨3, ![16, 2048, 1024]⟩
abbrev S2x1024 : Shape := ⟨2, ![2, 1024]⟩
abbrev S2x1024x5632 : Shape := ⟨3, ![2, 1024, 5632]⟩
abbrev S2x2816x1024 : Shape := ⟨3, ![2, 2816, 1024]⟩
abbrev S1x1024 : Shape := ⟨2, ![1, 1024]⟩
abbrev S1024 : Shape := ⟨1, ![1024]⟩
abbrev S_ : Shape := ⟨0, ![]⟩
abbrev S16x2048 : Shape := ⟨2, ![16, 2048]⟩
abbrev S16x2048x1 : Shape := ⟨3, ![16, 2048, 1]⟩
abbrev S1x1x1024 : Shape := ⟨3, ![1, 1, 1024]⟩
abbrev S1x1024x5632 : Shape := ⟨3, ![1, 1024, 5632]⟩
abbrev S1024x5632 : Shape := ⟨2, ![1024, 5632]⟩
abbrev S1x2816x1024 : Shape := ⟨3, ![1, 2816, 1024]⟩
abbrev S2816x1024 : Shape := ⟨2, ![2816, 1024]⟩
abbrev S16x2048x5632 : Shape := ⟨3, ![16, 2048, 5632]⟩
abbrev S16x2048x2816 : Shape := ⟨3, ![16, 2048, 2816]⟩
abbrev S32768x1024 : Shape := ⟨2, ![32768, 1024]⟩

abbrev nBuf : Space → Nat
  | .hbm => 45
  | .vmem => 0
  | .smem => 0
  | _ => 0

abbrev bufTy : (tb : Table) → Fin (tcTables nBuf tb) → BufTy
  | .hbm, ⟨0, _⟩ => ⟨S16x2048x1024, .f32⟩
  | .hbm, ⟨1, _⟩ => ⟨S2x1024, .f32⟩
  | .hbm, ⟨2, _⟩ => ⟨S2x1024x5632, .f32⟩
  | .hbm, ⟨3, _⟩ => ⟨S2x2816x1024, .f32⟩
  | .hbm, ⟨4, _⟩ => ⟨S1x1024, .f32⟩
  | .hbm, ⟨5, _⟩ => ⟨S1024, .f32⟩
  | .hbm, ⟨6, _⟩ => ⟨S16x2048x1024, .f32⟩
  | .hbm, ⟨7, _⟩ => ⟨S_, .f32⟩
  | .hbm, ⟨8, _⟩ => ⟨S16x2048, .f32⟩
  | .hbm, ⟨9, _⟩ => ⟨S16x2048x1, .f32⟩
  | .hbm, ⟨10, _⟩ => ⟨S_, .f32⟩
  | .hbm, ⟨11, _⟩ => ⟨S16x2048x1, .f32⟩
  | .hbm, ⟨12, _⟩ => ⟨S16x2048x1, .f32⟩
  | .hbm, ⟨13, _⟩ => ⟨S_, .f32⟩
  | .hbm, ⟨14, _⟩ => ⟨S16x2048x1, .f32⟩
  | .hbm, ⟨15, _⟩ => ⟨S16x2048x1, .f32⟩
  | .hbm, ⟨16, _⟩ => ⟨S16x2048x1, .f32⟩
  | .hbm, ⟨17, _⟩ => ⟨S16x2048x1024, .f32⟩
  | .hbm, ⟨18, _⟩ => ⟨S16x2048x1024, .f32⟩
  | .hbm, ⟨19, _⟩ => ⟨S1x1x1024, .f32⟩
  | .hbm, ⟨20, _⟩ => ⟨S16x2048x1024, .f32⟩
  | .hbm, ⟨21, _⟩ => ⟨S16x2048x1024, .f32⟩
  | .hbm, ⟨22, _⟩ => ⟨S1x1024x5632, .f32⟩
  | .hbm, ⟨23, _⟩ => ⟨S1024x5632, .f32⟩
  | .hbm, ⟨24, _⟩ => ⟨S1x2816x1024, .f32⟩
  | .hbm, ⟨25, _⟩ => ⟨S2816x1024, .f32⟩
  | .hbm, ⟨26, _⟩ => ⟨S16x2048x5632, .f32⟩
  | .hbm, ⟨27, _⟩ => ⟨S16x2048x2816, .f32⟩
  | .hbm, ⟨28, _⟩ => ⟨S16x2048x2816, .f32⟩
  | .hbm, ⟨29, _⟩ => ⟨S16x2048x2816, .f32⟩
  | .hbm, ⟨30, _⟩ => ⟨S16x2048x2816, .f32⟩
  | .hbm, ⟨31, _⟩ => ⟨S_, .f32⟩
  | .hbm, ⟨32, _⟩ => ⟨S16x2048x2816, .f32⟩
  | .hbm, ⟨33, _⟩ => ⟨S16x2048x2816, .f32⟩
  | .hbm, ⟨34, _⟩ => ⟨S_, .f32⟩
  | .hbm, ⟨35, _⟩ => ⟨S16x2048x2816, .f32⟩
  | .hbm, ⟨36, _⟩ => ⟨S16x2048x2816, .f32⟩
  | .hbm, ⟨37, _⟩ => ⟨S16x2048x2816, .f32⟩
  | .hbm, ⟨38, _⟩ => ⟨S16x2048x2816, .f32⟩
  | .hbm, ⟨39, _⟩ => ⟨S16x2048x1024, .f32⟩
  | .hbm, ⟨40, _⟩ => ⟨S_, .f32⟩
  | .hbm, ⟨41, _⟩ => ⟨S16x2048x1024, .f32⟩
  | .hbm, ⟨42, _⟩ => ⟨S16x2048x1024, .f32⟩
  | .hbm, ⟨43, _⟩ => ⟨S16x2048x1024, .f32⟩
  | .hbm, ⟨44, _⟩ => ⟨S32768x1024, .f32⟩
  | _, _ => ⟨S16x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_call0_v0 : Ref sig .tc := ⟨.hbm, 29, rfl⟩
abbrev main_call0_v1 : Ref sig .tc := ⟨.hbm, 30, rfl⟩
abbrev main_call0_cst : Ref sig .tc := ⟨.hbm, 31, rfl⟩
abbrev main_call0_v2 : Ref sig .tc := ⟨.hbm, 32, rfl⟩
abbrev main_call0_v3 : Ref sig .tc := ⟨.hbm, 33, rfl⟩
abbrev main_call0_cst_0 : Ref sig .tc := ⟨.hbm, 34, rfl⟩
abbrev main_call0_v4 : Ref sig .tc := ⟨.hbm, 35, rfl⟩
abbrev main_call0_v5 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_cst_2 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩

abbrev nD : Nat := 1
abbrev τ : Topo := Topo.v7x

variable {F : FTy → Type} [FloatOps F]
-- ==== Kernel3.lean ====
abbrev S16x2048x1024 : Shape := ⟨3, ![16, 2048, 1024]⟩
abbrev S16x2048x1536 : Shape := ⟨3, ![16, 2048, 1536]⟩
abbrev S32768x4096 : Shape := ⟨2, ![32768, 4096]⟩
abbrev S2x512x1024 : Shape := ⟨3, ![2, 512, 1024]⟩
abbrev S2x1024x1024 : Shape := ⟨3, ![2, 1024, 1024]⟩
abbrev S2x1024 : Shape := ⟨2, ![2, 1024]⟩
abbrev S2x1024x5632 : Shape := ⟨3, ![2, 1024, 5632]⟩
abbrev S2x2816x1024 : Shape := ⟨3, ![2, 2816, 1024]⟩
abbrev S32768x1024 : Shape := ⟨2, ![32768, 1024]⟩
abbrev S32768x1536 : Shape := ⟨2, ![32768, 1536]⟩
abbrev S1x1024 : Shape := ⟨2, ![1, 1024]⟩
abbrev S1024 : Shape := ⟨1, ![1024]⟩
abbrev S512x1024 : Shape := ⟨2, ![512, 1024]⟩
abbrev S512x512 : Shape := ⟨2, ![512, 512]⟩
abbrev S1x512x1024 : Shape := ⟨3, ![1, 512, 1024]⟩
abbrev S1x1024x1024 : Shape := ⟨3, ![1, 1024, 1024]⟩
abbrev S1x1024x2816 : Shape := ⟨3, ![1, 1024, 2816]⟩
abbrev S1x2816x1024 : Shape := ⟨3, ![1, 2816, 1024]⟩
abbrev S1024x1024 : Shape := ⟨2, ![1024, 1024]⟩
abbrev S512 : Shape := ⟨1, ![512]⟩
abbrev S512x1 : Shape := ⟨2, ![512, 1]⟩
abbrev S1x1024x1536 : Shape := ⟨3, ![1, 1024, 1536]⟩
abbrev S1024x1536 : Shape := ⟨2, ![1024, 1536]⟩
abbrev S512x1536 : Shape := ⟨2, ![512, 1536]⟩
abbrev S1x1536x1024 : Shape := ⟨3, ![1, 1536, 1024]⟩
abbrev S1536x1024 : Shape := ⟨2, ![1536, 1024]⟩
abbrev S1x1024x1280 : Shape := ⟨3, ![1, 1024, 1280]⟩
abbrev S1024x1280 : Shape := ⟨2, ![1024, 1280]⟩
abbrev S512x1280 : Shape := ⟨2, ![512, 1280]⟩
abbrev S1x1280x1024 : Shape := ⟨3, ![1, 1280, 1024]⟩
abbrev S1280x1024 : Shape := ⟨2, ![1280, 1024]⟩

abbrev nBuf : Space → Nat
  | .hbm => 22
  | .vmem => 24
  | .smem => 0
  | _ => 0

abbrev bufTy : (tb : Table) → Fin (tcTables nBuf tb) → BufTy
  | .hbm, ⟨0, _⟩ => ⟨S16x2048x1024, .f32⟩
  | .hbm, ⟨1, _⟩ => ⟨S16x2048x1536, .bf16⟩
  | .hbm, ⟨2, _⟩ => ⟨S32768x4096, .bf16⟩
  | .hbm, ⟨3, _⟩ => ⟨S2x512x1024, .f32⟩
  | .hbm, ⟨4, _⟩ => ⟨S2x512x1024, .f32⟩
  | .hbm, ⟨5, _⟩ => ⟨S2x512x1024, .f32⟩
  | .hbm, ⟨6, _⟩ => ⟨S2x1024x1024, .f32⟩
  | .hbm, ⟨7, _⟩ => ⟨S2x1024, .f32⟩
  | .hbm, ⟨8, _⟩ => ⟨S2x1024x5632, .f32⟩
  | .hbm, ⟨9, _⟩ => ⟨S2x2816x1024, .f32⟩
  | .hbm, ⟨10, _⟩ => ⟨S2x512x1024, .bf16⟩
  | .hbm, ⟨11, _⟩ => ⟨S2x512x1024, .bf16⟩
  | .hbm, ⟨12, _⟩ => ⟨S2x512x1024, .bf16⟩
  | .hbm, ⟨13, _⟩ => ⟨S2x1024x1024, .bf16⟩
  | .hbm, ⟨14, _⟩ => ⟨S32768x1024, .f32⟩
  | .hbm, ⟨15, _⟩ => ⟨S32768x1536, .bf16⟩
  | .hbm, ⟨16, _⟩ => ⟨S1x1024, .f32⟩
  | .hbm, ⟨17, _⟩ => ⟨S1024, .f32⟩
  | .hbm, ⟨18, _⟩ => ⟨S2x1024x5632, .bf16⟩
  | .hbm, ⟨19, _⟩ => ⟨S2x2816x1024, .bf16⟩
  | .hbm, ⟨20, _⟩ => ⟨S1x1024, .f32⟩
  | .hbm, ⟨21, _⟩ => ⟨S32768x1024, .f32⟩
  | .local _ .vmem, ⟨0, _⟩ => ⟨S512x1024, .f32⟩
  | .local _ .vmem, ⟨1, _⟩ => ⟨S512x1024, .f32⟩
  | .local _ .vmem, ⟨2, _⟩ => ⟨S512x512, .bf16⟩
  | .local _ .vmem, ⟨3, _⟩ => ⟨S512x512, .bf16⟩
  | .local _ .vmem, ⟨4, _⟩ => ⟨S512x512, .bf16⟩
  | .local _ .vmem, ⟨5, _⟩ => ⟨S512x512, .bf16⟩
  | .local _ .vmem, ⟨6, _⟩ => ⟨S512x512, .bf16⟩
  | .local _ .vmem, ⟨7, _⟩ => ⟨S512x512, .bf16⟩
  | .local _ .vmem, ⟨8, _⟩ => ⟨S512x1024, .bf16⟩
  | .local _ .vmem, ⟨9, _⟩ => ⟨S512x1024, .bf16⟩
  | .local _ .vmem, ⟨10, _⟩ => ⟨S512x1024, .bf16⟩
  | .local _ .vmem, ⟨11, _⟩ => ⟨S512x1024, .bf16⟩
  | .local _ .vmem, ⟨12, _⟩ => ⟨S512x1024, .bf16⟩
  | .local _ .vmem, ⟨13, _⟩ => ⟨S512x1024, .bf16⟩
  | .local _ .vmem, ⟨14, _⟩ => ⟨S1x512x1024, .bf16⟩
  | .local _ .vmem, ⟨15, _⟩ => ⟨S1x512x1024, .bf16⟩
  | .local _ .vmem, ⟨16, _⟩ => ⟨S1x512x1024, .bf16⟩
  | .local _ .vmem, ⟨17, _⟩ => ⟨S1x1024x1024, .bf16⟩
  | .local _ .vmem, ⟨18, _⟩ => ⟨S1x1024, .f32⟩
  | .local _ .vmem, ⟨19, _⟩ => ⟨S1x1024x2816, .bf16⟩
  | .local _ .vmem, ⟨20, _⟩ => ⟨S1x1024x2816, .bf16⟩
  | .local _ .vmem, ⟨21, _⟩ => ⟨S1x2816x1024, .bf16⟩
  | .local _ .vmem, ⟨22, _⟩ => ⟨S512x1024, .f32⟩
  | .local _ .vmem, ⟨23, _⟩ => ⟨S512x1024, .f32⟩
  | _, _ => ⟨S16x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg10_0 : Ref sig .tc := ⟨.vmem, 17, rfl⟩
abbrev cc0_stg11_0 : Ref sig .tc := ⟨.vmem, 18, rfl⟩
abbrev cc0_stg12_0 : Ref sig .tc := ⟨.vmem, 19, rfl⟩
abbrev cc0_stg13_0 : Ref sig .tc := ⟨.vmem, 20, rfl⟩
abbrev cc0_stg14_0 : Ref sig .tc := ⟨.vmem, 21, rfl⟩
abbrev cc0_stg15_0 : Ref sig .tc := ⟨.vmem, 22, rfl⟩
abbrev cc0_stg15_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem9_0 : DmaSem sig := 16
abbrev cc0_sem10_0 : DmaSem sig := 17
abbrev cc0_sem11_0 : DmaSem sig := 18
abbrev cc0_sem12_0 : DmaSem sig := 19
abbrev cc0_sem13_0 : DmaSem sig := 20
abbrev cc0_sem14_0 : DmaSem sig := 21
abbrev cc0_sem15_0 : DmaSem sig := 22
abbrev cc0_sem15_1 : DmaSem sig := 23

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_3 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_4 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_5 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_6 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_7 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_8 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_9 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_10 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_13 (i : grid0.Coords) : Fin 3 → Nat :=
  let arg0 : BitVec 32 := BitVec.ofNat 32 (i 0).val
  let c1_i32 : BitVec 32 := 1#32
  let c0_i32 : BitVec 32 := 0#32
  let c1_i32_0 : BitVec 32 := 1#32
  let c0_i32_1 : BitVec 32 := 0#32
  ![c1_i32.toNat, c0_i32.toNat, c1_i32_0.toNat]

def cc0_transform_14 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x512x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x512x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x512x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x1024x2816 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x1024x2816 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x2816x1024 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 2 → Memref sig .tc .vmem S512x1024 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]
-- ==== Reference3Ideal.lean ====
abbrev S16x2048x1024 : Shape := ⟨3, ![16, 2048, 1024]⟩
abbrev S16x2048x1536 : Shape := ⟨3, ![16, 2048, 1536]⟩
abbrev S32768x4096 : Shape := ⟨2, ![32768, 4096]⟩
abbrev S2x512x1024 : Shape := ⟨3, ![2, 512, 1024]⟩
abbrev S2x1024x1024 : Shape := ⟨3, ![2, 1024, 1024]⟩
abbrev S2x1024 : Shape := ⟨2, ![2, 1024]⟩
abbrev S2x1024x5632 : Shape := ⟨3, ![2, 1024, 5632]⟩
abbrev S2x2816x1024 : Shape := ⟨3, ![2, 2816, 1024]⟩
abbrev S16x2048x512 : Shape := ⟨3, ![16, 2048, 512]⟩
abbrev S16x2048x4096 : Shape := ⟨3, ![16, 2048, 4096]⟩
abbrev S_ : Shape := ⟨0, ![]⟩
abbrev S1x512x1024 : Shape := ⟨3, ![1, 512, 1024]⟩
abbrev S512x1024 : Shape := ⟨2, ![512, 1024]⟩
abbrev S1x1024x1024 : Shape := ⟨3, ![1, 1024, 1024]⟩
abbrev S1024x1024 : Shape := ⟨2, ![1024, 1024]⟩
abbrev S1x1024 : Shape := ⟨2, ![1, 1024]⟩
abbrev S1024 : Shape := ⟨1, ![1024]⟩
abbrev S16x2048 : Shape := ⟨2, ![16, 2048]⟩
abbrev S16x2048x1 : Shape := ⟨3, ![16, 2048, 1]⟩
abbrev S1x1x1024 : Shape := ⟨3, ![1, 1, 1024]⟩
abbrev S1x1024x5632 : Shape := ⟨3, ![1, 1024, 5632]⟩
abbrev S1024x5632 : Shape := ⟨2, ![1024, 5632]⟩
abbrev S1x2816x1024 : Shape := ⟨3, ![1, 2816, 1024]⟩
abbrev S2816x1024 : Shape := ⟨2, ![2816, 1024]⟩
abbrev S16x2048x5632 : Shape := ⟨3, ![16, 2048, 5632]⟩
abbrev S16x2048x2816 : Shape := ⟨3, ![16, 2048, 2816]⟩
abbrev S32768x1024 : Shape := ⟨2, ![32768, 1024]⟩

abbrev nBuf : Space → Nat
  | .hbm => 103
  | .vmem => 0
  | .smem => 0
  | _ => 0

abbrev bufTy : (tb : Table) → Fin (tcTables nBuf tb) → BufTy
  | .hbm, ⟨0, _⟩ => ⟨S16x2048x1024, .f32⟩
  | .hbm, ⟨1, _⟩ => ⟨S16x2048x1536, .bf16⟩
  | .hbm, ⟨2, _⟩ => ⟨S32768x4096, .bf16⟩
  | .hbm, ⟨3, _⟩ => ⟨S2x512x1024, .f32⟩
  | .hbm, ⟨4, _⟩ => ⟨S2x512x1024, .f32⟩
  | .hbm, ⟨5, _⟩ => ⟨S2x512x1024, .f32⟩
  | .hbm, ⟨6, _⟩ => ⟨S2x1024x1024, .f32⟩
  | .hbm, ⟨7, _⟩ => ⟨S2x1024, .f32⟩
  | .hbm, ⟨8, _⟩ => ⟨S2x1024x5632, .f32⟩
  | .hbm, ⟨9, _⟩ => ⟨S2x2816x1024, .f32⟩
  | .hbm, ⟨10, _⟩ => ⟨S16x2048x1536, .f32⟩
  | .hbm, ⟨11, _⟩ => ⟨S16x2048x512, .f32⟩
  | .hbm, ⟨12, _⟩ => ⟨S16x2048x512, .f32⟩
  | .hbm, ⟨13, _⟩ => ⟨S16x2048x512, .f32⟩
  | .hbm, ⟨14, _⟩ => ⟨S32768x4096, .f32⟩
  | .hbm, ⟨15, _⟩ => ⟨S16x2048x4096, .f32⟩
  | .hbm, ⟨16, _⟩ => ⟨S16x2048x1024, .f32⟩
  | .hbm, ⟨17, _⟩ => ⟨S16x2048x1024, .f32⟩
  | .hbm, ⟨18, _⟩ => ⟨S16x2048x1024, .f32⟩
  | .hbm, ⟨19, _⟩ => ⟨S16x2048x1024, .f32⟩
  | .hbm, ⟨20, _⟩ => ⟨S16x2048x1024, .f32⟩
  | .hbm, ⟨21, _⟩ => ⟨S16x2048x1024, .f32⟩
  | .hbm, ⟨22, _⟩ => ⟨S_, .f32⟩
  | .hbm, ⟨23, _⟩ => ⟨S16x2048x1024, .f32⟩
  | .hbm, ⟨24, _⟩ => ⟨S16x2048x1024, .f32⟩
  | .hbm, ⟨25, _⟩ => ⟨S_, .f32⟩
  | .hbm, ⟨26, _⟩ => ⟨S16x2048x1024, .f32⟩
  | .hbm, ⟨27, _⟩ => ⟨S16x2048x1024, .f32⟩
  | .hbm, ⟨28, _⟩ => ⟨S1x512x1024, .f32⟩
  | .hbm, ⟨29, _⟩ => ⟨S512x1024, .f32⟩
  | .hbm, ⟨30, _⟩ => ⟨S16x2048x1024, .f32⟩
  | .hbm, ⟨31, _⟩ => ⟨S16x2048x1024, .f32⟩
  | .hbm, ⟨32, _⟩ => ⟨S16x2048x1024, .f32⟩
  | .hbm, ⟨33, _⟩ => ⟨S16x2048x1024, .f32⟩
  | .hbm, ⟨34, _⟩ => ⟨S_, .f32⟩
  | .hbm, ⟨35, _⟩ => ⟨S16x2048x1024, .f32⟩
  | .hbm, ⟨36, _⟩ => ⟨S16x2048x1024, .f32⟩
  | .hbm, ⟨37, _⟩ => ⟨S_, .f32⟩
  | .hbm, ⟨38, _⟩ => ⟨S16x2048x1024, .f32⟩
  | .hbm, ⟨39, _⟩ => ⟨S16x2048x1024, .f32⟩
  | .hbm, ⟨40, _⟩ => ⟨S1x512x1024, .f32⟩
  | .hbm, ⟨41, _⟩ => ⟨S512x1024, .f32⟩
  | .hbm, ⟨42, _⟩ => ⟨S16x2048x1024, .f32⟩
  | .hbm, ⟨43, _⟩ => ⟨S16x2048x1024, .f32⟩
  | .hbm, ⟨44, _⟩ => ⟨S16x2048x1024, .f32⟩
  | .hbm, ⟨45, _⟩ => ⟨S16x2048x1024, .f32⟩
  | .hbm, ⟨46, _⟩ => ⟨S16x2048x1024, .f32⟩
  | .hbm, ⟨47, _⟩ => ⟨S_, .f32⟩
  | .hbm, ⟨48, _⟩ => ⟨S16x2048x1024, .f32⟩
  | .hbm, ⟨49, _⟩ => ⟨S16x2048x1024, .f32⟩
  | .hbm, ⟨50, _⟩ => ⟨S_, .f32⟩
  | .hbm, ⟨51, _⟩ => ⟨S16x2048x1024, .f32⟩
  | .hbm, ⟨52, _⟩ => ⟨S16x2048x1024, .f32⟩
  | .hbm, ⟨53, _⟩ => ⟨S1x512x1024, .f32⟩
  | .hbm, ⟨54, _⟩ => ⟨S512x1024, .f32⟩
  | .hbm, ⟨55, _⟩ => ⟨S16x2048x1024, .f32⟩
  | .hbm, ⟨56, _⟩ => ⟨S16x2048x1024, .f32⟩
  | .hbm, ⟨57, _⟩ => ⟨S16x2048x1024, .f32⟩
  | .hbm, ⟨58, _⟩ => ⟨S1x1024x1024, .f32⟩
  | .hbm, ⟨59, _⟩ => ⟨S1024x1024, .f32⟩
  | .hbm, ⟨60, _⟩ => ⟨S16x2048x1024, .f32⟩
  | .hbm, ⟨61, _⟩ => ⟨S16x2048x1024, .f32⟩
  | .hbm, ⟨62, _⟩ => ⟨S1x1024, .f32⟩
  | .hbm, ⟨63, _⟩ => ⟨S1024, .f32⟩
  | .hbm, ⟨64, _⟩ => ⟨S16x2048x1024, .f32⟩
  | .hbm, ⟨65, _⟩ => ⟨S_, .f32⟩
  | .hbm, ⟨66, _⟩ => ⟨S16x2048, .f32⟩
  | .hbm, ⟨67, _⟩ => ⟨S16x2048x1, .f32⟩
  | .hbm, ⟨68, _⟩ => ⟨S_, .f32⟩
  | .hbm, ⟨69, _⟩ => ⟨S16x2048x1, .f32⟩
  | .hbm, ⟨70, _⟩ => ⟨S16x2048x1, .f32⟩
  | .hbm, ⟨71, _⟩ => ⟨S_, .f32⟩
  | .hbm, ⟨72, _⟩ => ⟨S16x2048x1, .f32⟩
  | .hbm, ⟨73, _⟩ => ⟨S16x2048x1, .f32⟩
  | .hbm, ⟨74, _⟩ => ⟨S16x2048x1, .f32⟩
  | .hbm, ⟨75, _⟩ => ⟨S16x2048x1024, .f32⟩
  | .hbm, ⟨76, _⟩ => ⟨S16x2048x1024, .f32⟩
  | .hbm, ⟨77, _⟩ => ⟨S1x1x1024, .f32⟩
  | .hbm, ⟨78, _⟩ => ⟨S16x2048x1024, .f32⟩
  | .hbm, ⟨79, _⟩ => ⟨S16x2048x1024, .f32⟩
  | .hbm, ⟨80, _⟩ => ⟨S1x1024x5632, .f32⟩
  | .hbm, ⟨81, _⟩ => ⟨S1024x5632, .f32⟩
  | .hbm, ⟨82, _⟩ => ⟨S1x2816x1024, .f32⟩
  | .hbm, ⟨83, _⟩ => ⟨S2816x1024, .f32⟩
  | .hbm, ⟨84, _⟩ => ⟨S16x2048x5632, .f32⟩
  | .hbm, ⟨85, _⟩ => ⟨S16x2048x2816, .f32⟩
  | .hbm, ⟨86, _⟩ => ⟨S16x2048x2816, .f32⟩
  | .hbm, ⟨87, _⟩ => ⟨S16x2048x2816, .f32⟩
  | .hbm, ⟨88, _⟩ => ⟨S16x2048x2816, .f32⟩
  | .hbm, ⟨89, _⟩ => ⟨S_, .f32⟩
  | .hbm, ⟨90, _⟩ => ⟨S16x2048x2816, .f32⟩
  | .hbm, ⟨91, _⟩ => ⟨S16x2048x2816, .f32⟩
  | .hbm, ⟨92, _⟩ => ⟨S_, .f32⟩
  | .hbm, ⟨93, _⟩ => ⟨S16x2048x2816, .f32⟩
  | .hbm, ⟨94, _⟩ => ⟨S16x2048x2816, .f32⟩
  | .hbm, ⟨95, _⟩ => ⟨S16x2048x2816, .f32⟩
  | .hbm, ⟨96, _⟩ => ⟨S16x2048x2816, .f32⟩
  | .hbm, ⟨97, _⟩ => ⟨S16x2048x1024, .f32⟩
  | .hbm, ⟨98, _⟩ => ⟨S_, .f32⟩
  | .hbm, ⟨99, _⟩ => ⟨S16x2048x1024, .f32⟩
  | .hbm, ⟨100, _⟩ => ⟨S16x2048x1024, .f32⟩
  | .hbm, ⟨101, _⟩ => ⟨S16x2048x1024, .f32⟩
  | .hbm, ⟨102, _⟩ => ⟨S32768x1024, .f32⟩
  | _, _ => ⟨S16x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_cst : Ref sig .tc := ⟨.hbm, 22, rfl⟩
abbrev main_v12 : Ref sig .tc := ⟨.hbm, 23, rfl⟩
abbrev main_v13 : Ref sig .tc := ⟨.hbm, 24, rfl⟩
abbrev main_cst_0 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_1 : Ref sig .tc := ⟨.hbm, 34, rfl⟩
abbrev main_v22 : Ref sig .tc := ⟨.hbm, 35, rfl⟩
abbrev main_v23 : Ref sig .tc := ⟨.hbm, 36, rfl⟩
abbrev main_cst_2 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_cst_3 : Ref sig .tc := ⟨.hbm, 47, rfl⟩
abbrev main_v33 : Ref sig .tc := ⟨.hbm, 48, rfl⟩
abbrev main_v34 : Ref sig .tc := ⟨.hbm, 49, rfl⟩
abbrev main_cst_4 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_cst_5 : Ref sig .tc := ⟨.hbm, 65, rfl⟩
abbrev main_v49 : Ref sig .tc := ⟨.hbm, 66, rfl⟩
abbrev main_v50 : Ref sig .tc := ⟨.hbm, 67, rfl⟩
abbrev main_cst_6 : Ref sig .tc := ⟨.hbm, 68, rfl⟩
abbrev main_v51 : Ref sig .tc := ⟨.hbm, 69, rfl⟩
abbrev main_v52 : Ref sig .tc := ⟨.hbm, 70, rfl⟩
abbrev main_cst_7 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩
abbrev main_call0_v0 : Ref sig .tc := ⟨.hbm, 87, rfl⟩
abbrev main_call0_v1 : Ref sig .tc := ⟨.hbm, 88, rfl⟩
abbrev main_call0_cst : Ref sig .tc := ⟨.hbm, 89, rfl⟩
abbrev main_call0_v2 : Ref sig .tc := ⟨.hbm, 90, rfl⟩
abbrev main_call0_v3 : Ref sig .tc := ⟨.hbm, 91, rfl⟩
abbrev main_call0_cst_0 : Ref sig .tc := ⟨.hbm, 92, rfl⟩
abbrev main_call0_v4 : Ref sig .tc := ⟨.hbm, 93, rfl⟩
abbrev main_call0_v5 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_cst_8 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩

abbrev nD : Nat := 1
abbrev τ : Topo := Topo.v7x

variable {F : FTy → Type} [FloatOps F]
-- ==== Kernel4.lean ====
abbrev S16x2048x1024 : Shape := ⟨3, ![16, 2048, 1024]⟩
abbrev S2x1024 : Shape := ⟨2, ![2, 1024]⟩
abbrev S2x1024x6912 : Shape := ⟨3, ![2, 1024, 6912]⟩
abbrev S2x64 : Shape := ⟨2, ![2, 64]⟩
abbrev S2x1024x512 : Shape := ⟨3, ![2, 1024, 512]⟩
abbrev S2x1024x128 : Shape := ⟨3, ![2, 1024, 128]⟩
abbrev S2x1024x1024 : Shape := ⟨3, ![2, 1024, 1024]⟩
abbrev S2x1024x64 : Shape := ⟨3, ![2, 1024, 64]⟩
abbrev S_ : Shape := ⟨0, ![]⟩
abbrev S2x1024x4096 : Shape := ⟨3, ![2, 1024, 4096]⟩
abbrev S2x1024x1792 : Shape := ⟨3, ![2, 1024, 1792]⟩
abbrev S2x1024x1152 : Shape := ⟨3, ![2, 1024, 1152]⟩
abbrev S1x64 : Shape := ⟨2, ![1, 64]⟩
abbrev S64 : Shape := ⟨1, ![64]⟩
abbrev S8x64 : Shape := ⟨2, ![8, 64]⟩
abbrev S512 : Shape := ⟨1, ![512]⟩
abbrev S4x64 : Shape := ⟨2, ![4, 64]⟩
abbrev S256 : Shape := ⟨1, ![256]⟩
abbrev S1792 : Shape := ⟨1, ![1792]⟩
abbrev S1x1792 : Shape := ⟨2, ![1, 1792]⟩
abbrev S32768x1024 : Shape := ⟨2, ![32768, 1024]⟩
abbrev S1x1024 : Shape := ⟨2, ![1, 1024]⟩
abbrev S1024 : Shape := ⟨1, ![1024]⟩
abbrev S256x1 : Shape := ⟨2, ![256, 1]⟩
abbrev S1x256 : Shape := ⟨2, ![1, 256]⟩
abbrev S256x256 : Shape := ⟨2, ![256, 256]⟩
abbrev S32768x4096 : Shape := ⟨2, ![32768, 4096]⟩
abbrev S32768x1792 : Shape := ⟨2, ![32768, 1792]⟩
abbrev S128x1152x256 : Shape := ⟨3, ![128, 1152, 256]⟩
abbrev S512x1024 : Shape := ⟨2, ![512, 1024]⟩
abbrev S1x1024x4096 : Shape := ⟨3, ![1, 1024, 4096]⟩
abbrev S1x1024x1792 : Shape := ⟨3, ![1, 1024, 1792]⟩
abbrev S1x1024x1152 : Shape := ⟨3, ![1, 1024, 1152]⟩
abbrev S512x4096 : Shape := ⟨2, ![512, 4096]⟩
abbrev S512x1792 : Shape := ⟨2, ![512, 1792]⟩
abbrev S2x1152x256 : Shape := ⟨3, ![2, 1152, 256]⟩
abbrev S512x1 : Shape := ⟨2, ![512, 1]⟩
abbrev S1x1024x512 : Shape := ⟨3, ![1, 1024, 512]⟩
abbrev S1024x512 : Shape := ⟨2, ![1024, 512]⟩
abbrev S512x512 : Shape := ⟨2, ![512, 512]⟩
abbrev S1024x1792 : Shape := ⟨2, ![1024, 1792]⟩
abbrev S512x256 : Shape := ⟨2, ![512, 256]⟩
abbrev S1x1024x256 : Shape := ⟨3, ![1, 1024, 256]⟩
abbrev S1024x256 : Shape := ⟨2, ![1024, 256]⟩
abbrev S256x512 : Shape := ⟨2, ![256, 512]⟩
abbrev S1x256x256 : Shape := ⟨3, ![1, 256, 256]⟩
abbrev S1x1024x128 : Shape := ⟨3, ![1, 1024, 128]⟩
abbrev S1024x128 : Shape := ⟨2, ![1024, 128]⟩
abbrev S512x128 : Shape := ⟨2, ![512, 128]⟩
abbrev S128x512 : Shape := ⟨2, ![128, 512]⟩
abbrev S128x256 : Shape := ⟨2, ![128, 256]⟩
abbrev S1x128x256 : Shape := ⟨3, ![1, 128, 256]⟩

abbrev nBuf : Space → Nat
  | .hbm => 95
  | .vmem => 14
  | .smem => 0
  | _ => 0

abbrev bufTy : (tb : Table) → Fin (tcTables nBuf tb) → BufTy
  | .hbm, ⟨0, _⟩ => ⟨S16x2048x1024, .f32⟩
  | .hbm, ⟨1, _⟩ => ⟨S2x1024, .f32⟩
  | .hbm, ⟨2, _⟩ => ⟨S2x1024x6912, .f32⟩
  | .hbm, ⟨3, _⟩ => ⟨S2x64, .f32⟩
  | .hbm, ⟨4, _⟩ => ⟨S2x64, .f32⟩
  | .hbm, ⟨5, _⟩ => ⟨S2x64, .f32⟩
  | .hbm, ⟨6, _⟩ => ⟨S2x64, .f32⟩
  | .hbm, ⟨7, _⟩ => ⟨S2x1024x512, .f32⟩
  | .hbm, ⟨8, _⟩ => ⟨S2x1024x512, .f32⟩
  | .hbm, ⟨9, _⟩ => ⟨S2x1024x512, .f32⟩
  | .hbm, ⟨10, _⟩ => ⟨S2x1024x512, .f32⟩
  | .hbm, ⟨11, _⟩ => ⟨S2x1024x512, .f32⟩
  | .hbm, ⟨12, _⟩ => ⟨S2x1024x512, .f32⟩
  | .hbm, ⟨13, _⟩ => ⟨S2x1024x512, .f32⟩
  | .hbm, ⟨14, _⟩ => ⟨S2x1024x128, .f32⟩
  | .hbm, ⟨15, _⟩ => ⟨S2x1024x128, .f32⟩
  | .hbm, ⟨16, _⟩ => ⟨S2x1024x1024, .f32⟩
  | .hbm, ⟨17, _⟩ => ⟨S2x1024x1024, .f32⟩
  | .hbm, ⟨18, _⟩ => ⟨S2x1024x1024, .f32⟩
  | .hbm, ⟨19, _⟩ => ⟨S2x1024x64, .f32⟩
  | .hbm, ⟨20, _⟩ => ⟨S2x1024x64, .f32⟩
  | .hbm, ⟨21, _⟩ => ⟨S_, .f32⟩
  | .hbm, ⟨22, _⟩ => ⟨S2x1024x512, .f32⟩
  | .hbm, ⟨23, _⟩ => ⟨S2x1024x512, .f32⟩
  | .hbm, ⟨24, _⟩ => ⟨S2x1024x4096, .f32⟩
  | .hbm, ⟨25, _⟩ => ⟨S2x1024x4096, .bf16⟩
  | .hbm, ⟨26, _⟩ => ⟨S2x1024x1792, .f32⟩
  | .hbm, ⟨27, _⟩ => ⟨S2x1024x1792, .bf16⟩
  | .hbm, ⟨28, _⟩ => ⟨S2x1024x1152, .f32⟩
  | .hbm, ⟨29, _⟩ => ⟨S2x1024x1152, .bf16⟩
  | .hbm, ⟨30, _⟩ => ⟨S1x64, .f32⟩
  | .hbm, ⟨31, _⟩ => ⟨S64, .f32⟩
  | .hbm, ⟨32, _⟩ => ⟨S1x64, .f32⟩
  | .hbm, ⟨33, _⟩ => ⟨S64, .f32⟩
  | .hbm, ⟨34, _⟩ => ⟨S1x64, .f32⟩
  | .hbm, ⟨35, _⟩ => ⟨S64, .f32⟩
  | .hbm, ⟨36, _⟩ => ⟨S1x64, .f32⟩
  | .hbm, ⟨37, _⟩ => ⟨S64, .f32⟩
  | .hbm, ⟨38, _⟩ => ⟨S_, .f32⟩
  | .hbm, ⟨39, _⟩ => ⟨S64, .f32⟩
  | .hbm, ⟨40, _⟩ => ⟨S64, .f32⟩
  | .hbm, ⟨41, _⟩ => ⟨S1x64, .f32⟩
  | .hbm, ⟨42, _⟩ => ⟨S8x64, .f32⟩
  | .hbm, ⟨43, _⟩ => ⟨S512, .f32⟩
  | .hbm, ⟨44, _⟩ => ⟨S1x64, .f32⟩
  | .hbm, ⟨45, _⟩ => ⟨S8x64, .f32⟩
  | .hbm, ⟨46, _⟩ => ⟨S512, .f32⟩
  | .hbm, ⟨47, _⟩ => ⟨S_, .f32⟩
  | .hbm, ⟨48, _⟩ => ⟨S64, .f32⟩
  | .hbm, ⟨49, _⟩ => ⟨S64, .f32⟩
  | .hbm, ⟨50, _⟩ => ⟨S1x64, .f32⟩
  | .hbm, ⟨51, _⟩ => ⟨S8x64, .f32⟩
  | .hbm, ⟨52, _⟩ => ⟨S512, .f32⟩
  | .hbm, ⟨53, _⟩ => ⟨S1x64, .f32⟩
  | .hbm, ⟨54, _⟩ => ⟨S4x64, .f32⟩
  | .hbm, ⟨55, _⟩ => ⟨S256, .f32⟩
  | .hbm, ⟨56, _⟩ => ⟨S1792, .f32⟩
  | .hbm, ⟨57, _⟩ => ⟨S1x1792, .f32⟩
  | .hbm, ⟨58, _⟩ => ⟨S32768x1024, .f32⟩
  | .hbm, ⟨59, _⟩ => ⟨S1x1024, .f32⟩
  | .hbm, ⟨60, _⟩ => ⟨S1024, .f32⟩
  | .hbm, ⟨61, _⟩ => ⟨S256, .i32⟩
  | .hbm, ⟨62, _⟩ => ⟨S_, .i32⟩
  | .hbm, ⟨63, _⟩ => ⟨S_, .i32⟩
  | .hbm, ⟨64, _⟩ => ⟨S256, .i32⟩
  | .hbm, ⟨65, _⟩ => ⟨S256, .i32⟩
  | .hbm, ⟨66, _⟩ => ⟨S256, .i32⟩
  | .hbm, ⟨67, _⟩ => ⟨S_, .i32⟩
  | .hbm, ⟨68, _⟩ => ⟨S256, .i32⟩
  | .hbm, ⟨69, _⟩ => ⟨S256, .i1⟩
  | .hbm, ⟨70, _⟩ => ⟨S256, .i32⟩
  | .hbm, ⟨71, _⟩ => ⟨S256, .i32⟩
  | .hbm, ⟨72, _⟩ => ⟨S_, .i32⟩
  | .hbm, ⟨73, _⟩ => ⟨S256, .i32⟩
  | .hbm, ⟨74, _⟩ => ⟨S256, .i1⟩
  | .hbm, ⟨75, _⟩ => ⟨S256, .i1⟩
  | .hbm, ⟨76, _⟩ => ⟨S_, .i32⟩
  | .hbm, ⟨77, _⟩ => ⟨S256, .i32⟩
  | .hbm, ⟨78, _⟩ => ⟨S256, .i32⟩
  | .hbm, ⟨79, _⟩ => ⟨S256, .i32⟩
  | .hbm, ⟨80, _⟩ => ⟨S256x1, .i32⟩
  | .hbm, ⟨81, _⟩ => ⟨S1x256, .i32⟩
  | .hbm, ⟨82, _⟩ => ⟨S256x256, .i32⟩
  | .hbm, ⟨83, _⟩ => ⟨S256x256, .i32⟩
  | .hbm, ⟨84, _⟩ => ⟨S256x256, .i1⟩
  | .hbm, ⟨85, _⟩ => ⟨S_, .f32⟩
  | .hbm, ⟨86, _⟩ => ⟨S_, .f32⟩
  | .hbm, ⟨87, _⟩ => ⟨S256x256, .f32⟩
  | .hbm, ⟨88, _⟩ => ⟨S256x256, .f32⟩
  | .hbm, ⟨89, _⟩ => ⟨S256x256, .f32⟩
  | .hbm, ⟨90, _⟩ => ⟨S256x256, .bf16⟩
  | .hbm, ⟨91, _⟩ => ⟨S1x1024, .f32⟩
  | .hbm, ⟨92, _⟩ => ⟨S32768x4096, .bf16⟩
  | .hbm, ⟨93, _⟩ => ⟨S32768x1792, .bf16⟩
  | .hbm, ⟨94, _⟩ => ⟨S128x1152x256, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1x1024x4096, .bf16⟩
  | .local _ .vmem, ⟨4, _⟩ => ⟨S1x1024x1792, .bf16⟩
  | .local _ .vmem, ⟨5, _⟩ => ⟨S1x1792, .f32⟩
  | .local _ .vmem, ⟨6, _⟩ => ⟨S256x256, .bf16⟩
  | .local _ .vmem, ⟨7, _⟩ => ⟨S1x1024x1152, .bf16⟩
  | .local _ .vmem, ⟨8, _⟩ => ⟨S512x4096, .bf16⟩
  | .local _ .vmem, ⟨9, _⟩ => ⟨S512x4096, .bf16⟩
  | .local _ .vmem, ⟨10, _⟩ => ⟨S512x1792, .bf16⟩
  | .local _ .vmem, ⟨11, _⟩ => ⟨S512x1792, .bf16⟩
  | .local _ .vmem, ⟨12, _⟩ => ⟨S2x1152x256, .bf16⟩
  | .local _ .vmem, ⟨13, _⟩ => ⟨S2x1152x256, .bf16⟩
  | _, _ => ⟨S16x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_cst_0 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_cst_1 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_v51 : Ref sig .tc := ⟨.hbm, 61, rfl⟩
abbrev main_c : Ref sig .tc := ⟨.hbm, 62, rfl⟩
abbrev main_call0_v0 : Ref sig .tc := ⟨.hbm, 63, rfl⟩
abbrev main_call0_v1 : Ref sig .tc := ⟨.hbm, 64, rfl⟩
abbrev main_call0_v2 : Ref sig .tc := ⟨.hbm, 65, rfl⟩
abbrev main_call0_v3 : Ref sig .tc := ⟨.hbm, 66, rfl⟩
abbrev main_call0_v4 : Ref sig .tc := ⟨.hbm, 67, rfl⟩
abbrev main_call0_v5 : Ref sig .tc := ⟨.hbm, 68, rfl⟩
abbrev main_call0_v6 : Ref sig .tc := ⟨.hbm, 69, rfl⟩
abbrev main_call0_v7 : Ref sig .tc := ⟨.hbm, 70, rfl⟩
abbrev main_call0_v8 : Ref sig .tc := ⟨.hbm, 71, rfl⟩
abbrev main_call0_c : Ref sig .tc := ⟨.hbm, 72, rfl⟩
abbrev main_call0_v9 : Ref sig .tc := ⟨.hbm, 73, rfl⟩
abbrev main_call0_v10 : Ref sig .tc := ⟨.hbm, 74, rfl⟩
abbrev main_call0_v11 : Ref sig .tc := ⟨.hbm, 75, rfl⟩
abbrev main_call0_c_0 : Ref sig .tc := ⟨.hbm, 76, rfl⟩
abbrev main_call0_v12 : Ref sig .tc := ⟨.hbm, 77, rfl⟩
abbrev main_call0_v13 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_cst_2 : Ref sig .tc := ⟨.hbm, 85, rfl⟩
abbrev main_cst_3 : Ref sig .tc := ⟨.hbm, 86, rfl⟩
abbrev main_call1_v0 : Ref sig .tc := ⟨.hbm, 87, rfl⟩
abbrev main_call1_v1 : Ref sig .tc := ⟨.hbm, 88, rfl⟩
abbrev main_v58 : Ref sig .tc := ⟨.hbm, 89, rfl⟩
abbrev main_v59 : Ref sig .tc := ⟨.hbm, 90, rfl⟩
abbrev main_v60 : Ref sig .tc := ⟨.hbm, 91, rfl⟩
abbrev main_v61_0 : Ref sig .tc := ⟨.hbm, 92, rfl⟩
abbrev main_v61_1 : Ref sig .tc := ⟨.hbm, 93, rfl⟩
abbrev main_v61_2 : Ref sig .tc := ⟨.hbm, 94, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9
abbrev cc0_sem8_0 : DmaSem sig := 10
abbrev cc0_sem8_1 : DmaSem sig := 11
abbrev cc0_sem9_0 : DmaSem sig := 12
abbrev cc0_sem9_1 : DmaSem sig := 13

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024x4096 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024x1792 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1792 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x256 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024x1152 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x4096 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1792 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S2x1152x256 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== Reference4Ideal.lean ====
abbrev S16x2048x1024 : Shape := ⟨3, ![16, 2048, 1024]⟩
abbrev S2x1024 : Shape := ⟨2, ![2, 1024]⟩
abbrev S2x1024x6912 : Shape := ⟨3, ![2, 1024, 6912]⟩
abbrev S2x64 : Shape := ⟨2, ![2, 64]⟩
abbrev S1x1024 : Shape := ⟨2, ![1, 1024]⟩
abbrev S1024 : Shape := ⟨1, ![1024]⟩
abbrev S_ : Shape := ⟨0, ![]⟩
abbrev S16x2048 : Shape := ⟨2, ![16, 2048]⟩
abbrev S16x2048x1 : Shape := ⟨3, ![16, 2048, 1]⟩
abbrev S1x1x1024 : Shape := ⟨3, ![1, 1, 1024]⟩
abbrev S1x1024x6912 : Shape := ⟨3, ![1, 1024, 6912]⟩
abbrev S1024x6912 : Shape := ⟨2, ![1024, 6912]⟩
abbrev S16x2048x6912 : Shape := ⟨3, ![16, 2048, 6912]⟩
abbrev S16x2048x512 : Shape := ⟨3, ![16, 2048, 512]⟩
abbrev S16x2048x128 : Shape := ⟨3, ![16, 2048, 128]⟩
abbrev S16x2048x8x64 : Shape := ⟨4, ![16, 2048, 8, 64]⟩
abbrev S1x64 : Shape := ⟨2, ![1, 64]⟩
abbrev S64 : Shape := ⟨1, ![64]⟩
abbrev S16x2048x8 : Shape := ⟨3, ![16, 2048, 8]⟩
abbrev S16x2048x8x1 : Shape := ⟨4, ![16, 2048, 8, 1]⟩
abbrev S1x1x1x64 : Shape := ⟨4, ![1, 1, 1, 64]⟩
abbrev S16x2048x2x64 : Shape := ⟨4, ![16, 2048, 2, 64]⟩
abbrev S16x2048x2 : Shape := ⟨3, ![16, 2048, 2]⟩
abbrev S16x2048x2x1 : Shape := ⟨4, ![16, 2048, 2, 1]⟩
abbrev S16x2048x1x64 : Shape := ⟨4, ![16, 2048, 1, 64]⟩
abbrev S16x2048x64 : Shape := ⟨3, ![16, 2048, 64]⟩
abbrev S16x2048x4096 : Shape := ⟨3, ![16, 2048, 4096]⟩
abbrev S16x2048x1792 : Shape := ⟨3, ![16, 2048, 1792]⟩
abbrev S16x2048x1152 : Shape := ⟨3, ![16, 2048, 1152]⟩
abbrev S32768x4096 : Shape := ⟨2, ![32768, 4096]⟩
abbrev S32768x1792 : Shape := ⟨2, ![32768, 1792]⟩
abbrev S128x256x1152 : Shape := ⟨3, ![128, 256, 1152]⟩
abbrev S128x1152x256 : Shape := ⟨3, ![128, 1152, 256]⟩

abbrev nBuf : Space → Nat
  | .hbm => 142
  | .vmem => 0
  | .smem => 0
  | _ => 0

abbrev hbmTy0_0 (i : Nat) : BufTy := match i % 128 with
  | 0 => ⟨S16x2048x1024, .f32⟩
  | 1 => ⟨S2x1024, .f32⟩
  | 2 => ⟨S2x1024x6912, .f32⟩
  | 3 => ⟨S2x64, .f32⟩
  | 4 => ⟨S2x64, .f32⟩
  | 5 => ⟨S2x64, .f32⟩
  | 6 => ⟨S2x64, .f32⟩
  | 7 => ⟨S1x1024, .f32⟩
  | 8 => ⟨S1024, .f32⟩
  | 9 => ⟨S16x2048x1024, .f32⟩
  | 10 => ⟨S_, .f32⟩
  | 11 => ⟨S16x2048, .f32⟩
  | 12 => ⟨S16x2048x1, .f32⟩
  | 13 => ⟨S_, .f32⟩
  | 14 => ⟨S16x2048x1, .f32⟩
  | 15 => ⟨S16x2048x1, .f32⟩
  | 16 => ⟨S_, .f32⟩
  | 17 => ⟨S16x2048x1, .f32⟩
  | 18 => ⟨S16x2048x1, .f32⟩
  | 19 => ⟨S16x2048x1, .f32⟩
  | 20 => ⟨S16x2048x1024, .f32⟩
  | 21 => ⟨S16x2048x1024, .f32⟩
  | 22 => ⟨S1x1x1024, .f32⟩
  | 23 => ⟨S16x2048x1024, .f32⟩
  | 24 => ⟨S16x2048x1024, .f32⟩
  | 25 => ⟨S1x1024x6912, .f32⟩
  | 26 => ⟨S1024x6912, .f32⟩
  | 27 => ⟨S16x2048x6912, .f32⟩
  | 28 => ⟨S16x2048x512, .f32⟩
  | 29 => ⟨S16x2048x512, .f32⟩
  | 30 => ⟨S16x2048x512, .f32⟩
  | 31 => ⟨S16x2048x512, .f32⟩
  | 32 => ⟨S16x2048x512, .f32⟩
  | 33 => ⟨S16x2048x512, .f32⟩
  | 34 => ⟨S16x2048x512, .f32⟩
  | 35 => ⟨S16x2048x128, .f32⟩
  | 36 => ⟨S16x2048x128, .f32⟩
  | 37 => ⟨S16x2048x1024, .f32⟩
  | 38 => ⟨S16x2048x1024, .f32⟩
  | 39 => ⟨S16x2048x1024, .f32⟩
  | 40 => ⟨S16x2048x8x64, .f32⟩
  | 41 => ⟨S1x64, .f32⟩
  | 42 => ⟨S64, .f32⟩
  | 43 => ⟨S16x2048x8x64, .f32⟩
  | 44 => ⟨S_, .f32⟩
  | 45 => ⟨S16x2048x8, .f32⟩
  | 46 => ⟨S16x2048x8x1, .f32⟩
  | 47 => ⟨S_, .f32⟩
  | 48 => ⟨S16x2048x8x1, .f32⟩
  | 49 => ⟨S16x2048x8x1, .f32⟩
  | 50 => ⟨S_, .f32⟩
  | 51 => ⟨S16x2048x8x1, .f32⟩
  | 52 => ⟨S16x2048x8x1, .f32⟩
  | 53 => ⟨S16x2048x8x1, .f32⟩
  | 54 => ⟨S16x2048x8x64, .f32⟩
  | 55 => ⟨S16x2048x8x64, .f32⟩
  | 56 => ⟨S1x1x1x64, .f32⟩
  | 57 => ⟨S16x2048x8x64, .f32⟩
  | 58 => ⟨S16x2048x8x64, .f32⟩
  | 59 => ⟨S_, .f32⟩
  | 60 => ⟨S16x2048x8x64, .f32⟩
  | 61 => ⟨S16x2048x8x64, .f32⟩
  | 62 => ⟨S16x2048x8x64, .f32⟩
  | 63 => ⟨S1x64, .f32⟩
  | 64 => ⟨S64, .f32⟩
  | 65 => ⟨S16x2048x8x64, .f32⟩
  | 66 => ⟨S_, .f32⟩
  | 67 => ⟨S16x2048x8, .f32⟩
  | 68 => ⟨S16x2048x8x1, .f32⟩
  | 69 => ⟨S_, .f32⟩
  | 70 => ⟨S16x2048x8x1, .f32⟩
  | 71 => ⟨S16x2048x8x1, .f32⟩
  | 72 => ⟨S_, .f32⟩
  | 73 => ⟨S16x2048x8x1, .f32⟩
  | 74 => ⟨S16x2048x8x1, .f32⟩
  | 75 => ⟨S16x2048x8x1, .f32⟩
  | 76 => ⟨S16x2048x8x64, .f32⟩
  | 77 => ⟨S16x2048x8x64, .f32⟩
  | 78 => ⟨S1x1x1x64, .f32⟩
  | 79 => ⟨S16x2048x8x64, .f32⟩
  | 80 => ⟨S16x2048x8x64, .f32⟩
  | 81 => ⟨S16x2048x8x64, .f32⟩
  | 82 => ⟨S1x64, .f32⟩
  | 83 => ⟨S64, .f32⟩
  | 84 => ⟨S16x2048x8x64, .f32⟩
  | 85 => ⟨S_, .f32⟩
  | 86 => ⟨S16x2048x8, .f32⟩
  | 87 => ⟨S16x2048x8x1, .f32⟩
  | 88 => ⟨S_, .f32⟩
  | 89 => ⟨S16x2048x8x1, .f32⟩
  | 90 => ⟨S16x2048x8x1, .f32⟩
  | 91 => ⟨S_, .f32⟩
  | 92 => ⟨S16x2048x8x1, .f32⟩
  | 93 => ⟨S16x2048x8x1, .f32⟩
  | 94 => ⟨S16x2048x8x1, .f32⟩
  | 95 => ⟨S16x2048x8x64, .f32⟩
  | 96 => ⟨S16x2048x8x64, .f32⟩
  | 97 => ⟨S1x1x1x64, .f32⟩
  | 98 => ⟨S16x2048x8x64, .f32⟩
  | 99 => ⟨S16x2048x8x64, .f32⟩
  | 100 => ⟨S_, .f32⟩
  | 101 => ⟨S16x2048x8x64, .f32⟩
  | 102 => ⟨S16x2048x8x64, .f32⟩
  | 103 => ⟨S16x2048x2x64, .f32⟩
  | 104 => ⟨S1x64, .f32⟩
  | 105 => ⟨S64, .f32⟩
  | 106 => ⟨S16x2048x2x64, .f32⟩
  | 107 => ⟨S_, .f32⟩
  | 108 => ⟨S16x2048x2, .f32⟩
  | 109 => ⟨S16x2048x2x1, .f32⟩
  | 110 => ⟨S_, .f32⟩
  | 111 => ⟨S16x2048x2x1, .f32⟩
  | 112 => ⟨S16x2048x2x1, .f32⟩
  | 113 => ⟨S_, .f32⟩
  | 114 => ⟨S16x2048x2x1, .f32⟩
  | 115 => ⟨S16x2048x2x1, .f32⟩
  | 116 => ⟨S16x2048x2x1, .f32⟩
  | 117 => ⟨S16x2048x2x64, .f32⟩
  | 118 => ⟨S16x2048x2x64, .f32⟩
  | 119 => ⟨S1x1x1x64, .f32⟩
  | 120 => ⟨S16x2048x2x64, .f32⟩
  | 121 => ⟨S16x2048x2x64, .f32⟩
  | 122 => ⟨S16x2048x1x64, .f32⟩
  | 123 => ⟨S16x2048x64, .f32⟩
  | 124 => ⟨S16x2048x1x64, .f32⟩
  | 125 => ⟨S16x2048x64, .f32⟩
  | 126 => ⟨S_, .f32⟩
  | 127 => ⟨S16x2048x512, .f32⟩
  | _ => ⟨S16x2048x1024, .f32⟩

abbrev hbmTy0_1 (i : Nat) : BufTy := match i % 128 with
  | 0 => ⟨S16x2048x512, .f32⟩
  | 1 => ⟨S16x2048x4096, .f32⟩
  | 2 => ⟨S16x2048x512, .f32⟩
  | 3 => ⟨S16x2048x512, .f32⟩
  | 4 => ⟨S16x2048x512, .f32⟩
  | 5 => ⟨S16x2048x1792, .f32⟩
  | 6 => ⟨S16x2048x1152, .f32⟩
  | 7 => ⟨S32768x4096, .f32⟩
  | 8 => ⟨S32768x4096, .bf16⟩
  | 9 => ⟨S32768x1792, .f32⟩
  | 10 => ⟨S32768x1792, .bf16⟩
  | 11 => ⟨S128x256x1152, .f32⟩
  | 12 => ⟨S128x1152x256, .f32⟩
  | 13 => ⟨S128x1152x256, .bf16⟩
  | _ => ⟨S16x2048x1024, .f32⟩

abbrev hbmTy (i : Nat) : BufTy := match i / 128 with
  | 0 => hbmTy0_0 i
  | 1 => hbmTy0_1 i
  | _ => ⟨S16x2048x1024, .f32⟩

abbrev bufTy : (tb : Table) → Fin (tcTables nBuf tb) → BufTy
  | .hbm, ⟨i, _⟩ => hbmTy i
  | _, _ => ⟨S16x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_cst : Ref sig .tc := ⟨.hbm, 10, rfl⟩
abbrev main_v3 : Ref sig .tc := ⟨.hbm, 11, rfl⟩
abbrev main_v4 : Ref sig .tc := ⟨.hbm, 12, rfl⟩
abbrev main_cst_0 : Ref sig .tc := ⟨.hbm, 13, rfl⟩
abbrev main_v5 : Ref sig .tc := ⟨.hbm, 14, rfl⟩
abbrev main_v6 : Ref sig .tc := ⟨.hbm, 15, rfl⟩
abbrev main_cst_1 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_cst_2 : Ref sig .tc := ⟨.hbm, 44, rfl⟩
abbrev main_v34 : Ref sig .tc := ⟨.hbm, 45, rfl⟩
abbrev main_v35 : Ref sig .tc := ⟨.hbm, 46, rfl⟩
abbrev main_cst_3 : Ref sig .tc := ⟨.hbm, 47, rfl⟩
abbrev main_v36 : Ref sig .tc := ⟨.hbm, 48, rfl⟩
abbrev main_v37 : Ref sig .tc := ⟨.hbm, 49, rfl⟩
abbrev main_cst_4 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_cst_5 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_cst_6 : Ref sig .tc := ⟨.hbm, 66, rfl⟩
abbrev main_v52 : Ref sig .tc := ⟨.hbm, 67, rfl⟩
abbrev main_v53 : Ref sig .tc := ⟨.hbm, 68, rfl⟩
abbrev main_cst_7 : Ref sig .tc := ⟨.hbm, 69, rfl⟩
abbrev main_v54 : Ref sig .tc := ⟨.hbm, 70, rfl⟩
abbrev main_v55 : Ref sig .tc := ⟨.hbm, 71, rfl⟩
abbrev main_cst_8 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_cst_9 : Ref sig .tc := ⟨.hbm, 85, rfl⟩
abbrev main_v68 : Ref sig .tc := ⟨.hbm, 86, rfl⟩
abbrev main_v69 : Ref sig .tc := ⟨.hbm, 87, rfl⟩
abbrev main_cst_10 : Ref sig .tc := ⟨.hbm, 88, rfl⟩
abbrev main_v70 : Ref sig .tc := ⟨.hbm, 89, rfl⟩
abbrev main_v71 : Ref sig .tc := ⟨.hbm, 90, rfl⟩
abbrev main_cst_11 : Ref sig .tc := ⟨.hbm, 91, rfl⟩
abbrev main_v72 : Ref sig .tc := ⟨.hbm, 92, rfl⟩
abbrev main_v73 : Ref sig .tc := ⟨.hbm, 93, rfl⟩
abbrev main_v74 : Ref sig .tc := ⟨.hbm, 94, rfl⟩
abbrev main_v75 : Ref sig .tc := ⟨.hbm, 95, rfl⟩
abbrev main_v76 : Ref sig .tc := ⟨.hbm, 96, rfl⟩
abbrev main_v77 : Ref sig .tc := ⟨.hbm, 97, rfl⟩
abbrev main_v78 : Ref sig .tc := ⟨.hbm, 98, rfl⟩
abbrev main_v79 : Ref sig .tc := ⟨.hbm, 99, rfl⟩
abbrev main_cst_12 : Ref sig .tc := ⟨.hbm, 100, rfl⟩
abbrev main_v80 : Ref sig .tc := ⟨.hbm, 101, rfl⟩
abbrev main_v81 : Ref sig .tc := ⟨.hbm, 102, rfl⟩
abbrev main_v82 : Ref sig .tc := ⟨.hbm, 103, rfl⟩
abbrev main_v83 : Ref sig .tc := ⟨.hbm, 104, rfl⟩
abbrev main_v84 : Ref sig .tc := ⟨.hbm, 105, rfl⟩
abbrev main_v85 : Ref sig .tc := ⟨.hbm, 106, rfl⟩
abbrev main_cst_13 : Ref sig .tc := ⟨.hbm, 107, rfl⟩
abbrev main_v86 : Ref sig .tc := ⟨.hbm, 108, rfl⟩
abbrev main_v87 : Ref sig .tc := ⟨.hbm, 109, rfl⟩
abbrev main_cst_14 : Ref sig .tc := ⟨.hbm, 110, rfl⟩
abbrev main_v88 : Ref sig .tc := ⟨.hbm, 111, rfl⟩
abbrev main_v89 : Ref sig .tc := ⟨.hbm, 112, rfl⟩
abbrev main_cst_15 : Ref sig .tc := ⟨.hbm, 113, rfl⟩
abbrev main_v90 : Ref sig .tc := ⟨.hbm, 114, rfl⟩
abbrev main_v91 : Ref sig .tc := ⟨.hbm, 115, rfl⟩
abbrev main_v92 : Ref sig .tc := ⟨.hbm, 116, rfl⟩
abbrev main_v93 : Ref sig .tc := ⟨.hbm, 117, rfl⟩
abbrev main_v94 : Ref sig .tc := ⟨.hbm, 118, rfl⟩
abbrev main_v95 : Ref sig .tc := ⟨.hbm, 119, rfl⟩
abbrev main_v96 : Ref sig .tc := ⟨.hbm, 120, rfl⟩
abbrev main_v97 : Ref sig .tc := ⟨.hbm, 121, rfl⟩
abbrev main_v98 : Ref sig .tc := ⟨.hbm, 122, rfl⟩
abbrev main_v99 : Ref sig .tc := ⟨.hbm, 123, rfl⟩
abbrev main_v100 : Ref sig .tc := ⟨.hbm, 124, rfl⟩
abbrev main_v101 : Ref sig .tc := ⟨.hbm, 125, rfl⟩
abbrev main_cst_16 : Ref sig .tc := ⟨.hbm, 126, rfl⟩
abbrev main_v102 : Ref sig .tc := ⟨.hbm, 127, rfl⟩
abbrev main_v103 : Ref sig .tc := ⟨.hbm, 128, rfl⟩
abbrev main_v104 : Ref sig .tc := ⟨.hbm, 129, rfl⟩
abbrev main_v105 : Ref sig .tc := ⟨.hbm, 130, rfl⟩
abbrev main_v106 : Ref sig .tc := ⟨.hbm, 131, rfl⟩
abbrev main_v107 : Ref sig .tc := ⟨.hbm, 132, rfl⟩
abbrev main_v108 : Ref sig .tc := ⟨.hbm, 133, rfl⟩
abbrev main_v109 : Ref sig .tc := ⟨.hbm, 134, rfl⟩
abbrev main_v110 : Ref sig .tc := ⟨.hbm, 135, rfl⟩
abbrev main_v111 : Ref sig .tc := ⟨.hbm, 136, rfl⟩
abbrev main_v112 : Ref sig .tc := ⟨.hbm, 137, rfl⟩
abbrev main_v113 : Ref sig .tc := ⟨.hbm, 138, rfl⟩
abbrev main_v114 : Ref sig .tc := ⟨.hbm, 139, rfl⟩
abbrev main_v115 : Ref sig .tc := ⟨.hbm, 140, rfl⟩
abbrev main_v116 : Ref sig .tc := ⟨.hbm, 141, rfl⟩

abbrev nD : Nat := 1
abbrev τ : Topo := Topo.v7x

variable {F : FTy → Type} [FloatOps F]
-- ==== Proof.Safe.lean ====
module

public import proofs.«01_k».proof.Proof.Gen.Kernel.Skeleton
public import proofs.«01_k».proof.Proof.Gen.Kernel.Points
public import Idealize.ShloMosaic.Lib.Tactic
public import Idealize.ShloMosaic.Lib.Scf

@[expose] public section

set_option maxRecDepth 16384

noncomputable section

namespace Cert.Attention

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [BitOps F]

local notation "𝕄" => MT nD τ sig Unit (Elt F) ℕ (UR sig nD τ) ℕ

/-- A memref's whole buffer is held at some contents. -/
def Held (c : Dev nD) {sp : CoreSpace} {s : Shape} {e : EltTy} (M : Memref sig .tc sp s e) : sProp 𝕄 :=
  iprop(∃ f : Buf (Elt F) (M.view.loc (c : Thread nD τ)), (M.view.loc (c : Thread nD τ)) ↦{fullShare} f)

/-- The buffer can be taken out of the resources `H` and put back with any contents. -/
def Lends (c : Dev nD) (H : sProp 𝕄) {sp : CoreSpace} {s : Shape} {e : EltTy} (M : Memref sig .tc sp s e) : Prop :=
  H ⊢ iprop(Held (F := F) c M ∗ (Held (F := F) c M -∗ H))

/-- From the resources `H` a program runs to its end and gives them back, and what it returns satisfies `Q`. -/
def Safe (c : Dev nD) (bd : Option ℕ) (H : sProp 𝕄) {α : Type} (p : Prog (TpuEff nD τ sig (Elt F) (Λ₀ F) .tc) α) (Q : α → Prop) : Prop :=
  ∀ K : α → sProp 𝕄, iprop(H ∗ ∀ r, ⌜Q r⌝ -∗ (H -∗ K r)) ⊢ wp frame (wpE (defs₀ (F := F)) Variants.nat (c : Thread nD τ) bd) Set.univ p K

section Rules
variable {c : Dev nD} {bd : Option ℕ} {α β : Type} {Q : α → Prop}
variable {H : sProp (MT nD τ sig Unit (Elt F) ℕ (UR sig nD τ) ℕ)}

theorem Safe.pure {x : α} (h : Q x) : Safe (F := F) c bd H (pure x) Q := by
  intro K
  rw [show (Pure.pure x : Prog (TpuEff nD τ sig (Elt F) (Λ₀ F) .tc) α) = .ret x from rfl, wp_ret]
  iintro ⟨HH, HK⟩
  imodintro
  iapply HK $$ %_ %h
  iexact HH

theorem Safe.mono {p : Prog (TpuEff nD τ sig (Elt F) (Λ₀ F) .tc) α} {Q' : α → Prop} (hp : Safe (F := F) c bd H p Q')
    (hQ : ∀ r, Q' r → Q r) : Safe (F := F) c bd H p Q := by
  intro K
  refine BIBase.Entails.trans ?_ (hp K)
  iintro ⟨HH, HK⟩
  isplitl [HH]; · iexact HH
  iintro %r %hr HH
  iapply HK $$ %r %(hQ r hr)
  iexact HH

theorem Safe.bind {p : Prog (TpuEff nD τ sig (Elt F) (Λ₀ F) .tc) β} {k : β → Prog (TpuEff nD τ sig (Elt F) (Λ₀ F) .tc) α} {Q' : β → Prop}
    (hp : Safe (F := F) c bd H p Q') (hk : ∀ r, Q' r → Safe (F := F) c bd H (k r) Q) : Safe (F := F) c bd H (p >>= k) Q := by
  intro K
  rw [wp_bind]
  refine BIBase.Entails.trans ?_ (hp _)
  iintro ⟨HH, HK⟩
  isplitl [HH]; · iexact HH
  iintro %r %hr HH
  iapply (hk r hr K)
  isplitl [HH]; · iexact HH
  iexact HK

/-- The same with nothing asked of what the first part returns. -/
theorem Safe.seq {p : Prog (TpuEff nD τ sig (Elt F) (Λ₀ F) .tc) β} {k : β → Prog (TpuEff nD τ sig (Elt F) (Λ₀ F) .tc) α}
    (hp : Safe (F := F) c bd H p fun _ => True) (hk : ∀ r, Safe (F := F) c bd H (k r) Q) : Safe (F := F) c bd H (p >>= k) Q :=
  hp.bind fun r _ => hk r

theorem Safe.load {sp : CoreSpace} {s : Shape} {e : EltTy} {M : Memref sig .tc sp s e} {r : LoadRect s} {hl : M.view.LoadsAt r}
    (hM : Lends (F := F) c H M) : Safe (F := F) c bd H (Prog.lift (.load M r hl)) fun _ => True := by
  intro K
  refine BIBase.Entails.trans (sep_mono_left hM) ?_
  unfold Held Prog.lift
  iintro ⟨⟨⟨%f, Hf⟩, Hb⟩, HK⟩
  iapply (wp_load Variants.nat (c : Thread nD τ) bd Set.univ (m := M) (Finset.subset_univ _)) $$ Hf
  iintro Hf
  rw [wp_ret]; imodintro
  iapply HK $$ %_ %trivial
  iapply Hb
  iexists _; iexact Hf

theorem Safe.store {sp : CoreSpace} {s : Shape} {e : EltTy} {M : Memref sig .tc sp s e} {r : Rect s} {w : r.shape.Idx → Elt F e} {Mk : Finset r.shape.Idx}
    {hx : (M.access r).Stores Mk} {hm : Mk = Finset.univ ∨ ∀ a, r.stride a = 1}
    (hM : Lends (F := F) c H M) : Safe (F := F) c bd H (Prog.lift (.store M r w Mk hx hm)) fun _ => True := by
  intro K
  refine BIBase.Entails.trans (sep_mono_left hM) ?_
  unfold Held Prog.lift
  iintro ⟨⟨⟨%f, Hf⟩, Hb⟩, HK⟩
  iapply (wp_store Variants.nat (c : Thread nD τ) bd Set.univ (m := M) (r := r) (Mk := Mk) (Finset.subset_univ _)) $$ Hf
  iintro Hf
  rw [wp_ret]; imodintro
  iapply HK $$ %_ %trivial
  iapply Hb
  iexists _; iexact Hf

theorem Safe.word {s : Shape} {e : EltTy} {M : Memref sig .tc .smem s e} {r : Rect s} {h1 : r.shape.numel = 1} {hp : e.packing = 1}
    (hM : Lends (F := F) c H M) : Safe (F := F) c bd H (smemLoad M r h1 hp) fun _ => True := by
  intro K
  refine BIBase.Entails.trans (sep_mono_left hM) ?_
  unfold Held smemLoad
  iintro ⟨⟨⟨%f, Hf⟩, Hb⟩, HK⟩
  iapply (wp_smemLoadElt Variants.nat (c : Thread nD τ) bd Set.univ (m := M) (r := r) (Finset.subset_univ _)) $$ Hf
  iintro Hf
  rw [wp_ret]; imodintro
  iapply HK $$ %_ %trivial
  iapply Hb
  iexists _; iexact Hf

theorem Safe.assume {P : Prop} {d : Decidable P} (h : P) : Safe (F := F) c bd H (Prog.lift (.assume P d)) fun _ => True := by
  intro K
  unfold Prog.lift
  iintro ⟨HH, HK⟩
  iapply (wp_assume Variants.nat (c : Thread nD τ) bd Set.univ h)
  rw [wp_ret]; imodintro
  iapply HK $$ %_ %trivial
  iexact HH

theorem Safe.cond {b : Prop} [Decidable b] {p q : Prog (TpuEff nD τ sig (Elt F) (Λ₀ F) .tc) α}
    (hp : Safe (F := F) c bd H p Q) (hq : Safe (F := F) c bd H q Q) : Safe (F := F) c bd H (if b then p else q) Q := by
  split <;> assumption

/-- A call of a kernel label, its body run at a variant below the caller's. -/
theorem Safe.call {ℓ : (Λ₀ F).Label} {a : (Λ₀ F).Args ℓ} (v : ℕ) (hv : ∀ u ∈ bd, v < u)
    (h : Safe (F := F) c (some v) H (defs₀ (F := F) .tc ℓ a) fun _ => True) : Safe (F := F) c bd H (Prog.lift (.call ℓ a)) fun _ => True := by
  intro K
  unfold Prog.lift
  refine BIBase.Entails.trans ?_ (wp_call_spec Variants.nat (c : Thread nD τ) bd Set.univ
    (wp frame (wpE (defs₀ (F := F)) Variants.nat (c : Thread nD τ) (some v)) Set.univ (defs₀ (F := F) .tc ℓ a)) v hv (fun _ => le_rfl))
  refine BIBase.Entails.trans ?_ (h _)
  iintro ⟨HH, HK⟩
  isplitl [HH]; · iexact HH
  iintro %r - HH
  rw [wp_ret]; imodintro
  iapply HK $$ %_ %trivial
  iexact HH

theorem Safe.dcond {b : Prop} [Decidable b] {p : b → Prog (TpuEff nD τ sig (Elt F) (Λ₀ F) .tc) α} {q : ¬ b → Prog (TpuEff nD τ sig (Elt F) (Λ₀ F) .tc) α}
    (hp : ∀ h, Safe (F := F) c bd H (p h) Q) (hq : ∀ h, Safe (F := F) c bd H (q h) Q) : Safe (F := F) c bd H (if h : b then p h else q h) Q := by
  split
  · exact hp _
  · exact hq _

theorem Safe.loop {w : ℕ} (L : Scf.Loop w) (hok : L.OK) (init : α) (body : Fin L.trips → α → Prog (TpuEff nD τ sig (Elt F) (Λ₀ F) .tc) α)
    (hb : ∀ k a, Safe (F := F) c bd H (body k a) fun _ => True) : Safe (F := F) c bd H (Scf.Loop.for L hok init body) fun _ => True := by
  intro K
  refine BIBase.Entails.trans ?_ (Scf.wp_for _ _ _ L.lb L.ub L.st hok init body (fun _ _ => H) (fun k a => ?_))
  · iintro ⟨HH, HK⟩
    isplitl [HH]; · iexact HH
    iintro %a HH
    iapply HK $$ %_ %trivial
    iexact HH
  · refine BIBase.Entails.trans ?_ (hb k a _)
    iintro HH
    isplitl [HH]; · iexact HH
    iintro %r - HH
    iexact HH
end Rules

attribute [irreducible] Safe

end Cert.Attention

end
-- ==== Proof.Lent.lean ====
module

public import proofs.«01_k».proof.Proof.Safe

@[expose] public section

set_option maxRecDepth 65536

noncomputable section

namespace Cert.Attention

open Cert.Kernel Cert.Kernel.Gen
open Idealize.ShloMosaic Idealize.ShloMosaic.TcCoe
open Idealize.SL Idealize.SL.RA Idealize.SL.BI
open Idealize.ShloMosaic.Rounds

variable {F : FTy → Type} [BitOps F] {c : Dev nD} {bd : Option ℕ}
variable {H : sProp (MT nD τ sig Unit (Elt F) ℕ (UR sig nD τ) ℕ)}

/-- All the buffers the attention's body reads and writes can be taken out of `H`, one at a time. -/
structure Lent (c : Dev nD) (H : sProp (MT nD τ sig Unit (Elt F) ℕ (UR sig nD τ) ℕ))
    (arg2 : Memref sig .tc .smem S8 .f32)
    (arg3 : Memref sig .tc .vmem S1x256x512 .bf16)
    (arg4 : Memref sig .tc .vmem S1x2048x512 .bf16)
    (arg5 : Memref sig .tc .vmem S1x256x512 .bf16)
    (arg6 : Memref sig .tc .vmem S1x2048x512 .bf16)
    (arg7 : Memref sig .tc .vmem S1x256x512 .bf16)
    (arg8 : Memref sig .tc .vmem S1x2048x256 .bf16)
    (arg9 : Memref sig .tc .vmem S8x512x256 .bf16)
    (arg10 : Memref sig .tc .vmem S8x512x256 .bf16)
    (arg11 : Memref sig .tc .vmem S8x128x256 .bf16)
    (arg12 : Memref sig .tc .vmem S256x256 .bf16)
    (arg13 : Memref sig .tc .vmem S4x2x256x256 .f32)
    (arg14 : Memref sig .tc .vmem S8x2x256x128 .f32)
    (arg15 : Memref sig .tc .vmem S4x64 .f32)
    (arg16 : Memref sig .tc .vmem S128x1 .f32)
    (arg17 : Memref sig .tc .vmem S1x256x1536 .bf16)
    (arg18 : Memref sig .tc .vmem S512x256 .f32)
    (arg19 : Memref sig .tc .vmem S16x256x256 .f32)
    (arg20 : Memref sig .tc .vmem S16x256x256 .f32)
    (arg21 : Memref sig .tc .vmem S8x128x256 .f32)
    (arg22 : Memref sig .tc .vmem S24x256x256 .f32)
    (arg23 : Memref sig .tc .vmem S24x144x256 .f32)
    (arg24 : Memref sig .tc .vmem S16x256x128 .f32)
    (arg25 : Memref sig .tc .vmem S16x80x128 .f32) : Prop where
  b2 : Lends (F := F) c H arg2
  b3 : Lends (F := F) c H arg3
  b4 : Lends (F := F) c H arg4
  b5 : Lends (F := F) c H arg5
  b6 : Lends (F := F) c H arg6
  b7 : Lends (F := F) c H arg7
  b8 : Lends (F := F) c H arg8
  b9 : Lends (F := F) c H arg9
  b10 : Lends (F := F) c H arg10
  b11 : Lends (F := F) c H arg11
  b12 : Lends (F := F) c H arg12
  b13 : Lends (F := F) c H arg13
  b14 : Lends (F := F) c H arg14
  b15 : Lends (F := F) c H arg15
  b16 : Lends (F := F) c H arg16
  b17 : Lends (F := F) c H arg17
  b18 : Lends (F := F) c H arg18
  b19 : Lends (F := F) c H arg19
  b20 : Lends (F := F) c H arg20
  b21 : Lends (F := F) c H arg21
  b22 : Lends (F := F) c H arg22
  b23 : Lends (F := F) c H arg23
  b24 : Lends (F := F) c H arg24
  b25 : Lends (F := F) c H arg25

end Cert.Attention

end
-- ==== Proof.PartsA.lean ====
module

public import proofs.«01_k».proof.Proof.Lent

@[expose] public section

set_option maxRecDepth 65536

noncomputable section

namespace Cert.Attention

open Cert.Kernel Cert.Kernel.Gen
open Idealize.ShloMosaic Idealize.ShloMosaic.TcCoe
open Idealize.SL Idealize.SL.RA Idealize.SL.BI
open Idealize.ShloMosaic.Rounds

variable {F : FTy → Type} [BitOps F] {c : Dev nD} {bd : Option ℕ}
variable {H : sProp (MT nD τ sig Unit (Elt F) ℕ (UR sig nD τ) ℕ)}

variable {i : grid0.Coords}
variable {arg2 : Memref sig .tc .smem S8 .f32} {harg2 : arg2.IsWhole}
variable {arg3 : Memref sig .tc .vmem S1x256x512 .bf16} {harg3 : arg3.IsWhole}
variable {arg4 : Memref sig .tc .vmem S1x2048x512 .bf16} {harg4 : arg4.IsWhole}
variable {arg5 : Memref sig .tc .vmem S1x256x512 .bf16} {harg5 : arg5.IsWhole}
variable {arg6 : Memref sig .tc .vmem S1x2048x512 .bf16} {harg6 : arg6.IsWhole}
variable {arg7 : Memref sig .tc .vmem S1x256x512 .bf16} {harg7 : arg7.IsWhole}
variable {arg8 : Memref sig .tc .vmem S1x2048x256 .bf16} {harg8 : arg8.IsWhole}
variable {arg9 : Memref sig .tc .vmem S8x512x256 .bf16} {harg9 : arg9.IsWhole}
variable {arg10 : Memref sig .tc .vmem S8x512x256 .bf16} {harg10 : arg10.IsWhole}
variable {arg11 : Memref sig .tc .vmem S8x128x256 .bf16} {harg11 : arg11.IsWhole}
variable {arg12 : Memref sig .tc .vmem S256x256 .bf16} {harg12 : arg12.IsWhole}
variable {arg13 : Memref sig .tc .vmem S4x2x256x256 .f32} {harg13 : arg13.IsWhole}
variable {arg14 : Memref sig .tc .vmem S8x2x256x128 .f32} {harg14 : arg14.IsWhole}
variable {arg15 : Memref sig .tc .vmem S4x64 .f32} {harg15 : arg15.IsWhole}
variable {arg16 : Memref sig .tc .vmem S128x1 .f32} {harg16 : arg16.IsWhole}
variable {arg17 : Memref sig .tc .vmem S1x256x1536 .bf16} {harg17 : arg17.IsWhole}
variable {arg18 : Memref sig .tc .vmem S512x256 .f32} {harg18 : arg18.IsWhole}
variable {arg19 : Memref sig .tc .vmem S16x256x256 .f32} {harg19 : arg19.IsWhole}
variable {arg20 : Memref sig .tc .vmem S16x256x256 .f32} {harg20 : arg20.IsWhole}
variable {arg21 : Memref sig .tc .vmem S8x128x256 .f32} {harg21 : arg21.IsWhole}
variable {arg22 : Memref sig .tc .vmem S24x256x256 .f32} {harg22 : arg22.IsWhole}
variable {arg23 : Memref sig .tc .vmem S24x144x256 .f32} {harg23 : arg23.IsWhole}
variable {arg24 : Memref sig .tc .vmem S16x256x128 .f32} {harg24 : arg24.IsWhole}
variable {arg25 : Memref sig .tc .vmem S16x80x128 .f32} {harg25 : arg25.IsWhole}
variable (L : Lent (F := F) c H arg2 arg3 arg4 arg5 arg6 arg7 arg8 arg9 arg10 arg11 arg12 arg13 arg14 arg15 arg16 arg17 arg18 arg19 arg20 arg21 arg22 arg23 arg24 arg25)
include L

theorem p1 : ∀ arg1 v78 v79 k0_h1 k0_h2, Safe (F := F) c bd H (k0_part1 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg1 v78 v79 k0_h1 k0_h2) fun _ => True := by
  intros
  rw [k0_part1_eq_skeleton]
  delta k0_part1_skel
  refine Safe.seq (Safe.load L.b4) fun _ => ?_
  refine Safe.seq (Safe.load L.b9) fun _ => ?_
  refine Safe.seq (Safe.load L.b4) fun _ => ?_
  refine Safe.seq (Safe.load L.b9) fun _ => ?_
  refine Safe.seq (Safe.load L.b6) fun _ => ?_
  refine Safe.seq (Safe.load L.b10) fun _ => ?_
  refine Safe.seq (Safe.load L.b6) fun _ => ?_
  refine Safe.seq (Safe.load L.b10) fun _ => ?_
  exact Safe.pure trivial

theorem p2 : ∀ arg1 v0 v2 k0_h1 k0_h2 v240 v275, Safe (F := F) c bd H (k0_part2 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg1 v0 v2 k0_h1 k0_h2 v240 v275) fun _ => True := by
  intros
  rw [k0_part2_eq_skeleton]
  delta k0_part2_skel
  refine Safe.seq (Safe.load L.b6) fun _ => ?_
  refine Safe.seq (Safe.load L.b10) fun _ => ?_
  refine Safe.seq (Safe.load L.b7) fun _ => ?_
  refine Safe.seq (Safe.load L.b8) fun _ => ?_
  refine Safe.seq (Safe.load L.b11) fun _ => ?_
  refine Safe.seq (Safe.load L.b8) fun _ => ?_
  refine Safe.seq (Safe.load L.b11) fun _ => ?_
  exact Safe.pure trivial

theorem p3 : ∀ v284 v308 v309 v311 cst_133 cst_134, Safe (F := F) c bd H (k0_part3 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 v284 v308 v309 v311 cst_133 cst_134) fun _ => True := by
  intros
  rw [k0_part3_eq_skeleton]
  delta k0_part3_skel
  exact Safe.pure trivial

theorem p4 : ∀ v21 v60 v247 v263 v299 v324 v342 v349 v355 v361 v362, Safe (F := F) c bd H (k0_part4 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 v21 v60 v247 v263 v299 v324 v342 v349 v355 v361 v362) fun _ => True := by
  intros
  rw [k0_part4_eq_skeleton]
  delta k0_part4_skel
  refine Safe.seq (Safe.load L.b19) fun _ => ?_
  refine Safe.seq (Safe.store L.b19) fun _ => ?_
  refine Safe.seq (Safe.load L.b22) fun _ => ?_
  refine Safe.seq (Safe.store L.b22) fun _ => ?_
  refine Safe.seq (Safe.load L.b24) fun _ => ?_
  refine Safe.seq (Safe.store L.b24) fun _ => ?_
  refine Safe.seq (Safe.load L.b19) fun _ => ?_
  exact Safe.pure trivial

theorem p5 : ∀ v23 v39 v42 v62 v242 v247 v263 v394 v401, Safe (F := F) c bd H (k0_part5 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 v23 v39 v42 v62 v242 v247 v263 v394 v401) fun _ => True := by
  intros
  rw [k0_part5_eq_skeleton]
  delta k0_part5_skel
  refine Safe.seq (Safe.load L.b19) fun _ => ?_
  refine Safe.seq (Safe.store L.b19) fun _ => ?_
  refine Safe.seq (Safe.load L.b22) fun _ => ?_
  refine Safe.seq (Safe.load L.b13) fun _ => ?_
  refine Safe.seq (Safe.load L.b20) fun _ => ?_
  refine Safe.seq (Safe.store L.b20) fun _ => ?_
  refine Safe.seq (Safe.load L.b22) fun _ => ?_
  refine Safe.seq (Safe.store L.b22) fun _ => ?_
  refine Safe.seq (Safe.word L.b2) fun _ => ?_
  exact Safe.pure trivial

theorem p6 : ∀ v42 k0_h1 k0_h2 v299 v306 v307 v326 v418 v421 v432, Safe (F := F) c bd H (k0_part6 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 v42 k0_h1 k0_h2 v299 v306 v307 v326 v418 v421 v432) fun _ => True := by
  intros
  rw [k0_part6_eq_skeleton]
  delta k0_part6_skel
  refine Safe.seq (Safe.load L.b24) fun _ => ?_
  refine Safe.seq (Safe.load L.b14) fun _ => ?_
  refine Safe.seq (Safe.load L.b24) fun _ => ?_
  refine Safe.seq (Safe.store L.b24) fun _ => ?_
  refine Safe.seq (Safe.load L.b19) fun _ => ?_
  exact Safe.pure trivial

theorem p7 : ∀ v3 v26 v42 v241 v247 v266 v392 v407 v408 v446 v450 v474, Safe (F := F) c bd H (k0_part7 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 v3 v26 v42 v241 v247 v266 v392 v407 v408 v446 v450 v474) fun _ => True := by
  intros
  rw [k0_part7_eq_skeleton]
  delta k0_part7_skel
  refine Safe.seq (Safe.load L.b25) fun _ => ?_
  refine Safe.seq (Safe.store L.b25) fun _ => ?_
  refine Safe.seq (Safe.load L.b23) fun _ => ?_
  refine Safe.seq (Safe.store L.b23) fun _ => ?_
  refine Safe.seq (Safe.load L.b20) fun _ => ?_
  refine Safe.seq (Safe.load L.b19) fun _ => ?_
  refine Safe.seq (Safe.store L.b19) fun _ => ?_
  refine Safe.seq (Safe.load L.b22) fun _ => ?_
  refine Safe.seq (Safe.load L.b13) fun _ => ?_
  exact Safe.pure trivial

theorem p8 : ∀ v39 v65 k0_h1 k0_h2 v242 v250 v263 v307 v473 v498 v508, Safe (F := F) c bd H (k0_part8 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 v39 v65 k0_h1 k0_h2 v242 v250 v263 v307 v473 v498 v508) fun _ => True := by
  intros
  rw [k0_part8_eq_skeleton]
  delta k0_part8_skel
  refine Safe.seq (Safe.load L.b20) fun _ => ?_
  refine Safe.seq (Safe.store L.b20) fun _ => ?_
  refine Safe.seq (Safe.load L.b18) fun _ => ?_
  refine Safe.seq (Safe.store L.b18) fun _ => ?_
  refine Safe.seq (Safe.load L.b22) fun _ => ?_
  refine Safe.seq (Safe.store L.b22) fun _ => ?_
  refine Safe.seq (Safe.word L.b2) fun _ => ?_
  refine Safe.seq (Safe.load L.b24) fun _ => ?_
  refine Safe.seq (Safe.load L.b14) fun _ => ?_
  exact Safe.pure trivial

theorem p9 : ∀ v299 v329 v432 v442 v544, Safe (F := F) c bd H (k0_part9 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 v299 v329 v432 v442 v544) fun _ => True := by
  intros
  rw [k0_part9_eq_skeleton]
  delta k0_part9_skel
  refine Safe.seq (Safe.load L.b25) fun _ => ?_
  refine Safe.seq (Safe.load L.b23) fun _ => ?_
  refine Safe.seq (Safe.load L.b21) fun _ => ?_
  refine Safe.seq (Safe.store L.b21) fun _ => ?_
  refine Safe.seq (Safe.load L.b24) fun _ => ?_
  refine Safe.seq (Safe.store L.b24) fun _ => ?_
  refine Safe.seq (Safe.load L.b19) fun _ => ?_
  exact Safe.pure trivial

theorem p10 : ∀ v3 v28 v42 v241 v247 v266 v306 v457 v472 v473 v541 v545 v582, Safe (F := F) c bd H (k0_part10 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 v3 v28 v42 v241 v247 v266 v306 v457 v472 v473 v541 v545 v582) fun _ => True := by
  intros
  rw [k0_part10_eq_skeleton]
  delta k0_part10_skel
  refine Safe.seq (Safe.load L.b25) fun _ => ?_
  refine Safe.seq (Safe.store L.b25) fun _ => ?_
  refine Safe.seq (Safe.load L.b23) fun _ => ?_
  refine Safe.seq (Safe.store L.b23) fun _ => ?_
  refine Safe.seq (Safe.load L.b20) fun _ => ?_
  refine Safe.seq (Safe.load L.b19) fun _ => ?_
  refine Safe.seq (Safe.store L.b19) fun _ => ?_
  refine Safe.seq (Safe.load L.b22) fun _ => ?_
  exact Safe.pure trivial

theorem p11 : ∀ v39 v67 k0_h1 k0_h2 v242 v250 v263 v307 v585 v610 v617, Safe (F := F) c bd H (k0_part11 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 v39 v67 k0_h1 k0_h2 v242 v250 v263 v307 v585 v610 v617) fun _ => True := by
  intros
  rw [k0_part11_eq_skeleton]
  delta k0_part11_skel
  refine Safe.seq (Safe.load L.b13) fun _ => ?_
  refine Safe.seq (Safe.load L.b20) fun _ => ?_
  refine Safe.seq (Safe.store L.b20) fun _ => ?_
  refine Safe.seq (Safe.load L.b18) fun _ => ?_
  refine Safe.seq (Safe.store L.b18) fun _ => ?_
  refine Safe.seq (Safe.load L.b22) fun _ => ?_
  refine Safe.seq (Safe.store L.b22) fun _ => ?_
  refine Safe.seq (Safe.word L.b2) fun _ => ?_
  refine Safe.seq (Safe.load L.b24) fun _ => ?_
  refine Safe.seq (Safe.load L.b14) fun _ => ?_
  exact Safe.pure trivial

theorem p12 : ∀ v299 v331 v527 v537 v620 v623 v651, Safe (F := F) c bd H (k0_part12 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 v299 v331 v527 v537 v620 v623 v651) fun _ => True := by
  intros
  rw [k0_part12_eq_skeleton]
  delta k0_part12_skel
  refine Safe.seq (Safe.load L.b25) fun _ => ?_
  refine Safe.seq (Safe.load L.b23) fun _ => ?_
  refine Safe.seq (Safe.load L.b21) fun _ => ?_
  refine Safe.seq (Safe.store L.b21) fun _ => ?_
  refine Safe.seq (Safe.load L.b24) fun _ => ?_
  refine Safe.seq (Safe.store L.b24) fun _ => ?_
  refine Safe.seq (Safe.load L.b19) fun _ => ?_
  exact Safe.pure trivial

theorem p13 : ∀ v3 v31 v42 v241 v247 v266 v306 v569 v584 v585 v653 v657 v683 v690, Safe (F := F) c bd H (k0_part13 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 v3 v31 v42 v241 v247 v266 v306 v569 v584 v585 v653 v657 v683 v690) fun _ => True := by
  intros
  rw [k0_part13_eq_skeleton]
  delta k0_part13_skel
  refine Safe.seq (Safe.load L.b25) fun _ => ?_
  refine Safe.seq (Safe.store L.b25) fun _ => ?_
  refine Safe.seq (Safe.load L.b23) fun _ => ?_
  refine Safe.seq (Safe.store L.b23) fun _ => ?_
  refine Safe.seq (Safe.load L.b20) fun _ => ?_
  refine Safe.seq (Safe.load L.b19) fun _ => ?_
  refine Safe.seq (Safe.store L.b19) fun _ => ?_
  exact Safe.pure trivial

theorem p14 : ∀ v39 v70 k0_h1 k0_h2 v242 v250 v263 v307 v697 v722, Safe (F := F) c bd H (k0_part14 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 v39 v70 k0_h1 k0_h2 v242 v250 v263 v307 v697 v722) fun _ => True := by
  intros
  rw [k0_part14_eq_skeleton]
  delta k0_part14_skel
  refine Safe.seq (Safe.load L.b22) fun _ => ?_
  refine Safe.seq (Safe.load L.b13) fun _ => ?_
  refine Safe.seq (Safe.load L.b20) fun _ => ?_
  refine Safe.seq (Safe.store L.b20) fun _ => ?_
  refine Safe.seq (Safe.load L.b18) fun _ => ?_
  refine Safe.seq (Safe.store L.b18) fun _ => ?_
  refine Safe.seq (Safe.load L.b22) fun _ => ?_
  refine Safe.seq (Safe.store L.b22) fun _ => ?_
  refine Safe.seq (Safe.word L.b2) fun _ => ?_
  refine Safe.seq (Safe.load L.b24) fun _ => ?_
  refine Safe.seq (Safe.load L.b14) fun _ => ?_
  exact Safe.pure trivial

theorem p15 : ∀ v299 v334 v639 v649 v732 v735 v751 v757 v758, Safe (F := F) c bd H (k0_part15 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 v299 v334 v639 v649 v732 v735 v751 v757 v758) fun _ => True := by
  intros
  rw [k0_part15_eq_skeleton]
  delta k0_part15_skel
  refine Safe.seq (Safe.load L.b25) fun _ => ?_
  refine Safe.seq (Safe.load L.b23) fun _ => ?_
  refine Safe.seq (Safe.load L.b21) fun _ => ?_
  refine Safe.seq (Safe.store L.b21) fun _ => ?_
  refine Safe.seq (Safe.load L.b24) fun _ => ?_
  refine Safe.seq (Safe.store L.b24) fun _ => ?_
  refine Safe.seq (Safe.load L.b19) fun _ => ?_
  exact Safe.pure trivial

theorem p16 : ∀ v3 v33 v42 v241 v247 v266 v306 v681 v696 v697 v765 v769 v795 v798, Safe (F := F) c bd H (k0_part16 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 v3 v33 v42 v241 v247 v266 v306 v681 v696 v697 v765 v769 v795 v798) fun _ => True := by
  intros
  rw [k0_part16_eq_skeleton]
  delta k0_part16_skel
  refine Safe.seq (Safe.load L.b25) fun _ => ?_
  refine Safe.seq (Safe.store L.b25) fun _ => ?_
  refine Safe.seq (Safe.load L.b23) fun _ => ?_
  refine Safe.seq (Safe.store L.b23) fun _ => ?_
  refine Safe.seq (Safe.load L.b20) fun _ => ?_
  refine Safe.seq (Safe.load L.b19) fun _ => ?_
  exact Safe.pure trivial

theorem p17 : ∀ v39 v72 v242 v250 v263 v307 v809 v834 v836 v837, Safe (F := F) c bd H (k0_part17 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 v39 v72 v242 v250 v263 v307 v809 v834 v836 v837) fun _ => True := by
  intros
  rw [k0_part17_eq_skeleton]
  delta k0_part17_skel
  refine Safe.seq (Safe.store L.b19) fun _ => ?_
  refine Safe.seq (Safe.load L.b22) fun _ => ?_
  refine Safe.seq (Safe.load L.b13) fun _ => ?_
  refine Safe.seq (Safe.load L.b20) fun _ => ?_
  refine Safe.seq (Safe.store L.b20) fun _ => ?_
  refine Safe.seq (Safe.load L.b18) fun _ => ?_
  refine Safe.seq (Safe.store L.b18) fun _ => ?_
  refine Safe.seq (Safe.load L.b22) fun _ => ?_
  refine Safe.seq (Safe.store L.b22) fun _ => ?_
  refine Safe.seq (Safe.word L.b2) fun _ => ?_
  refine Safe.seq (Safe.load L.b24) fun _ => ?_
  exact Safe.pure trivial

theorem p18 : ∀ k0_h1 k0_h2 v299 v336 v751 v761 v844 v847 v863 v865, Safe (F := F) c bd H (k0_part18 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 k0_h1 k0_h2 v299 v336 v751 v761 v844 v847 v863 v865) fun _ => True := by
  intros
  rw [k0_part18_eq_skeleton]
  delta k0_part18_skel
  refine Safe.seq (Safe.load L.b14) fun _ => ?_
  refine Safe.seq (Safe.load L.b25) fun _ => ?_
  refine Safe.seq (Safe.load L.b23) fun _ => ?_
  refine Safe.seq (Safe.load L.b21) fun _ => ?_
  refine Safe.seq (Safe.store L.b21) fun _ => ?_
  refine Safe.seq (Safe.load L.b24) fun _ => ?_
  refine Safe.seq (Safe.store L.b24) fun _ => ?_
  refine Safe.seq (Safe.load L.b19) fun _ => ?_
  exact Safe.pure trivial

theorem p19 : ∀ v3 v42 v241 v247 v266 v306 v793 v808 v809 v877 v881 v905 v906, Safe (F := F) c bd H (k0_part19 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 v3 v42 v241 v247 v266 v306 v793 v808 v809 v877 v881 v905 v906) fun _ => True := by
  intros
  rw [k0_part19_eq_skeleton]
  delta k0_part19_skel
  refine Safe.seq (Safe.load L.b25) fun _ => ?_
  refine Safe.seq (Safe.store L.b25) fun _ => ?_
  refine Safe.seq (Safe.load L.b23) fun _ => ?_
  refine Safe.seq (Safe.store L.b23) fun _ => ?_
  refine Safe.seq (Safe.load L.b20) fun _ => ?_
  exact Safe.pure trivial

theorem p20 : ∀ v36 v39 v75 v242 v250 v263 v921 v946 v947 cst_473, Safe (F := F) c bd H (k0_part20 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 v36 v39 v75 v242 v250 v263 v921 v946 v947 cst_473) fun _ => True := by
  intros
  rw [k0_part20_eq_skeleton]
  delta k0_part20_skel
  refine Safe.seq (Safe.load L.b19) fun _ => ?_
  refine Safe.seq (Safe.store L.b19) fun _ => ?_
  refine Safe.seq (Safe.load L.b22) fun _ => ?_
  refine Safe.seq (Safe.load L.b13) fun _ => ?_
  refine Safe.seq (Safe.load L.b20) fun _ => ?_
  refine Safe.seq (Safe.store L.b20) fun _ => ?_
  refine Safe.seq (Safe.load L.b18) fun _ => ?_
  refine Safe.seq (Safe.store L.b18) fun _ => ?_
  refine Safe.seq (Safe.load L.b22) fun _ => ?_
  refine Safe.seq (Safe.store L.b22) fun _ => ?_
  refine Safe.seq (Safe.word L.b2) fun _ => ?_
  refine Safe.seq (Safe.load L.b24) fun _ => ?_
  exact Safe.pure trivial

theorem p21 : ∀ k0_h1 k0_h2 v299 v307 v339 v863 v873 v956 v959 v975 v976, Safe (F := F) c bd H (k0_part21 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 k0_h1 k0_h2 v299 v307 v339 v863 v873 v956 v959 v975 v976) fun _ => True := by
  intros
  rw [k0_part21_eq_skeleton]
  delta k0_part21_skel
  refine Safe.seq (Safe.load L.b14) fun _ => ?_
  refine Safe.seq (Safe.load L.b25) fun _ => ?_
  refine Safe.seq (Safe.load L.b23) fun _ => ?_
  refine Safe.seq (Safe.load L.b21) fun _ => ?_
  refine Safe.seq (Safe.store L.b21) fun _ => ?_
  refine Safe.seq (Safe.load L.b24) fun _ => ?_
  refine Safe.seq (Safe.store L.b24) fun _ => ?_
  exact Safe.pure trivial

theorem p22 : ∀ v3 v42 v241 v266 v306 v905 v920 v921 v989 v993, Safe (F := F) c bd H (k0_part22 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 v3 v42 v241 v266 v306 v905 v920 v921 v989 v993) fun _ => True := by
  intros
  rw [k0_part22_eq_skeleton]
  delta k0_part22_skel
  refine Safe.seq (Safe.load L.b19) fun _ => ?_
  refine Safe.seq (Safe.load L.b25) fun _ => ?_
  refine Safe.seq (Safe.store L.b25) fun _ => ?_
  refine Safe.seq (Safe.load L.b23) fun _ => ?_
  refine Safe.seq (Safe.store L.b23) fun _ => ?_
  refine Safe.seq (Safe.load L.b20) fun _ => ?_
  exact Safe.pure trivial

theorem p23 : ∀ v38 v39 v42 v77 v242 v247 v250 v263 v1033 v1055 cst_536, Safe (F := F) c bd H (k0_part23 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 v38 v39 v42 v77 v242 v247 v250 v263 v1033 v1055 cst_536) fun _ => True := by
  intros
  rw [k0_part23_eq_skeleton]
  delta k0_part23_skel
  refine Safe.seq (Safe.load L.b19) fun _ => ?_
  refine Safe.seq (Safe.store L.b19) fun _ => ?_
  refine Safe.seq (Safe.load L.b22) fun _ => ?_
  refine Safe.seq (Safe.load L.b13) fun _ => ?_
  refine Safe.seq (Safe.load L.b20) fun _ => ?_
  refine Safe.seq (Safe.store L.b20) fun _ => ?_
  refine Safe.seq (Safe.load L.b18) fun _ => ?_
  refine Safe.seq (Safe.store L.b18) fun _ => ?_
  refine Safe.seq (Safe.load L.b22) fun _ => ?_
  refine Safe.seq (Safe.store L.b22) fun _ => ?_
  refine Safe.seq (Safe.word L.b2) fun _ => ?_
  exact Safe.pure trivial

theorem p24 : ∀ k0_h1 k0_h2 v299 v307 v341 v975 v985 v1068 v1071 v1086 cst_560, Safe (F := F) c bd H (k0_part24 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 k0_h1 k0_h2 v299 v307 v341 v975 v985 v1068 v1071 v1086 cst_560) fun _ => True := by
  intros
  rw [k0_part24_eq_skeleton]
  delta k0_part24_skel
  refine Safe.seq (Safe.load L.b24) fun _ => ?_
  refine Safe.seq (Safe.load L.b14) fun _ => ?_
  refine Safe.seq (Safe.load L.b25) fun _ => ?_
  refine Safe.seq (Safe.load L.b23) fun _ => ?_
  refine Safe.seq (Safe.load L.b21) fun _ => ?_
  refine Safe.seq (Safe.store L.b21) fun _ => ?_
  refine Safe.seq (Safe.load L.b24) fun _ => ?_
  exact Safe.pure trivial

theorem p25 : ∀ v3 v42 v266 v306 v1033 v1101 v1105 v1124 v1125, Safe (F := F) c bd H (k0_part25 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 v3 v42 v266 v306 v1033 v1101 v1105 v1124 v1125) fun _ => True := by
  intros
  rw [k0_part25_eq_skeleton]
  delta k0_part25_skel
  refine Safe.seq (Safe.store L.b24) fun _ => ?_
  refine Safe.seq (Safe.load L.b19) fun _ => ?_
  refine Safe.seq (Safe.load L.b25) fun _ => ?_
  refine Safe.seq (Safe.store L.b25) fun _ => ?_
  refine Safe.seq (Safe.load L.b23) fun _ => ?_
  refine Safe.seq (Safe.store L.b23) fun _ => ?_
  refine Safe.seq (Safe.load L.b20) fun _ => ?_
  exact Safe.pure trivial

theorem p26 : ∀ v21 v39 v42 v60 v241 v242 v250 v255 v271 v1017 v1032 v1145 v1159 v1163, Safe (F := F) c bd H (k0_part26 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 v21 v39 v42 v60 v241 v242 v250 v255 v271 v1017 v1032 v1145 v1159 v1163) fun _ => True := by
  intros
  rw [k0_part26_eq_skeleton]
  delta k0_part26_skel
  refine Safe.seq (Safe.load L.b19) fun _ => ?_
  refine Safe.seq (Safe.store L.b19) fun _ => ?_
  refine Safe.seq (Safe.load L.b22) fun _ => ?_
  refine Safe.seq (Safe.load L.b13) fun _ => ?_
  refine Safe.seq (Safe.load L.b20) fun _ => ?_
  refine Safe.seq (Safe.store L.b20) fun _ => ?_
  refine Safe.seq (Safe.load L.b18) fun _ => ?_
  refine Safe.seq (Safe.store L.b18) fun _ => ?_
  refine Safe.seq (Safe.load L.b22) fun _ => ?_
  exact Safe.pure trivial

theorem p27 : ∀ k0_h1 k0_h2 v289 v307 v1087 v1097 v1180 v1183 v1194, Safe (F := F) c bd H (k0_part27 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 k0_h1 k0_h2 v289 v307 v1087 v1097 v1180 v1183 v1194) fun _ => True := by
  intros
  rw [k0_part27_eq_skeleton]
  delta k0_part27_skel
  refine Safe.seq (Safe.store L.b22) fun _ => ?_
  refine Safe.seq (Safe.word L.b2) fun _ => ?_
  refine Safe.seq (Safe.load L.b24) fun _ => ?_
  refine Safe.seq (Safe.load L.b14) fun _ => ?_
  refine Safe.seq (Safe.load L.b25) fun _ => ?_
  refine Safe.seq (Safe.load L.b23) fun _ => ?_
  refine Safe.seq (Safe.load L.b21) fun _ => ?_
  refine Safe.seq (Safe.store L.b21) fun _ => ?_
  exact Safe.pure trivial

theorem p28 : ∀ v3 v266 v306 v358 v1145 v1213 v1217 v1235 cst_640, Safe (F := F) c bd H (k0_part28 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 v3 v266 v306 v358 v1145 v1213 v1217 v1235 cst_640) fun _ => True := by
  intros
  rw [k0_part28_eq_skeleton]
  delta k0_part28_skel
  refine Safe.seq (Safe.load L.b24) fun _ => ?_
  refine Safe.seq (Safe.store L.b24) fun _ => ?_
  refine Safe.seq (Safe.load L.b19) fun _ => ?_
  refine Safe.seq (Safe.load L.b25) fun _ => ?_
  refine Safe.seq (Safe.store L.b25) fun _ => ?_
  refine Safe.seq (Safe.load L.b23) fun _ => ?_
  refine Safe.seq (Safe.store L.b23) fun _ => ?_
  refine Safe.seq (Safe.load L.b20) fun _ => ?_
  exact Safe.pure trivial

theorem p29 : ∀ v23 v39 v42 v62 v241 v250 v255 v271 v421 v1129 v1144 v1255 v1269 v1270 v1271, Safe (F := F) c bd H (k0_part29 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 v23 v39 v42 v62 v241 v250 v255 v271 v421 v1129 v1144 v1255 v1269 v1270 v1271) fun _ => True := by
  intros
  rw [k0_part29_eq_skeleton]
  delta k0_part29_skel
  refine Safe.seq (Safe.load L.b19) fun _ => ?_
  refine Safe.seq (Safe.store L.b19) fun _ => ?_
  refine Safe.seq (Safe.load L.b22) fun _ => ?_
  refine Safe.seq (Safe.load L.b13) fun _ => ?_
  refine Safe.seq (Safe.load L.b20) fun _ => ?_
  refine Safe.seq (Safe.store L.b20) fun _ => ?_
  refine Safe.seq (Safe.load L.b18) fun _ => ?_
  refine Safe.seq (Safe.store L.b18) fun _ => ?_
  exact Safe.pure trivial

theorem p30 : ∀ v1199 v1209 v1290 v1293 v1306, Safe (F := F) c bd H (k0_part30 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 v1199 v1209 v1290 v1293 v1306) fun _ => True := by
  intros
  rw [k0_part30_eq_skeleton]
  delta k0_part30_skel
  refine Safe.seq (Safe.load L.b22) fun _ => ?_
  refine Safe.seq (Safe.store L.b22) fun _ => ?_
  refine Safe.seq (Safe.word L.b2) fun _ => ?_
  refine Safe.seq (Safe.load L.b24) fun _ => ?_
  refine Safe.seq (Safe.load L.b14) fun _ => ?_
  refine Safe.seq (Safe.load L.b25) fun _ => ?_
  refine Safe.seq (Safe.load L.b23) fun _ => ?_
  refine Safe.seq (Safe.load L.b21) fun _ => ?_
  exact Safe.pure trivial

theorem p31 : ∀ v3 v274 v289 v292 v360 v1324 v1328 v1342, Safe (F := F) c bd H (k0_part31 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 v3 v274 v289 v292 v360 v1324 v1328 v1342) fun _ => True := by
  intros
  rw [k0_part31_eq_skeleton]
  delta k0_part31_skel
  refine Safe.seq (Safe.store L.b21) fun _ => ?_
  refine Safe.seq (Safe.load L.b24) fun _ => ?_
  refine Safe.seq (Safe.store L.b24) fun _ => ?_
  refine Safe.seq (Safe.load L.b19) fun _ => ?_
  refine Safe.seq (Safe.load L.b25) fun _ => ?_
  refine Safe.seq (Safe.store L.b25) fun _ => ?_
  refine Safe.seq (Safe.load L.b23) fun _ => ?_
  refine Safe.seq (Safe.store L.b23) fun _ => ?_
  exact Safe.pure trivial

theorem p32 : ∀ v26 v39 v255 v258 v492 v511 v1241 v1254 v1255 v1366, Safe (F := F) c bd H (k0_part32 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 v26 v39 v255 v258 v492 v511 v1241 v1254 v1255 v1366) fun _ => True := by
  intros
  rw [k0_part32_eq_skeleton]
  delta k0_part32_skel
  refine Safe.seq (Safe.load L.b20) fun _ => ?_
  refine Safe.seq (Safe.load L.b19) fun _ => ?_
  refine Safe.seq (Safe.store L.b19) fun _ => ?_
  refine Safe.seq (Safe.load L.b22) fun _ => ?_
  refine Safe.seq (Safe.load L.b13) fun _ => ?_
  refine Safe.seq (Safe.load L.b20) fun _ => ?_
  refine Safe.seq (Safe.store L.b20) fun _ => ?_
  refine Safe.seq (Safe.load L.b18) fun _ => ?_
  exact Safe.pure trivial

theorem p33 : ∀ v65 v271 v1311 v1320 v1399 v1402 v1415, Safe (F := F) c bd H (k0_part33 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 v65 v271 v1311 v1320 v1399 v1402 v1415) fun _ => True := by
  intros
  rw [k0_part33_eq_skeleton]
  delta k0_part33_skel
  refine Safe.seq (Safe.load L.b18) fun _ => ?_
  refine Safe.seq (Safe.store L.b18) fun _ => ?_
  refine Safe.seq (Safe.load L.b22) fun _ => ?_
  refine Safe.seq (Safe.store L.b22) fun _ => ?_
  refine Safe.seq (Safe.word L.b2) fun _ => ?_
  refine Safe.seq (Safe.load L.b24) fun _ => ?_
  refine Safe.seq (Safe.load L.b14) fun _ => ?_
  refine Safe.seq (Safe.load L.b25) fun _ => ?_
  refine Safe.seq (Safe.load L.b23) fun _ => ?_
  exact Safe.pure trivial

theorem p34 : ∀ v3 v289 v292 v363 v558 v1295 v1438 v1453, Safe (F := F) c bd H (k0_part34 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 v3 v289 v292 v363 v558 v1295 v1438 v1453) fun _ => True := by
  intros
  rw [k0_part34_eq_skeleton]
  delta k0_part34_skel
  refine Safe.seq (Safe.load L.b21) fun _ => ?_
  refine Safe.seq (Safe.load L.b21) fun _ => ?_
  refine Safe.seq (Safe.store L.b21) fun _ => ?_
  refine Safe.seq (Safe.load L.b24) fun _ => ?_
  refine Safe.seq (Safe.store L.b24) fun _ => ?_
  refine Safe.seq (Safe.load L.b19) fun _ => ?_
  exact Safe.pure trivial

theorem p35 : ∀ v3 v28 v39 v255 v274 v604 v623 v1352 v1365 v1366 v1442 v1487 v1490, Safe (F := F) c bd H (k0_part35 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 v3 v28 v39 v255 v274 v604 v623 v1352 v1365 v1366 v1442 v1487 v1490) fun _ => True := by
  intros
  rw [k0_part35_eq_skeleton]
  delta k0_part35_skel
  refine Safe.seq (Safe.load L.b25) fun _ => ?_
  refine Safe.seq (Safe.store L.b25) fun _ => ?_
  refine Safe.seq (Safe.load L.b23) fun _ => ?_
  refine Safe.seq (Safe.store L.b23) fun _ => ?_
  refine Safe.seq (Safe.load L.b20) fun _ => ?_
  refine Safe.seq (Safe.load L.b19) fun _ => ?_
  refine Safe.seq (Safe.store L.b19) fun _ => ?_
  refine Safe.seq (Safe.load L.b22) fun _ => ?_
  refine Safe.seq (Safe.load L.b13) fun _ => ?_
  exact Safe.pure trivial

theorem p36 : ∀ v67 v258 v271 v604 v1510 v1520 v1523 v1526, Safe (F := F) c bd H (k0_part36 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 v67 v258 v271 v604 v1510 v1520 v1523 v1526) fun _ => True := by
  intros
  rw [k0_part36_eq_skeleton]
  delta k0_part36_skel
  refine Safe.seq (Safe.load L.b20) fun _ => ?_
  refine Safe.seq (Safe.store L.b20) fun _ => ?_
  refine Safe.seq (Safe.load L.b18) fun _ => ?_
  refine Safe.seq (Safe.load L.b18) fun _ => ?_
  refine Safe.seq (Safe.store L.b18) fun _ => ?_
  refine Safe.seq (Safe.load L.b22) fun _ => ?_
  refine Safe.seq (Safe.store L.b22) fun _ => ?_
  refine Safe.seq (Safe.word L.b2) fun _ => ?_
  refine Safe.seq (Safe.load L.b24) fun _ => ?_
  refine Safe.seq (Safe.load L.b14) fun _ => ?_
  exact Safe.pure trivial

theorem p37 : ∀ v289 v365 v670 v1404 v1425 v1434 v1562, Safe (F := F) c bd H (k0_part37 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 v289 v365 v670 v1404 v1425 v1434 v1562) fun _ => True := by
  intros
  rw [k0_part37_eq_skeleton]
  delta k0_part37_skel
  refine Safe.seq (Safe.load L.b25) fun _ => ?_
  refine Safe.seq (Safe.load L.b23) fun _ => ?_
  refine Safe.seq (Safe.load L.b21) fun _ => ?_
  refine Safe.seq (Safe.load L.b21) fun _ => ?_
  refine Safe.seq (Safe.store L.b21) fun _ => ?_
  refine Safe.seq (Safe.load L.b24) fun _ => ?_
  refine Safe.seq (Safe.store L.b24) fun _ => ?_
  refine Safe.seq (Safe.load L.b19) fun _ => ?_
  exact Safe.pure trivial

theorem p38 : ∀ v3 v31 v255 v274 v292 v716 v1473 v1486 v1487 v1559 v1563 v1596 v1599, Safe (F := F) c bd H (k0_part38 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 v3 v31 v255 v274 v292 v716 v1473 v1486 v1487 v1559 v1563 v1596 v1599) fun _ => True := by
  intros
  rw [k0_part38_eq_skeleton]
  delta k0_part38_skel
  refine Safe.seq (Safe.load L.b25) fun _ => ?_
  refine Safe.seq (Safe.store L.b25) fun _ => ?_
  refine Safe.seq (Safe.load L.b23) fun _ => ?_
  refine Safe.seq (Safe.store L.b23) fun _ => ?_
  refine Safe.seq (Safe.load L.b20) fun _ => ?_
  refine Safe.seq (Safe.load L.b19) fun _ => ?_
  refine Safe.seq (Safe.store L.b19) fun _ => ?_
  exact Safe.pure trivial

theorem p39 : ∀ v39 v70 v258 v271 v716 v735 v1608 v1631, Safe (F := F) c bd H (k0_part39 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 v39 v70 v258 v271 v716 v735 v1608 v1631) fun _ => True := by
  intros
  rw [k0_part39_eq_skeleton]
  delta k0_part39_skel
  refine Safe.seq (Safe.load L.b22) fun _ => ?_
  refine Safe.seq (Safe.load L.b13) fun _ => ?_
  refine Safe.seq (Safe.load L.b20) fun _ => ?_
  refine Safe.seq (Safe.store L.b20) fun _ => ?_
  refine Safe.seq (Safe.load L.b18) fun _ => ?_
  refine Safe.seq (Safe.load L.b18) fun _ => ?_
  refine Safe.seq (Safe.store L.b18) fun _ => ?_
  refine Safe.seq (Safe.load L.b22) fun _ => ?_
  refine Safe.seq (Safe.store L.b22) fun _ => ?_
  refine Safe.seq (Safe.word L.b2) fun _ => ?_
  refine Safe.seq (Safe.load L.b24) fun _ => ?_
  exact Safe.pure trivial

theorem p40 : ∀ v289 v368 v782 v1525 v1546 v1555 v1641 v1644 v1667 v1669, Safe (F := F) c bd H (k0_part40 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 v289 v368 v782 v1525 v1546 v1555 v1641 v1644 v1667 v1669) fun _ => True := by
  intros
  rw [k0_part40_eq_skeleton]
  delta k0_part40_skel
  refine Safe.seq (Safe.load L.b14) fun _ => ?_
  refine Safe.seq (Safe.load L.b25) fun _ => ?_
  refine Safe.seq (Safe.load L.b23) fun _ => ?_
  refine Safe.seq (Safe.load L.b21) fun _ => ?_
  refine Safe.seq (Safe.load L.b21) fun _ => ?_
  refine Safe.seq (Safe.store L.b21) fun _ => ?_
  exact Safe.pure trivial

theorem p41 : ∀ v3 v274 v292 v1608 v1680 v1684 v1710, Safe (F := F) c bd H (k0_part41 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 v3 v274 v292 v1608 v1680 v1684 v1710) fun _ => True := by
  intros
  rw [k0_part41_eq_skeleton]
  delta k0_part41_skel
  refine Safe.seq (Safe.load L.b24) fun _ => ?_
  refine Safe.seq (Safe.store L.b24) fun _ => ?_
  refine Safe.seq (Safe.load L.b19) fun _ => ?_
  refine Safe.seq (Safe.load L.b25) fun _ => ?_
  refine Safe.seq (Safe.store L.b25) fun _ => ?_
  refine Safe.seq (Safe.load L.b23) fun _ => ?_
  refine Safe.seq (Safe.store L.b23) fun _ => ?_
  refine Safe.seq (Safe.load L.b20) fun _ => ?_
  exact Safe.pure trivial

theorem p42 : ∀ v33 v39 v255 v258 v271 v828 v847 v1594 v1607 v1729 v1743 v1747, Safe (F := F) c bd H (k0_part42 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 v33 v39 v255 v258 v271 v828 v847 v1594 v1607 v1729 v1743 v1747) fun _ => True := by
  intros
  rw [k0_part42_eq_skeleton]
  delta k0_part42_skel
  refine Safe.seq (Safe.load L.b19) fun _ => ?_
  refine Safe.seq (Safe.store L.b19) fun _ => ?_
  refine Safe.seq (Safe.load L.b22) fun _ => ?_
  refine Safe.seq (Safe.load L.b13) fun _ => ?_
  refine Safe.seq (Safe.load L.b20) fun _ => ?_
  refine Safe.seq (Safe.store L.b20) fun _ => ?_
  refine Safe.seq (Safe.load L.b18) fun _ => ?_
  refine Safe.seq (Safe.load L.b18) fun _ => ?_
  refine Safe.seq (Safe.store L.b18) fun _ => ?_
  exact Safe.pure trivial

theorem p43 : ∀ v72 v894 v1646 v1667 v1676 v1762 v1765 v1782 cst_949, Safe (F := F) c bd H (k0_part43 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 v72 v894 v1646 v1667 v1676 v1762 v1765 v1782 cst_949) fun _ => True := by
  intros
  rw [k0_part43_eq_skeleton]
  delta k0_part43_skel
  refine Safe.seq (Safe.load L.b22) fun _ => ?_
  refine Safe.seq (Safe.store L.b22) fun _ => ?_
  refine Safe.seq (Safe.word L.b2) fun _ => ?_
  refine Safe.seq (Safe.load L.b24) fun _ => ?_
  refine Safe.seq (Safe.load L.b14) fun _ => ?_
  refine Safe.seq (Safe.load L.b25) fun _ => ?_
  refine Safe.seq (Safe.load L.b23) fun _ => ?_
  exact Safe.pure trivial

theorem p44 : ∀ v3 v274 v289 v292 v370 v1646 v1801 v1817, Safe (F := F) c bd H (k0_part44 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 v3 v274 v289 v292 v370 v1646 v1801 v1817) fun _ => True := by
  intros
  rw [k0_part44_eq_skeleton]
  delta k0_part44_skel
  refine Safe.seq (Safe.load L.b21) fun _ => ?_
  refine Safe.seq (Safe.load L.b21) fun _ => ?_
  refine Safe.seq (Safe.store L.b21) fun _ => ?_
  refine Safe.seq (Safe.load L.b24) fun _ => ?_
  refine Safe.seq (Safe.store L.b24) fun _ => ?_
  refine Safe.seq (Safe.load L.b19) fun _ => ?_
  refine Safe.seq (Safe.load L.b25) fun _ => ?_
  refine Safe.seq (Safe.store L.b25) fun _ => ?_
  exact Safe.pure trivial

theorem p45 : ∀ v36 v39 v255 v940 v959 v1715 v1728 v1729 v1805 v1850 v1858, Safe (F := F) c bd H (k0_part45 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 v36 v39 v255 v940 v959 v1715 v1728 v1729 v1805 v1850 v1858) fun _ => True := by
  intros
  rw [k0_part45_eq_skeleton]
  delta k0_part45_skel
  refine Safe.seq (Safe.load L.b23) fun _ => ?_
  refine Safe.seq (Safe.store L.b23) fun _ => ?_
  refine Safe.seq (Safe.load L.b20) fun _ => ?_
  refine Safe.seq (Safe.load L.b19) fun _ => ?_
  refine Safe.seq (Safe.store L.b19) fun _ => ?_
  refine Safe.seq (Safe.load L.b22) fun _ => ?_
  refine Safe.seq (Safe.load L.b13) fun _ => ?_
  refine Safe.seq (Safe.load L.b20) fun _ => ?_
  refine Safe.seq (Safe.store L.b20) fun _ => ?_
  exact Safe.pure trivial

theorem p46 : ∀ v75 v258 v271 v940 v1873 v1883 v1886, Safe (F := F) c bd H (k0_part46 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 v75 v258 v271 v940 v1873 v1883 v1886) fun _ => True := by
  intros
  rw [k0_part46_eq_skeleton]
  delta k0_part46_skel
  refine Safe.seq (Safe.load L.b18) fun _ => ?_
  refine Safe.seq (Safe.load L.b18) fun _ => ?_
  refine Safe.seq (Safe.store L.b18) fun _ => ?_
  refine Safe.seq (Safe.load L.b22) fun _ => ?_
  refine Safe.seq (Safe.store L.b22) fun _ => ?_
  refine Safe.seq (Safe.word L.b2) fun _ => ?_
  refine Safe.seq (Safe.load L.b24) fun _ => ?_
  refine Safe.seq (Safe.load L.b14) fun _ => ?_
  refine Safe.seq (Safe.load L.b25) fun _ => ?_
  exact Safe.pure trivial

theorem p47 : ∀ v289 v373 v1006 v1767 v1788 v1797 v1928, Safe (F := F) c bd H (k0_part47 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 v289 v373 v1006 v1767 v1788 v1797 v1928) fun _ => True := by
  intros
  rw [k0_part47_eq_skeleton]
  delta k0_part47_skel
  refine Safe.seq (Safe.load L.b23) fun _ => ?_
  refine Safe.seq (Safe.load L.b21) fun _ => ?_
  refine Safe.seq (Safe.load L.b21) fun _ => ?_
  refine Safe.seq (Safe.store L.b21) fun _ => ?_
  refine Safe.seq (Safe.load L.b24) fun _ => ?_
  refine Safe.seq (Safe.store L.b24) fun _ => ?_
  refine Safe.seq (Safe.load L.b19) fun _ => ?_
  exact Safe.pure trivial

theorem p48 : ∀ v3 v38 v255 v274 v292 v1052 v1836 v1849 v1850 v1922 v1926 v1959 v1967, Safe (F := F) c bd H (k0_part48 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 v3 v38 v255 v274 v292 v1052 v1836 v1849 v1850 v1922 v1926 v1959 v1967) fun _ => True := by
  intros
  rw [k0_part48_eq_skeleton]
  delta k0_part48_skel
  refine Safe.seq (Safe.load L.b25) fun _ => ?_
  refine Safe.seq (Safe.store L.b25) fun _ => ?_
  refine Safe.seq (Safe.load L.b23) fun _ => ?_
  refine Safe.seq (Safe.store L.b23) fun _ => ?_
  refine Safe.seq (Safe.load L.b20) fun _ => ?_
  refine Safe.seq (Safe.load L.b19) fun _ => ?_
  refine Safe.seq (Safe.store L.b19) fun _ => ?_
  refine Safe.seq (Safe.load L.b22) fun _ => ?_
  exact Safe.pure trivial

theorem p49 : ∀ v39 v77 v258 v271 v1052 v1071 v1971 v1994 v2001, Safe (F := F) c bd H (k0_part49 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 v39 v77 v258 v271 v1052 v1071 v1971 v1994 v2001) fun _ => True := by
  intros
  rw [k0_part49_eq_skeleton]
  delta k0_part49_skel
  refine Safe.seq (Safe.load L.b13) fun _ => ?_
  refine Safe.seq (Safe.load L.b20) fun _ => ?_
  refine Safe.seq (Safe.store L.b20) fun _ => ?_
  refine Safe.seq (Safe.load L.b18) fun _ => ?_
  refine Safe.seq (Safe.load L.b18) fun _ => ?_
  refine Safe.seq (Safe.store L.b18) fun _ => ?_
  refine Safe.seq (Safe.load L.b22) fun _ => ?_
  refine Safe.seq (Safe.store L.b22) fun _ => ?_
  refine Safe.seq (Safe.word L.b2) fun _ => ?_
  refine Safe.seq (Safe.load L.b24) fun _ => ?_
  refine Safe.seq (Safe.load L.b14) fun _ => ?_
  exact Safe.pure trivial

theorem p50 : ∀ v289 v375 v1118 v1888 v1909 v1918 v2004 v2007 v2030 v2035, Safe (F := F) c bd H (k0_part50 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 v289 v375 v1118 v1888 v1909 v1918 v2004 v2007 v2030 v2035) fun _ => True := by
  intros
  rw [k0_part50_eq_skeleton]
  delta k0_part50_skel
  refine Safe.seq (Safe.load L.b25) fun _ => ?_
  refine Safe.seq (Safe.load L.b23) fun _ => ?_
  refine Safe.seq (Safe.load L.b21) fun _ => ?_
  refine Safe.seq (Safe.load L.b21) fun _ => ?_
  refine Safe.seq (Safe.store L.b21) fun _ => ?_
  refine Safe.seq (Safe.load L.b24) fun _ => ?_
  refine Safe.seq (Safe.store L.b24) fun _ => ?_
  exact Safe.pure trivial

theorem p51 : ∀ v3 v274 v279 v292 v1164 v1957 v1970 v1971 v2043 v2047, Safe (F := F) c bd H (k0_part51 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 v3 v274 v279 v292 v1164 v1957 v1970 v1971 v2043 v2047) fun _ => True := by
  intros
  rw [k0_part51_eq_skeleton]
  delta k0_part51_skel
  refine Safe.seq (Safe.load L.b19) fun _ => ?_
  refine Safe.seq (Safe.load L.b25) fun _ => ?_
  refine Safe.seq (Safe.store L.b25) fun _ => ?_
  refine Safe.seq (Safe.load L.b23) fun _ => ?_
  refine Safe.seq (Safe.store L.b23) fun _ => ?_
  refine Safe.seq (Safe.load L.b20) fun _ => ?_
  exact Safe.pure trivial

theorem p52 : ∀ v39 v60 v62 v258 v279 v1164 v1183 v2092 v2115 v2116, Safe (F := F) c bd H (k0_part52 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 v39 v60 v62 v258 v279 v1164 v1183 v2092 v2115 v2116) fun _ => True := by
  intros
  rw [k0_part52_eq_skeleton]
  delta k0_part52_skel
  refine Safe.seq (Safe.load L.b22) fun _ => ?_
  refine Safe.seq (Safe.store L.b22) fun _ => ?_
  refine Safe.seq (Safe.load L.b22) fun _ => ?_
  refine Safe.seq (Safe.load L.b13) fun _ => ?_
  refine Safe.seq (Safe.load L.b20) fun _ => ?_
  refine Safe.seq (Safe.store L.b20) fun _ => ?_
  refine Safe.seq (Safe.load L.b18) fun _ => ?_
  refine Safe.seq (Safe.load L.b18) fun _ => ?_
  refine Safe.seq (Safe.store L.b18) fun _ => ?_
  refine Safe.seq (Safe.load L.b22) fun _ => ?_
  exact Safe.pure trivial

theorem p53 : ∀ v1230 v2009 v2030 v2039 v2125 v2128 v2146, Safe (F := F) c bd H (k0_part53 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 v1230 v2009 v2030 v2039 v2125 v2128 v2146) fun _ => True := by
  intros
  rw [k0_part53_eq_skeleton]
  delta k0_part53_skel
  refine Safe.seq (Safe.store L.b22) fun _ => ?_
  refine Safe.seq (Safe.word L.b2) fun _ => ?_
  refine Safe.seq (Safe.load L.b24) fun _ => ?_
  refine Safe.seq (Safe.load L.b14) fun _ => ?_
  refine Safe.seq (Safe.load L.b25) fun _ => ?_
  refine Safe.seq (Safe.load L.b23) fun _ => ?_
  refine Safe.seq (Safe.load L.b21) fun _ => ?_
  exact Safe.pure trivial

theorem p54 : ∀ v3 v65 v274 v279 v292 v1293 v2092 v2164 v2168 v2187 v2188, Safe (F := F) c bd H (k0_part54 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 v3 v65 v274 v279 v292 v1293 v2092 v2164 v2168 v2187 v2188) fun _ => True := by
  intros
  rw [k0_part54_eq_skeleton]
  delta k0_part54_skel
  refine Safe.seq (Safe.load L.b21) fun _ => ?_
  refine Safe.seq (Safe.store L.b21) fun _ => ?_
  refine Safe.seq (Safe.load L.b22) fun _ => ?_
  refine Safe.seq (Safe.store L.b22) fun _ => ?_
  refine Safe.seq (Safe.load L.b22) fun _ => ?_
  refine Safe.seq (Safe.load L.b25) fun _ => ?_
  refine Safe.seq (Safe.store L.b25) fun _ => ?_
  refine Safe.seq (Safe.load L.b23) fun _ => ?_
  refine Safe.seq (Safe.store L.b23) fun _ => ?_
  refine Safe.seq (Safe.load L.b20) fun _ => ?_
  exact Safe.pure trivial

theorem p55 : ∀ v67 v70 v258 v279 v1274 v1402 v2078 v2091 v2199 v2202 v2218 v2222, Safe (F := F) c bd H (k0_part55 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 v67 v70 v258 v279 v1274 v1402 v2078 v2091 v2199 v2202 v2218 v2222) fun _ => True := by
  intros
  rw [k0_part55_eq_skeleton]
  delta k0_part55_skel
  refine Safe.seq (Safe.load L.b22) fun _ => ?_
  refine Safe.seq (Safe.store L.b22) fun _ => ?_
  refine Safe.seq (Safe.load L.b22) fun _ => ?_
  refine Safe.seq (Safe.load L.b18) fun _ => ?_
  refine Safe.seq (Safe.load L.b18) fun _ => ?_
  refine Safe.seq (Safe.store L.b18) fun _ => ?_
  refine Safe.seq (Safe.load L.b22) fun _ => ?_
  refine Safe.seq (Safe.store L.b22) fun _ => ?_
  refine Safe.seq (Safe.load L.b22) fun _ => ?_
  exact Safe.pure trivial

end Cert.Attention

end
-- ==== Proof.PartsB.lean ====
module

public import proofs.«01_k».proof.Proof.Lent

@[expose] public section

set_option maxRecDepth 65536

noncomputable section

namespace Cert.Attention

open Cert.Kernel Cert.Kernel.Gen
open Idealize.ShloMosaic Idealize.ShloMosaic.TcCoe
open Idealize.SL Idealize.SL.RA Idealize.SL.BI
open Idealize.ShloMosaic.Rounds

variable {F : FTy → Type} [BitOps F] {c : Dev nD} {bd : Option ℕ}
variable {H : sProp (MT nD τ sig Unit (Elt F) ℕ (UR sig nD τ) ℕ)}

variable {i : grid0.Coords}
variable {arg2 : Memref sig .tc .smem S8 .f32} {harg2 : arg2.IsWhole}
variable {arg3 : Memref sig .tc .vmem S1x256x512 .bf16} {harg3 : arg3.IsWhole}
variable {arg4 : Memref sig .tc .vmem S1x2048x512 .bf16} {harg4 : arg4.IsWhole}
variable {arg5 : Memref sig .tc .vmem S1x256x512 .bf16} {harg5 : arg5.IsWhole}
variable {arg6 : Memref sig .tc .vmem S1x2048x512 .bf16} {harg6 : arg6.IsWhole}
variable {arg7 : Memref sig .tc .vmem S1x256x512 .bf16} {harg7 : arg7.IsWhole}
variable {arg8 : Memref sig .tc .vmem S1x2048x256 .bf16} {harg8 : arg8.IsWhole}
variable {arg9 : Memref sig .tc .vmem S8x512x256 .bf16} {harg9 : arg9.IsWhole}
variable {arg10 : Memref sig .tc .vmem S8x512x256 .bf16} {harg10 : arg10.IsWhole}
variable {arg11 : Memref sig .tc .vmem S8x128x256 .bf16} {harg11 : arg11.IsWhole}
variable {arg12 : Memref sig .tc .vmem S256x256 .bf16} {harg12 : arg12.IsWhole}
variable {arg13 : Memref sig .tc .vmem S4x2x256x256 .f32} {harg13 : arg13.IsWhole}
variable {arg14 : Memref sig .tc .vmem S8x2x256x128 .f32} {harg14 : arg14.IsWhole}
variable {arg15 : Memref sig .tc .vmem S4x64 .f32} {harg15 : arg15.IsWhole}
variable {arg16 : Memref sig .tc .vmem S128x1 .f32} {harg16 : arg16.IsWhole}
variable {arg17 : Memref sig .tc .vmem S1x256x1536 .bf16} {harg17 : arg17.IsWhole}
variable {arg18 : Memref sig .tc .vmem S512x256 .f32} {harg18 : arg18.IsWhole}
variable {arg19 : Memref sig .tc .vmem S16x256x256 .f32} {harg19 : arg19.IsWhole}
variable {arg20 : Memref sig .tc .vmem S16x256x256 .f32} {harg20 : arg20.IsWhole}
variable {arg21 : Memref sig .tc .vmem S8x128x256 .f32} {harg21 : arg21.IsWhole}
variable {arg22 : Memref sig .tc .vmem S24x256x256 .f32} {harg22 : arg22.IsWhole}
variable {arg23 : Memref sig .tc .vmem S24x144x256 .f32} {harg23 : arg23.IsWhole}
variable {arg24 : Memref sig .tc .vmem S16x256x128 .f32} {harg24 : arg24.IsWhole}
variable {arg25 : Memref sig .tc .vmem S16x80x128 .f32} {harg25 : arg25.IsWhole}
variable (L : Lent (F := F) c H arg2 arg3 arg4 arg5 arg6 arg7 arg8 arg9 arg10 arg11 arg12 arg13 arg14 arg15 arg16 arg17 arg18 arg19 arg20 arg21 arg22 arg23 arg24 arg25)
include L

theorem p56 : ∀ v3 v279 v282 v1341 v1523 v2130 v2151 v2160 v2234 v2237 v2243 v2259, Safe (F := F) c bd H (k0_part56 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 v3 v279 v282 v1341 v1523 v2130 v2151 v2160 v2234 v2237 v2243 v2259) fun _ => True := by
  intros
  rw [k0_part56_eq_skeleton]
  delta k0_part56_skel
  refine Safe.seq (Safe.load L.b23) fun _ => ?_
  refine Safe.seq (Safe.store L.b23) fun _ => ?_
  refine Safe.seq (Safe.load L.b25) fun _ => ?_
  refine Safe.seq (Safe.load L.b23) fun _ => ?_
  refine Safe.seq (Safe.load L.b21) fun _ => ?_
  refine Safe.seq (Safe.load L.b21) fun _ => ?_
  refine Safe.seq (Safe.store L.b21) fun _ => ?_
  exact Safe.pure trivial

theorem p57 : ∀ v3 v72 v75 v279 v282 v1644 v1765 v2260 v2263 v2269 v2300, Safe (F := F) c bd H (k0_part57 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 v3 v72 v75 v279 v282 v1644 v1765 v2260 v2263 v2269 v2300) fun _ => True := by
  intros
  rw [k0_part57_eq_skeleton]
  delta k0_part57_skel
  refine Safe.seq (Safe.load L.b22) fun _ => ?_
  refine Safe.seq (Safe.store L.b22) fun _ => ?_
  refine Safe.seq (Safe.load L.b22) fun _ => ?_
  refine Safe.seq (Safe.load L.b23) fun _ => ?_
  refine Safe.seq (Safe.store L.b23) fun _ => ?_
  refine Safe.seq (Safe.load L.b22) fun _ => ?_
  refine Safe.seq (Safe.store L.b22) fun _ => ?_
  refine Safe.seq (Safe.load L.b22) fun _ => ?_
  exact Safe.pure trivial

theorem p58 : ∀ v3 v77 v279 v282 v1457 v1886 v2204 v2315 v2328 v2331, Safe (F := F) c bd H (k0_part58 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 v3 v77 v279 v282 v1457 v1886 v2204 v2315 v2328 v2331) fun _ => True := by
  intros
  rw [k0_part58_eq_skeleton]
  delta k0_part58_skel
  refine Safe.seq (Safe.load L.b23) fun _ => ?_
  refine Safe.seq (Safe.store L.b23) fun _ => ?_
  refine Safe.seq (Safe.load L.b23) fun _ => ?_
  refine Safe.seq (Safe.load L.b21) fun _ => ?_
  refine Safe.seq (Safe.load L.b21) fun _ => ?_
  refine Safe.seq (Safe.store L.b21) fun _ => ?_
  refine Safe.seq (Safe.load L.b22) fun _ => ?_
  refine Safe.seq (Safe.store L.b22) fun _ => ?_
  refine Safe.seq (Safe.load L.b22) fun _ => ?_
  exact Safe.pure trivial

theorem p59 : ∀ v3 v282 v1578 v2007 v2239 v2337 v2364 v2367 v2373, Safe (F := F) c bd H (k0_part59 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 v3 v282 v1578 v2007 v2239 v2337 v2364 v2367 v2373) fun _ => True := by
  intros
  rw [k0_part59_eq_skeleton]
  delta k0_part59_skel
  refine Safe.seq (Safe.load L.b23) fun _ => ?_
  refine Safe.seq (Safe.store L.b23) fun _ => ?_
  refine Safe.seq (Safe.load L.b23) fun _ => ?_
  refine Safe.seq (Safe.load L.b21) fun _ => ?_
  refine Safe.seq (Safe.load L.b21) fun _ => ?_
  refine Safe.seq (Safe.store L.b21) fun _ => ?_
  refine Safe.seq (Safe.load L.b22) fun _ => ?_
  refine Safe.seq (Safe.load L.b23) fun _ => ?_
  exact Safe.pure trivial

theorem p60 : ∀ v3 v282 v1699 v1820 v2128 v2265 v2311 v2395 v2398 v2404 v2410, Safe (F := F) c bd H (k0_part60 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 v3 v282 v1699 v1820 v2128 v2265 v2311 v2395 v2398 v2404 v2410) fun _ => True := by
  intros
  rw [k0_part60_eq_skeleton]
  delta k0_part60_skel
  refine Safe.seq (Safe.store L.b23) fun _ => ?_
  refine Safe.seq (Safe.load L.b23) fun _ => ?_
  refine Safe.seq (Safe.load L.b21) fun _ => ?_
  refine Safe.seq (Safe.load L.b21) fun _ => ?_
  refine Safe.seq (Safe.store L.b21) fun _ => ?_
  refine Safe.seq (Safe.load L.b22) fun _ => ?_
  refine Safe.seq (Safe.load L.b23) fun _ => ?_
  refine Safe.seq (Safe.store L.b23) fun _ => ?_
  refine Safe.seq (Safe.load L.b23) fun _ => ?_
  exact Safe.pure trivial

theorem p61 : ∀ v3 v282 v1941 v2311 v2333 v2426 v2429 v2435 v2443, Safe (F := F) c bd H (k0_part61 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 v3 v282 v1941 v2311 v2333 v2426 v2429 v2435 v2443) fun _ => True := by
  intros
  rw [k0_part61_eq_skeleton]
  delta k0_part61_skel
  refine Safe.seq (Safe.load L.b21) fun _ => ?_
  refine Safe.seq (Safe.load L.b21) fun _ => ?_
  refine Safe.seq (Safe.store L.b21) fun _ => ?_
  refine Safe.seq (Safe.load L.b23) fun _ => ?_
  refine Safe.seq (Safe.store L.b23) fun _ => ?_
  refine Safe.seq (Safe.load L.b23) fun _ => ?_
  refine Safe.seq (Safe.load L.b21) fun _ => ?_
  refine Safe.seq (Safe.load L.b21) fun _ => ?_
  refine Safe.seq (Safe.store L.b21) fun _ => ?_
  exact Safe.pure trivial

theorem p62 : ∀ v2062 v2183 v2290 v2369 v2400 v2431 v2482, Safe (F := F) c bd H (k0_part62 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 v2062 v2183 v2290 v2369 v2400 v2431 v2482) fun _ => True := by
  intros
  rw [k0_part62_eq_skeleton]
  delta k0_part62_skel
  refine Safe.seq (Safe.load L.b23) fun _ => ?_
  refine Safe.seq (Safe.store L.b23) fun _ => ?_
  refine Safe.seq (Safe.load L.b23) fun _ => ?_
  refine Safe.seq (Safe.load L.b21) fun _ => ?_
  refine Safe.seq (Safe.load L.b21) fun _ => ?_
  refine Safe.seq (Safe.store L.b21) fun _ => ?_
  refine Safe.seq (Safe.load L.b23) fun _ => ?_
  refine Safe.seq (Safe.load L.b21) fun _ => ?_
  refine Safe.seq (Safe.load L.b21) fun _ => ?_
  refine Safe.seq (Safe.store L.b21) fun _ => ?_
  refine Safe.seq (Safe.load L.b23) fun _ => ?_
  exact Safe.pure trivial

theorem p64 : ∀ arg1 v78 v79 k0_h1 k0_h2, Safe (F := F) c bd H (k0_part64 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg1 v78 v79 k0_h1 k0_h2) fun _ => True := by
  intros
  rw [k0_part64_eq_skeleton]
  delta k0_part64_skel
  refine Safe.seq (Safe.load L.b4) fun _ => ?_
  refine Safe.seq (Safe.load L.b9) fun _ => ?_
  refine Safe.seq (Safe.load L.b4) fun _ => ?_
  refine Safe.seq (Safe.load L.b9) fun _ => ?_
  refine Safe.seq (Safe.load L.b6) fun _ => ?_
  refine Safe.seq (Safe.load L.b10) fun _ => ?_
  refine Safe.seq (Safe.load L.b6) fun _ => ?_
  refine Safe.seq (Safe.load L.b10) fun _ => ?_
  refine Safe.seq (Safe.load L.b7) fun _ => ?_
  exact Safe.pure trivial

theorem p65 : ∀ arg1 v0 v2 k0_h1 k0_h2 v274, Safe (F := F) c bd H (k0_part65 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg1 v0 v2 k0_h1 k0_h2 v274) fun _ => True := by
  intros
  rw [k0_part65_eq_skeleton]
  delta k0_part65_skel
  refine Safe.seq (Safe.load L.b8) fun _ => ?_
  refine Safe.seq (Safe.load L.b11) fun _ => ?_
  refine Safe.seq (Safe.load L.b8) fun _ => ?_
  refine Safe.seq (Safe.load L.b11) fun _ => ?_
  exact Safe.pure trivial

theorem p66 : ∀ v246 v275 v299 v306 v312 v313 v314, Safe (F := F) c bd H (k0_part66 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 v246 v275 v299 v306 v312 v313 v314) fun _ => True := by
  intros
  rw [k0_part66_eq_skeleton]
  delta k0_part66_skel
  exact Safe.pure trivial

theorem p67 : ∀ v21 v23 v42 v60 v246 v262 v290 v315 v367 cst_138, Safe (F := F) c bd H (k0_part67 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 v21 v23 v42 v60 v246 v262 v290 v315 v367 cst_138) fun _ => True := by
  intros
  rw [k0_part67_eq_skeleton]
  delta k0_part67_skel
  refine Safe.seq (Safe.load L.b19) fun _ => ?_
  refine Safe.seq (Safe.store L.b19) fun _ => ?_
  refine Safe.seq (Safe.load L.b22) fun _ => ?_
  refine Safe.seq (Safe.store L.b22) fun _ => ?_
  refine Safe.seq (Safe.load L.b24) fun _ => ?_
  refine Safe.seq (Safe.store L.b24) fun _ => ?_
  refine Safe.seq (Safe.load L.b19) fun _ => ?_
  exact Safe.pure trivial

theorem p68 : ∀ v39 v62 k0_h1 k0_h2 v241 v262 v298 v399 v401, Safe (F := F) c bd H (k0_part68 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 v39 v62 k0_h1 k0_h2 v241 v262 v298 v399 v401) fun _ => True := by
  intros
  rw [k0_part68_eq_skeleton]
  delta k0_part68_skel
  refine Safe.seq (Safe.load L.b19) fun _ => ?_
  refine Safe.seq (Safe.store L.b19) fun _ => ?_
  refine Safe.seq (Safe.load L.b22) fun _ => ?_
  refine Safe.seq (Safe.load L.b13) fun _ => ?_
  refine Safe.seq (Safe.load L.b20) fun _ => ?_
  refine Safe.seq (Safe.store L.b20) fun _ => ?_
  refine Safe.seq (Safe.load L.b22) fun _ => ?_
  refine Safe.seq (Safe.store L.b22) fun _ => ?_
  refine Safe.seq (Safe.word L.b2) fun _ => ?_
  refine Safe.seq (Safe.load L.b24) fun _ => ?_
  refine Safe.seq (Safe.load L.b14) fun _ => ?_
  exact Safe.pure trivial

theorem p69 : ∀ v3 v42 v265 v290 v297 v317 v409 v412 v429 v433, Safe (F := F) c bd H (k0_part69 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 v3 v42 v265 v290 v297 v317 v409 v412 v429 v433) fun _ => True := by
  intros
  rw [k0_part69_eq_skeleton]
  delta k0_part69_skel
  refine Safe.seq (Safe.load L.b24) fun _ => ?_
  refine Safe.seq (Safe.store L.b24) fun _ => ?_
  refine Safe.seq (Safe.load L.b19) fun _ => ?_
  refine Safe.seq (Safe.load L.b25) fun _ => ?_
  refine Safe.seq (Safe.store L.b25) fun _ => ?_
  exact Safe.pure trivial

theorem p70 : ∀ v26 v39 v42 v240 v241 v246 v249 v383 v398 v399 v464 v473, Safe (F := F) c bd H (k0_part70 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 v26 v39 v42 v240 v241 v246 v249 v383 v398 v399 v464 v473) fun _ => True := by
  intros
  rw [k0_part70_eq_skeleton]
  delta k0_part70_skel
  refine Safe.seq (Safe.load L.b23) fun _ => ?_
  refine Safe.seq (Safe.store L.b23) fun _ => ?_
  refine Safe.seq (Safe.load L.b20) fun _ => ?_
  refine Safe.seq (Safe.load L.b19) fun _ => ?_
  refine Safe.seq (Safe.store L.b19) fun _ => ?_
  refine Safe.seq (Safe.load L.b22) fun _ => ?_
  refine Safe.seq (Safe.load L.b13) fun _ => ?_
  refine Safe.seq (Safe.load L.b20) fun _ => ?_
  refine Safe.seq (Safe.store L.b20) fun _ => ?_
  exact Safe.pure trivial

theorem p71 : ∀ v65 k0_h1 k0_h2 v262 v298 v423 v433 v489 v499 v502 v507 cst_226, Safe (F := F) c bd H (k0_part71 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 v65 k0_h1 k0_h2 v262 v298 v423 v433 v489 v499 v502 v507 cst_226) fun _ => True := by
  intros
  rw [k0_part71_eq_skeleton]
  delta k0_part71_skel
  refine Safe.seq (Safe.load L.b18) fun _ => ?_
  refine Safe.seq (Safe.store L.b18) fun _ => ?_
  refine Safe.seq (Safe.load L.b22) fun _ => ?_
  refine Safe.seq (Safe.store L.b22) fun _ => ?_
  refine Safe.seq (Safe.word L.b2) fun _ => ?_
  refine Safe.seq (Safe.load L.b24) fun _ => ?_
  refine Safe.seq (Safe.load L.b14) fun _ => ?_
  refine Safe.seq (Safe.load L.b25) fun _ => ?_
  exact Safe.pure trivial

theorem p72 : ∀ v3 v42 v290 v297 v320 v532, Safe (F := F) c bd H (k0_part72 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 v3 v42 v290 v297 v320 v532) fun _ => True := by
  intros
  rw [k0_part72_eq_skeleton]
  delta k0_part72_skel
  refine Safe.seq (Safe.load L.b23) fun _ => ?_
  refine Safe.seq (Safe.load L.b21) fun _ => ?_
  refine Safe.seq (Safe.store L.b21) fun _ => ?_
  refine Safe.seq (Safe.load L.b24) fun _ => ?_
  refine Safe.seq (Safe.store L.b24) fun _ => ?_
  refine Safe.seq (Safe.load L.b19) fun _ => ?_
  refine Safe.seq (Safe.load L.b25) fun _ => ?_
  refine Safe.seq (Safe.store L.b25) fun _ => ?_
  exact Safe.pure trivial

theorem p73 : ∀ v3 v28 v39 v42 v240 v241 v246 v265 v448 v463 v464 v536 v576, Safe (F := F) c bd H (k0_part73 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 v3 v28 v39 v42 v240 v241 v246 v265 v448 v463 v464 v536 v576) fun _ => True := by
  intros
  rw [k0_part73_eq_skeleton]
  delta k0_part73_skel
  refine Safe.seq (Safe.load L.b23) fun _ => ?_
  refine Safe.seq (Safe.store L.b23) fun _ => ?_
  refine Safe.seq (Safe.load L.b20) fun _ => ?_
  refine Safe.seq (Safe.load L.b19) fun _ => ?_
  refine Safe.seq (Safe.store L.b19) fun _ => ?_
  refine Safe.seq (Safe.load L.b22) fun _ => ?_
  refine Safe.seq (Safe.load L.b13) fun _ => ?_
  refine Safe.seq (Safe.load L.b20) fun _ => ?_
  exact Safe.pure trivial

theorem p74 : ∀ v67 k0_h1 k0_h2 v249 v262 v298 v518 v528 v601 v611 v614 v615 v616, Safe (F := F) c bd H (k0_part74 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 v67 k0_h1 k0_h2 v249 v262 v298 v518 v528 v601 v611 v614 v615 v616) fun _ => True := by
  intros
  rw [k0_part74_eq_skeleton]
  delta k0_part74_skel
  refine Safe.seq (Safe.store L.b20) fun _ => ?_
  refine Safe.seq (Safe.load L.b18) fun _ => ?_
  refine Safe.seq (Safe.store L.b18) fun _ => ?_
  refine Safe.seq (Safe.load L.b22) fun _ => ?_
  refine Safe.seq (Safe.store L.b22) fun _ => ?_
  refine Safe.seq (Safe.word L.b2) fun _ => ?_
  refine Safe.seq (Safe.load L.b24) fun _ => ?_
  refine Safe.seq (Safe.load L.b14) fun _ => ?_
  refine Safe.seq (Safe.load L.b25) fun _ => ?_
  exact Safe.pure trivial

theorem p75 : ∀ v3 v42 v290 v297 v322 v644 v650 v651 v654, Safe (F := F) c bd H (k0_part75 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 v3 v42 v290 v297 v322 v644 v650 v651 v654) fun _ => True := by
  intros
  rw [k0_part75_eq_skeleton]
  delta k0_part75_skel
  refine Safe.seq (Safe.load L.b23) fun _ => ?_
  refine Safe.seq (Safe.load L.b21) fun _ => ?_
  refine Safe.seq (Safe.store L.b21) fun _ => ?_
  refine Safe.seq (Safe.load L.b24) fun _ => ?_
  refine Safe.seq (Safe.store L.b24) fun _ => ?_
  refine Safe.seq (Safe.load L.b19) fun _ => ?_
  exact Safe.pure trivial

theorem p76 : ∀ v3 v31 v42 v240 v241 v246 v265 v560 v575 v576 v648 v691, Safe (F := F) c bd H (k0_part76 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 v3 v31 v42 v240 v241 v246 v265 v560 v575 v576 v648 v691) fun _ => True := by
  intros
  rw [k0_part76_eq_skeleton]
  delta k0_part76_skel
  refine Safe.seq (Safe.load L.b25) fun _ => ?_
  refine Safe.seq (Safe.store L.b25) fun _ => ?_
  refine Safe.seq (Safe.load L.b23) fun _ => ?_
  refine Safe.seq (Safe.store L.b23) fun _ => ?_
  refine Safe.seq (Safe.load L.b20) fun _ => ?_
  refine Safe.seq (Safe.load L.b19) fun _ => ?_
  refine Safe.seq (Safe.store L.b19) fun _ => ?_
  refine Safe.seq (Safe.load L.b22) fun _ => ?_
  refine Safe.seq (Safe.load L.b13) fun _ => ?_
  exact Safe.pure trivial

theorem p77 : ∀ v39 v70 k0_h1 k0_h2 v249 v262 v298 v688 v713 v723 v726 cst_351, Safe (F := F) c bd H (k0_part77 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 v39 v70 k0_h1 k0_h2 v249 v262 v298 v688 v713 v723 v726 cst_351) fun _ => True := by
  intros
  rw [k0_part77_eq_skeleton]
  delta k0_part77_skel
  refine Safe.seq (Safe.load L.b20) fun _ => ?_
  refine Safe.seq (Safe.store L.b20) fun _ => ?_
  refine Safe.seq (Safe.load L.b18) fun _ => ?_
  refine Safe.seq (Safe.store L.b18) fun _ => ?_
  refine Safe.seq (Safe.load L.b22) fun _ => ?_
  refine Safe.seq (Safe.store L.b22) fun _ => ?_
  refine Safe.seq (Safe.word L.b2) fun _ => ?_
  refine Safe.seq (Safe.load L.b24) fun _ => ?_
  refine Safe.seq (Safe.load L.b14) fun _ => ?_
  refine Safe.seq (Safe.load L.b25) fun _ => ?_
  exact Safe.pure trivial

theorem p78 : ∀ v42 v290 v297 v325 v630 v640 v761, Safe (F := F) c bd H (k0_part78 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 v42 v290 v297 v325 v630 v640 v761) fun _ => True := by
  intros
  rw [k0_part78_eq_skeleton]
  delta k0_part78_skel
  refine Safe.seq (Safe.load L.b23) fun _ => ?_
  refine Safe.seq (Safe.load L.b21) fun _ => ?_
  refine Safe.seq (Safe.store L.b21) fun _ => ?_
  refine Safe.seq (Safe.load L.b24) fun _ => ?_
  refine Safe.seq (Safe.store L.b24) fun _ => ?_
  refine Safe.seq (Safe.load L.b19) fun _ => ?_
  exact Safe.pure trivial

theorem p79 : ∀ v3 v33 v42 v240 v246 v265 v672 v687 v688 v756 v760 v801, Safe (F := F) c bd H (k0_part79 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 v3 v33 v42 v240 v246 v265 v672 v687 v688 v756 v760 v801) fun _ => True := by
  intros
  rw [k0_part79_eq_skeleton]
  delta k0_part79_skel
  refine Safe.seq (Safe.load L.b25) fun _ => ?_
  refine Safe.seq (Safe.store L.b25) fun _ => ?_
  refine Safe.seq (Safe.load L.b23) fun _ => ?_
  refine Safe.seq (Safe.store L.b23) fun _ => ?_
  refine Safe.seq (Safe.load L.b20) fun _ => ?_
  refine Safe.seq (Safe.load L.b19) fun _ => ?_
  refine Safe.seq (Safe.store L.b19) fun _ => ?_
  refine Safe.seq (Safe.load L.b22) fun _ => ?_
  refine Safe.seq (Safe.load L.b13) fun _ => ?_
  exact Safe.pure trivial

theorem p80 : ∀ v39 v72 k0_h1 k0_h2 v241 v249 v262 v298 v800 v825 v835, Safe (F := F) c bd H (k0_part80 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 v39 v72 k0_h1 k0_h2 v241 v249 v262 v298 v800 v825 v835) fun _ => True := by
  intros
  rw [k0_part80_eq_skeleton]
  delta k0_part80_skel
  refine Safe.seq (Safe.load L.b20) fun _ => ?_
  refine Safe.seq (Safe.store L.b20) fun _ => ?_
  refine Safe.seq (Safe.load L.b18) fun _ => ?_
  refine Safe.seq (Safe.store L.b18) fun _ => ?_
  refine Safe.seq (Safe.load L.b22) fun _ => ?_
  refine Safe.seq (Safe.store L.b22) fun _ => ?_
  refine Safe.seq (Safe.word L.b2) fun _ => ?_
  refine Safe.seq (Safe.load L.b24) fun _ => ?_
  refine Safe.seq (Safe.load L.b14) fun _ => ?_
  exact Safe.pure trivial

theorem p81 : ∀ v290 v327 v742 v752 v871, Safe (F := F) c bd H (k0_part81 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 v290 v327 v742 v752 v871) fun _ => True := by
  intros
  rw [k0_part81_eq_skeleton]
  delta k0_part81_skel
  refine Safe.seq (Safe.load L.b25) fun _ => ?_
  refine Safe.seq (Safe.load L.b23) fun _ => ?_
  refine Safe.seq (Safe.load L.b21) fun _ => ?_
  refine Safe.seq (Safe.store L.b21) fun _ => ?_
  refine Safe.seq (Safe.load L.b24) fun _ => ?_
  refine Safe.seq (Safe.store L.b24) fun _ => ?_
  refine Safe.seq (Safe.load L.b19) fun _ => ?_
  exact Safe.pure trivial

theorem p82 : ∀ v3 v36 v42 v240 v246 v265 v297 v784 v799 v800 v868 v872 v909, Safe (F := F) c bd H (k0_part82 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 v3 v36 v42 v240 v246 v265 v297 v784 v799 v800 v868 v872 v909) fun _ => True := by
  intros
  rw [k0_part82_eq_skeleton]
  delta k0_part82_skel
  refine Safe.seq (Safe.load L.b25) fun _ => ?_
  refine Safe.seq (Safe.store L.b25) fun _ => ?_
  refine Safe.seq (Safe.load L.b23) fun _ => ?_
  refine Safe.seq (Safe.store L.b23) fun _ => ?_
  refine Safe.seq (Safe.load L.b20) fun _ => ?_
  refine Safe.seq (Safe.load L.b19) fun _ => ?_
  refine Safe.seq (Safe.store L.b19) fun _ => ?_
  refine Safe.seq (Safe.load L.b22) fun _ => ?_
  exact Safe.pure trivial

theorem p83 : ∀ v39 v75 k0_h1 k0_h2 v241 v249 v262 v298 v912 v937 v944, Safe (F := F) c bd H (k0_part83 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 v39 v75 k0_h1 k0_h2 v241 v249 v262 v298 v912 v937 v944) fun _ => True := by
  intros
  rw [k0_part83_eq_skeleton]
  delta k0_part83_skel
  refine Safe.seq (Safe.load L.b13) fun _ => ?_
  refine Safe.seq (Safe.load L.b20) fun _ => ?_
  refine Safe.seq (Safe.store L.b20) fun _ => ?_
  refine Safe.seq (Safe.load L.b18) fun _ => ?_
  refine Safe.seq (Safe.store L.b18) fun _ => ?_
  refine Safe.seq (Safe.load L.b22) fun _ => ?_
  refine Safe.seq (Safe.store L.b22) fun _ => ?_
  refine Safe.seq (Safe.word L.b2) fun _ => ?_
  refine Safe.seq (Safe.load L.b24) fun _ => ?_
  refine Safe.seq (Safe.load L.b14) fun _ => ?_
  exact Safe.pure trivial

theorem p84 : ∀ v290 v330 v854 v864 v947 v950 v978, Safe (F := F) c bd H (k0_part84 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 v290 v330 v854 v864 v947 v950 v978) fun _ => True := by
  intros
  rw [k0_part84_eq_skeleton]
  delta k0_part84_skel
  refine Safe.seq (Safe.load L.b25) fun _ => ?_
  refine Safe.seq (Safe.load L.b23) fun _ => ?_
  refine Safe.seq (Safe.load L.b21) fun _ => ?_
  refine Safe.seq (Safe.store L.b21) fun _ => ?_
  refine Safe.seq (Safe.load L.b24) fun _ => ?_
  refine Safe.seq (Safe.store L.b24) fun _ => ?_
  refine Safe.seq (Safe.load L.b19) fun _ => ?_
  exact Safe.pure trivial

theorem p85 : ∀ v3 v38 v42 v240 v246 v265 v297 v896 v911 v912 v980 v984 v1010 v1017, Safe (F := F) c bd H (k0_part85 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 v3 v38 v42 v240 v246 v265 v297 v896 v911 v912 v980 v984 v1010 v1017) fun _ => True := by
  intros
  rw [k0_part85_eq_skeleton]
  delta k0_part85_skel
  refine Safe.seq (Safe.load L.b25) fun _ => ?_
  refine Safe.seq (Safe.store L.b25) fun _ => ?_
  refine Safe.seq (Safe.load L.b23) fun _ => ?_
  refine Safe.seq (Safe.store L.b23) fun _ => ?_
  refine Safe.seq (Safe.load L.b20) fun _ => ?_
  refine Safe.seq (Safe.load L.b19) fun _ => ?_
  refine Safe.seq (Safe.store L.b19) fun _ => ?_
  exact Safe.pure trivial

theorem p86 : ∀ v39 v77 k0_h1 k0_h2 v241 v249 v262 v298 v1024 v1049, Safe (F := F) c bd H (k0_part86 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 v39 v77 k0_h1 k0_h2 v241 v249 v262 v298 v1024 v1049) fun _ => True := by
  intros
  rw [k0_part86_eq_skeleton]
  delta k0_part86_skel
  refine Safe.seq (Safe.load L.b22) fun _ => ?_
  refine Safe.seq (Safe.load L.b13) fun _ => ?_
  refine Safe.seq (Safe.load L.b20) fun _ => ?_
  refine Safe.seq (Safe.store L.b20) fun _ => ?_
  refine Safe.seq (Safe.load L.b18) fun _ => ?_
  refine Safe.seq (Safe.store L.b18) fun _ => ?_
  refine Safe.seq (Safe.load L.b22) fun _ => ?_
  refine Safe.seq (Safe.store L.b22) fun _ => ?_
  refine Safe.seq (Safe.word L.b2) fun _ => ?_
  refine Safe.seq (Safe.load L.b24) fun _ => ?_
  refine Safe.seq (Safe.load L.b14) fun _ => ?_
  exact Safe.pure trivial

theorem p87 : ∀ v290 v332 v966 v976 v1059 v1062 v1078 v1084 v1085, Safe (F := F) c bd H (k0_part87 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 v290 v332 v966 v976 v1059 v1062 v1078 v1084 v1085) fun _ => True := by
  intros
  rw [k0_part87_eq_skeleton]
  delta k0_part87_skel
  refine Safe.seq (Safe.load L.b25) fun _ => ?_
  refine Safe.seq (Safe.load L.b23) fun _ => ?_
  refine Safe.seq (Safe.load L.b21) fun _ => ?_
  refine Safe.seq (Safe.store L.b21) fun _ => ?_
  refine Safe.seq (Safe.load L.b24) fun _ => ?_
  refine Safe.seq (Safe.store L.b24) fun _ => ?_
  refine Safe.seq (Safe.load L.b19) fun _ => ?_
  exact Safe.pure trivial

theorem p88 : ∀ v3 v21 v42 v240 v254 v265 v297 v1008 v1023 v1024 v1092 v1096 v1122 v1125, Safe (F := F) c bd H (k0_part88 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 v3 v21 v42 v240 v254 v265 v297 v1008 v1023 v1024 v1092 v1096 v1122 v1125) fun _ => True := by
  intros
  rw [k0_part88_eq_skeleton]
  delta k0_part88_skel
  refine Safe.seq (Safe.load L.b25) fun _ => ?_
  refine Safe.seq (Safe.store L.b25) fun _ => ?_
  refine Safe.seq (Safe.load L.b23) fun _ => ?_
  refine Safe.seq (Safe.store L.b23) fun _ => ?_
  refine Safe.seq (Safe.load L.b20) fun _ => ?_
  refine Safe.seq (Safe.load L.b19) fun _ => ?_
  exact Safe.pure trivial

theorem p89 : ∀ v39 v60 v241 v249 v270 v298 v1136 v1161 v1163 v1164, Safe (F := F) c bd H (k0_part89 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 v39 v60 v241 v249 v270 v298 v1136 v1161 v1163 v1164) fun _ => True := by
  intros
  rw [k0_part89_eq_skeleton]
  delta k0_part89_skel
  refine Safe.seq (Safe.store L.b19) fun _ => ?_
  refine Safe.seq (Safe.load L.b22) fun _ => ?_
  refine Safe.seq (Safe.load L.b13) fun _ => ?_
  refine Safe.seq (Safe.load L.b20) fun _ => ?_
  refine Safe.seq (Safe.store L.b20) fun _ => ?_
  refine Safe.seq (Safe.load L.b18) fun _ => ?_
  refine Safe.seq (Safe.store L.b18) fun _ => ?_
  refine Safe.seq (Safe.load L.b22) fun _ => ?_
  refine Safe.seq (Safe.store L.b22) fun _ => ?_
  refine Safe.seq (Safe.word L.b2) fun _ => ?_
  refine Safe.seq (Safe.load L.b24) fun _ => ?_
  exact Safe.pure trivial

theorem p90 : ∀ k0_h1 k0_h2 v280 v349 v1078 v1088 v1171 v1174 v1190 v1192, Safe (F := F) c bd H (k0_part90 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 k0_h1 k0_h2 v280 v349 v1078 v1088 v1171 v1174 v1190 v1192) fun _ => True := by
  intros
  rw [k0_part90_eq_skeleton]
  delta k0_part90_skel
  refine Safe.seq (Safe.load L.b14) fun _ => ?_
  refine Safe.seq (Safe.load L.b25) fun _ => ?_
  refine Safe.seq (Safe.load L.b23) fun _ => ?_
  refine Safe.seq (Safe.load L.b21) fun _ => ?_
  refine Safe.seq (Safe.store L.b21) fun _ => ?_
  refine Safe.seq (Safe.load L.b24) fun _ => ?_
  refine Safe.seq (Safe.store L.b24) fun _ => ?_
  refine Safe.seq (Safe.load L.b19) fun _ => ?_
  exact Safe.pure trivial

theorem p91 : ∀ v3 v23 v42 v240 v254 v265 v297 v1120 v1135 v1136 v1204 v1208 v1232 v1233, Safe (F := F) c bd H (k0_part91 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 v3 v23 v42 v240 v254 v265 v297 v1120 v1135 v1136 v1204 v1208 v1232 v1233) fun _ => True := by
  intros
  rw [k0_part91_eq_skeleton]
  delta k0_part91_skel
  refine Safe.seq (Safe.load L.b25) fun _ => ?_
  refine Safe.seq (Safe.store L.b25) fun _ => ?_
  refine Safe.seq (Safe.load L.b23) fun _ => ?_
  refine Safe.seq (Safe.store L.b23) fun _ => ?_
  refine Safe.seq (Safe.load L.b20) fun _ => ?_
  exact Safe.pure trivial

theorem p92 : ∀ v39 v62 v249 v270 v412 v1246 v1271 v1273, Safe (F := F) c bd H (k0_part92 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 v39 v62 v249 v270 v412 v1246 v1271 v1273) fun _ => True := by
  intros
  rw [k0_part92_eq_skeleton]
  delta k0_part92_skel
  refine Safe.seq (Safe.load L.b19) fun _ => ?_
  refine Safe.seq (Safe.store L.b19) fun _ => ?_
  refine Safe.seq (Safe.load L.b22) fun _ => ?_
  refine Safe.seq (Safe.load L.b13) fun _ => ?_
  refine Safe.seq (Safe.load L.b20) fun _ => ?_
  refine Safe.seq (Safe.store L.b20) fun _ => ?_
  refine Safe.seq (Safe.load L.b18) fun _ => ?_
  refine Safe.seq (Safe.store L.b18) fun _ => ?_
  refine Safe.seq (Safe.load L.b22) fun _ => ?_
  refine Safe.seq (Safe.store L.b22) fun _ => ?_
  refine Safe.seq (Safe.word L.b2) fun _ => ?_
  refine Safe.seq (Safe.load L.b24) fun _ => ?_
  exact Safe.pure trivial

theorem p93 : ∀ v280 v351 v1190 v1200 v1281 v1284 v1302 v1304, Safe (F := F) c bd H (k0_part93 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 v280 v351 v1190 v1200 v1281 v1284 v1302 v1304) fun _ => True := by
  intros
  rw [k0_part93_eq_skeleton]
  delta k0_part93_skel
  refine Safe.seq (Safe.load L.b14) fun _ => ?_
  refine Safe.seq (Safe.load L.b25) fun _ => ?_
  refine Safe.seq (Safe.load L.b23) fun _ => ?_
  refine Safe.seq (Safe.load L.b21) fun _ => ?_
  refine Safe.seq (Safe.store L.b21) fun _ => ?_
  refine Safe.seq (Safe.load L.b24) fun _ => ?_
  refine Safe.seq (Safe.store L.b24) fun _ => ?_
  exact Safe.pure trivial

theorem p94 : ∀ v3 v26 v254 v273 v283 v483 v1232 v1245 v1246 v1315 v1319, Safe (F := F) c bd H (k0_part94 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 v3 v26 v254 v273 v283 v483 v1232 v1245 v1246 v1315 v1319) fun _ => True := by
  intros
  rw [k0_part94_eq_skeleton]
  delta k0_part94_skel
  refine Safe.seq (Safe.load L.b19) fun _ => ?_
  refine Safe.seq (Safe.load L.b25) fun _ => ?_
  refine Safe.seq (Safe.store L.b25) fun _ => ?_
  refine Safe.seq (Safe.load L.b23) fun _ => ?_
  refine Safe.seq (Safe.store L.b23) fun _ => ?_
  refine Safe.seq (Safe.load L.b20) fun _ => ?_
  exact Safe.pure trivial

theorem p95 : ∀ v39 v65 v257 v270 v483 v502 v1357 v1380 v1382, Safe (F := F) c bd H (k0_part95 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 v39 v65 v257 v270 v483 v502 v1357 v1380 v1382) fun _ => True := by
  intros
  rw [k0_part95_eq_skeleton]
  delta k0_part95_skel
  refine Safe.seq (Safe.load L.b19) fun _ => ?_
  refine Safe.seq (Safe.store L.b19) fun _ => ?_
  refine Safe.seq (Safe.load L.b22) fun _ => ?_
  refine Safe.seq (Safe.load L.b13) fun _ => ?_
  refine Safe.seq (Safe.load L.b20) fun _ => ?_
  refine Safe.seq (Safe.store L.b20) fun _ => ?_
  refine Safe.seq (Safe.load L.b18) fun _ => ?_
  refine Safe.seq (Safe.load L.b18) fun _ => ?_
  refine Safe.seq (Safe.store L.b18) fun _ => ?_
  refine Safe.seq (Safe.load L.b22) fun _ => ?_
  refine Safe.seq (Safe.store L.b22) fun _ => ?_
  exact Safe.pure trivial

theorem p96 : ∀ v549 v1286 v1302 v1311 v1390 v1393, Safe (F := F) c bd H (k0_part96 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 v549 v1286 v1302 v1311 v1390 v1393) fun _ => True := by
  intros
  rw [k0_part96_eq_skeleton]
  delta k0_part96_skel
  refine Safe.seq (Safe.word L.b2) fun _ => ?_
  refine Safe.seq (Safe.load L.b24) fun _ => ?_
  refine Safe.seq (Safe.load L.b14) fun _ => ?_
  refine Safe.seq (Safe.load L.b25) fun _ => ?_
  refine Safe.seq (Safe.load L.b23) fun _ => ?_
  refine Safe.seq (Safe.load L.b21) fun _ => ?_
  exact Safe.pure trivial

theorem p97 : ∀ v3 v273 v280 v283 v354 v1429 v1433 v1454, Safe (F := F) c bd H (k0_part97 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 v3 v273 v280 v283 v354 v1429 v1433 v1454) fun _ => True := by
  intros
  rw [k0_part97_eq_skeleton]
  delta k0_part97_skel
  refine Safe.seq (Safe.load L.b21) fun _ => ?_
  refine Safe.seq (Safe.store L.b21) fun _ => ?_
  refine Safe.seq (Safe.load L.b24) fun _ => ?_
  refine Safe.seq (Safe.store L.b24) fun _ => ?_
  refine Safe.seq (Safe.load L.b19) fun _ => ?_
  refine Safe.seq (Safe.load L.b25) fun _ => ?_
  refine Safe.seq (Safe.store L.b25) fun _ => ?_
  refine Safe.seq (Safe.load L.b23) fun _ => ?_
  refine Safe.seq (Safe.store L.b23) fun _ => ?_
  exact Safe.pure trivial

theorem p98 : ∀ v28 v39 v254 v257 v595 v614 v1343 v1356 v1357 v1478, Safe (F := F) c bd H (k0_part98 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 v28 v39 v254 v257 v595 v614 v1343 v1356 v1357 v1478) fun _ => True := by
  intros
  rw [k0_part98_eq_skeleton]
  delta k0_part98_skel
  refine Safe.seq (Safe.load L.b20) fun _ => ?_
  refine Safe.seq (Safe.load L.b19) fun _ => ?_
  refine Safe.seq (Safe.store L.b19) fun _ => ?_
  refine Safe.seq (Safe.load L.b22) fun _ => ?_
  refine Safe.seq (Safe.load L.b13) fun _ => ?_
  refine Safe.seq (Safe.load L.b20) fun _ => ?_
  refine Safe.seq (Safe.store L.b20) fun _ => ?_
  refine Safe.seq (Safe.load L.b18) fun _ => ?_
  exact Safe.pure trivial

theorem p99 : ∀ v67 v270 v1416 v1425 v1511 v1514 v1523 v1526, Safe (F := F) c bd H (k0_part99 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 v67 v270 v1416 v1425 v1511 v1514 v1523 v1526) fun _ => True := by
  intros
  rw [k0_part99_eq_skeleton]
  delta k0_part99_skel
  refine Safe.seq (Safe.load L.b18) fun _ => ?_
  refine Safe.seq (Safe.store L.b18) fun _ => ?_
  refine Safe.seq (Safe.load L.b22) fun _ => ?_
  refine Safe.seq (Safe.store L.b22) fun _ => ?_
  refine Safe.seq (Safe.word L.b2) fun _ => ?_
  refine Safe.seq (Safe.load L.b24) fun _ => ?_
  refine Safe.seq (Safe.load L.b14) fun _ => ?_
  refine Safe.seq (Safe.load L.b25) fun _ => ?_
  exact Safe.pure trivial

theorem p100 : ∀ v3 v280 v283 v356 v661 v1395 v1550, Safe (F := F) c bd H (k0_part100 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 v3 v280 v283 v356 v661 v1395 v1550) fun _ => True := by
  intros
  rw [k0_part100_eq_skeleton]
  delta k0_part100_skel
  refine Safe.seq (Safe.load L.b23) fun _ => ?_
  refine Safe.seq (Safe.load L.b21) fun _ => ?_
  refine Safe.seq (Safe.load L.b21) fun _ => ?_
  refine Safe.seq (Safe.store L.b21) fun _ => ?_
  refine Safe.seq (Safe.load L.b24) fun _ => ?_
  refine Safe.seq (Safe.store L.b24) fun _ => ?_
  refine Safe.seq (Safe.load L.b19) fun _ => ?_
  exact Safe.pure trivial

theorem p101 : ∀ v3 v31 v254 v273 v707 v726 v1464 v1477 v1478 v1554 v1602, Safe (F := F) c bd H (k0_part101 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 v3 v31 v254 v273 v707 v726 v1464 v1477 v1478 v1554 v1602) fun _ => True := by
  intros
  rw [k0_part101_eq_skeleton]
  delta k0_part101_skel
  refine Safe.seq (Safe.load L.b25) fun _ => ?_
  refine Safe.seq (Safe.store L.b25) fun _ => ?_
  refine Safe.seq (Safe.load L.b23) fun _ => ?_
  refine Safe.seq (Safe.store L.b23) fun _ => ?_
  refine Safe.seq (Safe.load L.b20) fun _ => ?_
  refine Safe.seq (Safe.load L.b19) fun _ => ?_
  refine Safe.seq (Safe.store L.b19) fun _ => ?_
  refine Safe.seq (Safe.load L.b22) fun _ => ?_
  refine Safe.seq (Safe.load L.b13) fun _ => ?_
  exact Safe.pure trivial

theorem p102 : ∀ v39 v70 v257 v270 v707 v1599 v1622, Safe (F := F) c bd H (k0_part102 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 v39 v70 v257 v270 v707 v1599 v1622) fun _ => True := by
  intros
  rw [k0_part102_eq_skeleton]
  delta k0_part102_skel
  refine Safe.seq (Safe.load L.b20) fun _ => ?_
  refine Safe.seq (Safe.store L.b20) fun _ => ?_
  refine Safe.seq (Safe.load L.b18) fun _ => ?_
  refine Safe.seq (Safe.load L.b18) fun _ => ?_
  refine Safe.seq (Safe.store L.b18) fun _ => ?_
  refine Safe.seq (Safe.load L.b22) fun _ => ?_
  refine Safe.seq (Safe.store L.b22) fun _ => ?_
  refine Safe.seq (Safe.word L.b2) fun _ => ?_
  refine Safe.seq (Safe.load L.b24) fun _ => ?_
  refine Safe.seq (Safe.load L.b14) fun _ => ?_
  exact Safe.pure trivial

theorem p103 : ∀ v280 v359 v773 v1516 v1537 v1546 v1632 v1635, Safe (F := F) c bd H (k0_part103 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 v280 v359 v773 v1516 v1537 v1546 v1632 v1635) fun _ => True := by
  intros
  rw [k0_part103_eq_skeleton]
  delta k0_part103_skel
  refine Safe.seq (Safe.load L.b25) fun _ => ?_
  refine Safe.seq (Safe.load L.b23) fun _ => ?_
  refine Safe.seq (Safe.load L.b21) fun _ => ?_
  refine Safe.seq (Safe.load L.b21) fun _ => ?_
  refine Safe.seq (Safe.store L.b21) fun _ => ?_
  refine Safe.seq (Safe.load L.b24) fun _ => ?_
  refine Safe.seq (Safe.store L.b24) fun _ => ?_
  refine Safe.seq (Safe.load L.b19) fun _ => ?_
  exact Safe.pure trivial

theorem p104 : ∀ v3 v33 v254 v273 v283 v819 v1585 v1598 v1599 v1671 v1675 v1708 v1709, Safe (F := F) c bd H (k0_part104 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 v3 v33 v254 v273 v283 v819 v1585 v1598 v1599 v1671 v1675 v1708 v1709) fun _ => True := by
  intros
  rw [k0_part104_eq_skeleton]
  delta k0_part104_skel
  refine Safe.seq (Safe.load L.b25) fun _ => ?_
  refine Safe.seq (Safe.store L.b25) fun _ => ?_
  refine Safe.seq (Safe.load L.b23) fun _ => ?_
  refine Safe.seq (Safe.store L.b23) fun _ => ?_
  refine Safe.seq (Safe.load L.b20) fun _ => ?_
  refine Safe.seq (Safe.load L.b19) fun _ => ?_
  refine Safe.seq (Safe.store L.b19) fun _ => ?_
  exact Safe.pure trivial

theorem p105 : ∀ v39 v72 v257 v270 v819 v838 v1720 v1743, Safe (F := F) c bd H (k0_part105 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 v39 v72 v257 v270 v819 v838 v1720 v1743) fun _ => True := by
  intros
  rw [k0_part105_eq_skeleton]
  delta k0_part105_skel
  refine Safe.seq (Safe.load L.b22) fun _ => ?_
  refine Safe.seq (Safe.load L.b13) fun _ => ?_
  refine Safe.seq (Safe.load L.b20) fun _ => ?_
  refine Safe.seq (Safe.store L.b20) fun _ => ?_
  refine Safe.seq (Safe.load L.b18) fun _ => ?_
  refine Safe.seq (Safe.load L.b18) fun _ => ?_
  refine Safe.seq (Safe.store L.b18) fun _ => ?_
  refine Safe.seq (Safe.load L.b22) fun _ => ?_
  refine Safe.seq (Safe.store L.b22) fun _ => ?_
  refine Safe.seq (Safe.word L.b2) fun _ => ?_
  exact Safe.pure trivial

theorem p106 : ∀ v280 v885 v1637 v1658 v1667 v1753 v1756 v1779, Safe (F := F) c bd H (k0_part106 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 v280 v885 v1637 v1658 v1667 v1753 v1756 v1779) fun _ => True := by
  intros
  rw [k0_part106_eq_skeleton]
  delta k0_part106_skel
  refine Safe.seq (Safe.load L.b24) fun _ => ?_
  refine Safe.seq (Safe.load L.b14) fun _ => ?_
  refine Safe.seq (Safe.load L.b25) fun _ => ?_
  refine Safe.seq (Safe.load L.b23) fun _ => ?_
  refine Safe.seq (Safe.load L.b21) fun _ => ?_
  refine Safe.seq (Safe.load L.b21) fun _ => ?_
  refine Safe.seq (Safe.store L.b21) fun _ => ?_
  exact Safe.pure trivial

theorem p107 : ∀ v3 v273 v283 v361 v1792 v1796 v1821, Safe (F := F) c bd H (k0_part107 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 v3 v273 v283 v361 v1792 v1796 v1821) fun _ => True := by
  intros
  rw [k0_part107_eq_skeleton]
  delta k0_part107_skel
  refine Safe.seq (Safe.load L.b24) fun _ => ?_
  refine Safe.seq (Safe.store L.b24) fun _ => ?_
  refine Safe.seq (Safe.load L.b19) fun _ => ?_
  refine Safe.seq (Safe.load L.b25) fun _ => ?_
  refine Safe.seq (Safe.store L.b25) fun _ => ?_
  refine Safe.seq (Safe.load L.b23) fun _ => ?_
  refine Safe.seq (Safe.store L.b23) fun _ => ?_
  refine Safe.seq (Safe.load L.b20) fun _ => ?_
  exact Safe.pure trivial

theorem p108 : ∀ v36 v39 v254 v257 v931 v950 v1706 v1719 v1720 v1841 v1855 v1856, Safe (F := F) c bd H (k0_part108 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 v36 v39 v254 v257 v931 v950 v1706 v1719 v1720 v1841 v1855 v1856) fun _ => True := by
  intros
  rw [k0_part108_eq_skeleton]
  delta k0_part108_skel
  refine Safe.seq (Safe.load L.b19) fun _ => ?_
  refine Safe.seq (Safe.store L.b19) fun _ => ?_
  refine Safe.seq (Safe.load L.b22) fun _ => ?_
  refine Safe.seq (Safe.load L.b13) fun _ => ?_
  refine Safe.seq (Safe.load L.b20) fun _ => ?_
  refine Safe.seq (Safe.store L.b20) fun _ => ?_
  refine Safe.seq (Safe.load L.b18) fun _ => ?_
  refine Safe.seq (Safe.load L.b18) fun _ => ?_
  exact Safe.pure trivial

theorem p109 : ∀ v75 v270 v997 v1758 v1779 v1788 v1874 v1877 v1893, Safe (F := F) c bd H (k0_part109 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 v75 v270 v997 v1758 v1779 v1788 v1874 v1877 v1893) fun _ => True := by
  intros
  rw [k0_part109_eq_skeleton]
  delta k0_part109_skel
  refine Safe.seq (Safe.store L.b18) fun _ => ?_
  refine Safe.seq (Safe.load L.b22) fun _ => ?_
  refine Safe.seq (Safe.store L.b22) fun _ => ?_
  refine Safe.seq (Safe.word L.b2) fun _ => ?_
  refine Safe.seq (Safe.load L.b24) fun _ => ?_
  refine Safe.seq (Safe.load L.b14) fun _ => ?_
  refine Safe.seq (Safe.load L.b25) fun _ => ?_
  refine Safe.seq (Safe.load L.b23) fun _ => ?_
  exact Safe.pure trivial

theorem p110 : ∀ v3 v280 v283 v364 v1758 v1913 v1929 v1930 v1931, Safe (F := F) c bd H (k0_part110 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 v3 v280 v283 v364 v1758 v1913 v1929 v1930 v1931) fun _ => True := by
  intros
  rw [k0_part110_eq_skeleton]
  delta k0_part110_skel
  refine Safe.seq (Safe.load L.b21) fun _ => ?_
  refine Safe.seq (Safe.load L.b21) fun _ => ?_
  refine Safe.seq (Safe.store L.b21) fun _ => ?_
  refine Safe.seq (Safe.load L.b24) fun _ => ?_
  refine Safe.seq (Safe.store L.b24) fun _ => ?_
  refine Safe.seq (Safe.load L.b19) fun _ => ?_
  refine Safe.seq (Safe.load L.b25) fun _ => ?_
  exact Safe.pure trivial

theorem p111 : ∀ v3 v38 v39 v254 v273 v1043 v1062 v1827 v1840 v1841 v1917 v1962 v1968, Safe (F := F) c bd H (k0_part111 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 v3 v38 v39 v254 v273 v1043 v1062 v1827 v1840 v1841 v1917 v1962 v1968) fun _ => True := by
  intros
  rw [k0_part111_eq_skeleton]
  delta k0_part111_skel
  refine Safe.seq (Safe.store L.b25) fun _ => ?_
  refine Safe.seq (Safe.load L.b23) fun _ => ?_
  refine Safe.seq (Safe.store L.b23) fun _ => ?_
  refine Safe.seq (Safe.load L.b20) fun _ => ?_
  refine Safe.seq (Safe.load L.b19) fun _ => ?_
  refine Safe.seq (Safe.store L.b19) fun _ => ?_
  refine Safe.seq (Safe.load L.b22) fun _ => ?_
  refine Safe.seq (Safe.load L.b13) fun _ => ?_
  refine Safe.seq (Safe.load L.b20) fun _ => ?_
  exact Safe.pure trivial

end Cert.Attention

end
-- ==== Proof.PartsC.lean ====
module

public import proofs.«01_k».proof.Proof.Lent

@[expose] public section

set_option maxRecDepth 65536

noncomputable section

namespace Cert.Attention

open Cert.Kernel Cert.Kernel.Gen
open Idealize.ShloMosaic Idealize.ShloMosaic.TcCoe
open Idealize.SL Idealize.SL.RA Idealize.SL.BI
open Idealize.ShloMosaic.Rounds

variable {F : FTy → Type} [BitOps F] {c : Dev nD} {bd : Option ℕ}
variable {H : sProp (MT nD τ sig Unit (Elt F) ℕ (UR sig nD τ) ℕ)}

variable {i : grid0.Coords}
variable {arg2 : Memref sig .tc .smem S8 .f32} {harg2 : arg2.IsWhole}
variable {arg3 : Memref sig .tc .vmem S1x256x512 .bf16} {harg3 : arg3.IsWhole}
variable {arg4 : Memref sig .tc .vmem S1x2048x512 .bf16} {harg4 : arg4.IsWhole}
variable {arg5 : Memref sig .tc .vmem S1x256x512 .bf16} {harg5 : arg5.IsWhole}
variable {arg6 : Memref sig .tc .vmem S1x2048x512 .bf16} {harg6 : arg6.IsWhole}
variable {arg7 : Memref sig .tc .vmem S1x256x512 .bf16} {harg7 : arg7.IsWhole}
variable {arg8 : Memref sig .tc .vmem S1x2048x256 .bf16} {harg8 : arg8.IsWhole}
variable {arg9 : Memref sig .tc .vmem S8x512x256 .bf16} {harg9 : arg9.IsWhole}
variable {arg10 : Memref sig .tc .vmem S8x512x256 .bf16} {harg10 : arg10.IsWhole}
variable {arg11 : Memref sig .tc .vmem S8x128x256 .bf16} {harg11 : arg11.IsWhole}
variable {arg12 : Memref sig .tc .vmem S256x256 .bf16} {harg12 : arg12.IsWhole}
variable {arg13 : Memref sig .tc .vmem S4x2x256x256 .f32} {harg13 : arg13.IsWhole}
variable {arg14 : Memref sig .tc .vmem S8x2x256x128 .f32} {harg14 : arg14.IsWhole}
variable {arg15 : Memref sig .tc .vmem S4x64 .f32} {harg15 : arg15.IsWhole}
variable {arg16 : Memref sig .tc .vmem S128x1 .f32} {harg16 : arg16.IsWhole}
variable {arg17 : Memref sig .tc .vmem S1x256x1536 .bf16} {harg17 : arg17.IsWhole}
variable {arg18 : Memref sig .tc .vmem S512x256 .f32} {harg18 : arg18.IsWhole}
variable {arg19 : Memref sig .tc .vmem S16x256x256 .f32} {harg19 : arg19.IsWhole}
variable {arg20 : Memref sig .tc .vmem S16x256x256 .f32} {harg20 : arg20.IsWhole}
variable {arg21 : Memref sig .tc .vmem S8x128x256 .f32} {harg21 : arg21.IsWhole}
variable {arg22 : Memref sig .tc .vmem S24x256x256 .f32} {harg22 : arg22.IsWhole}
variable {arg23 : Memref sig .tc .vmem S24x144x256 .f32} {harg23 : arg23.IsWhole}
variable {arg24 : Memref sig .tc .vmem S16x256x128 .f32} {harg24 : arg24.IsWhole}
variable {arg25 : Memref sig .tc .vmem S16x80x128 .f32} {harg25 : arg25.IsWhole}
variable (L : Lent (F := F) c H arg2 arg3 arg4 arg5 arg6 arg7 arg8 arg9 arg10 arg11 arg12 arg13 arg14 arg15 arg16 arg17 arg18 arg19 arg20 arg21 arg22 arg23 arg24 arg25)
include L

theorem p112 : ∀ v77 v257 v270 v1043 v1985 v1995 v1998 v2001 v2002, Safe (F := F) c bd H (k0_part112 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 v77 v257 v270 v1043 v1985 v1995 v1998 v2001 v2002) fun _ => True := by
  intros
  rw [k0_part112_eq_skeleton]
  delta k0_part112_skel
  refine Safe.seq (Safe.store L.b20) fun _ => ?_
  refine Safe.seq (Safe.load L.b18) fun _ => ?_
  refine Safe.seq (Safe.load L.b18) fun _ => ?_
  refine Safe.seq (Safe.store L.b18) fun _ => ?_
  refine Safe.seq (Safe.load L.b22) fun _ => ?_
  refine Safe.seq (Safe.store L.b22) fun _ => ?_
  refine Safe.seq (Safe.word L.b2) fun _ => ?_
  refine Safe.seq (Safe.load L.b24) fun _ => ?_
  refine Safe.seq (Safe.load L.b14) fun _ => ?_
  exact Safe.pure trivial

theorem p113 : ∀ v280 v366 v1109 v1879 v1900 v1909, Safe (F := F) c bd H (k0_part113 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 v280 v366 v1109 v1879 v1900 v1909) fun _ => True := by
  intros
  rw [k0_part113_eq_skeleton]
  delta k0_part113_skel
  refine Safe.seq (Safe.load L.b25) fun _ => ?_
  refine Safe.seq (Safe.load L.b23) fun _ => ?_
  refine Safe.seq (Safe.load L.b21) fun _ => ?_
  refine Safe.seq (Safe.load L.b21) fun _ => ?_
  refine Safe.seq (Safe.store L.b21) fun _ => ?_
  refine Safe.seq (Safe.load L.b24) fun _ => ?_
  refine Safe.seq (Safe.store L.b24) fun _ => ?_
  refine Safe.seq (Safe.load L.b19) fun _ => ?_
  exact Safe.pure trivial

theorem p114 : ∀ v3 v273 v283 v1155 v1174 v1948 v1961 v1962 v2034 v2038 v2071 v2076 cst_1114, Safe (F := F) c bd H (k0_part114 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 v3 v273 v283 v1155 v1174 v1948 v1961 v1962 v2034 v2038 v2071 v2076 cst_1114) fun _ => True := by
  intros
  rw [k0_part114_eq_skeleton]
  delta k0_part114_skel
  refine Safe.seq (Safe.load L.b25) fun _ => ?_
  refine Safe.seq (Safe.store L.b25) fun _ => ?_
  refine Safe.seq (Safe.load L.b23) fun _ => ?_
  refine Safe.seq (Safe.store L.b23) fun _ => ?_
  refine Safe.seq (Safe.load L.b20) fun _ => ?_
  refine Safe.seq (Safe.load L.b22) fun _ => ?_
  refine Safe.seq (Safe.load L.b13) fun _ => ?_
  exact Safe.pure trivial

theorem p115 : ∀ v39 v257 v1155 v1174 v2083 v2106 v2111 v2114, Safe (F := F) c bd H (k0_part115 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 v39 v257 v1155 v1174 v2083 v2106 v2111 v2114) fun _ => True := by
  intros
  rw [k0_part115_eq_skeleton]
  delta k0_part115_skel
  refine Safe.seq (Safe.load L.b20) fun _ => ?_
  refine Safe.seq (Safe.store L.b20) fun _ => ?_
  refine Safe.seq (Safe.load L.b18) fun _ => ?_
  refine Safe.seq (Safe.load L.b18) fun _ => ?_
  refine Safe.seq (Safe.store L.b18) fun _ => ?_
  refine Safe.seq (Safe.word L.b2) fun _ => ?_
  refine Safe.seq (Safe.load L.b24) fun _ => ?_
  refine Safe.seq (Safe.load L.b14) fun _ => ?_
  refine Safe.seq (Safe.load L.b25) fun _ => ?_
  exact Safe.pure trivial

theorem p116 : ∀ v3 v273 v283 v1221 v2000 v2021 v2030 v2145 v2149 v2150, Safe (F := F) c bd H (k0_part116 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 v3 v273 v283 v1221 v2000 v2021 v2030 v2145 v2149 v2150) fun _ => True := by
  intros
  rw [k0_part116_eq_skeleton]
  delta k0_part116_skel
  refine Safe.seq (Safe.load L.b23) fun _ => ?_
  refine Safe.seq (Safe.load L.b21) fun _ => ?_
  refine Safe.seq (Safe.load L.b21) fun _ => ?_
  refine Safe.seq (Safe.store L.b21) fun _ => ?_
  refine Safe.seq (Safe.load L.b25) fun _ => ?_
  refine Safe.seq (Safe.store L.b25) fun _ => ?_
  refine Safe.seq (Safe.load L.b23) fun _ => ?_
  refine Safe.seq (Safe.store L.b23) fun _ => ?_
  refine Safe.seq (Safe.load L.b20) fun _ => ?_
  exact Safe.pure trivial

theorem p117 : ∀ v257 v1265 v1332 v2069 v2082 v2083 v2116 v2132 v2141 v2187, Safe (F := F) c bd H (k0_part117 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 v257 v1265 v1332 v2069 v2082 v2083 v2116 v2132 v2141 v2187) fun _ => True := by
  intros
  rw [k0_part117_eq_skeleton]
  delta k0_part117_skel
  refine Safe.seq (Safe.load L.b18) fun _ => ?_
  refine Safe.seq (Safe.load L.b18) fun _ => ?_
  refine Safe.seq (Safe.store L.b18) fun _ => ?_
  refine Safe.seq (Safe.load L.b25) fun _ => ?_
  refine Safe.seq (Safe.load L.b23) fun _ => ?_
  refine Safe.seq (Safe.load L.b21) fun _ => ?_
  refine Safe.seq (Safe.load L.b21) fun _ => ?_
  exact Safe.pure trivial

theorem p119 : ∀ arg1 k0_h1, Safe (F := F) c bd H (k0_part119 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg1 k0_h1) fun _ => True := by
  intros
  rw [k0_part119_eq_skeleton]
  delta k0_part119_skel
  refine Safe.seq (Safe.load L.b4) fun _ => ?_
  refine Safe.seq (Safe.load L.b9) fun _ => ?_
  refine Safe.seq (Safe.load L.b6) fun _ => ?_
  refine Safe.seq (Safe.load L.b10) fun _ => ?_
  refine Safe.seq (Safe.load L.b7) fun _ => ?_
  refine Safe.seq (Safe.load L.b8) fun _ => ?_
  refine Safe.seq (Safe.load L.b11) fun _ => ?_
  refine Safe.seq (Safe.load L.b8) fun _ => ?_
  exact Safe.pure trivial

theorem p120 : ∀ v0 v2 k0_h1 v256 v264, Safe (F := F) c bd H (k0_part120 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 v0 v2 k0_h1 v256 v264) fun _ => True := by
  intros
  rw [k0_part120_eq_skeleton]
  delta k0_part120_skel
  refine Safe.seq (Safe.load L.b11) fun _ => ?_
  exact Safe.pure trivial

theorem p121 : ∀ v21 v60 v243 v251 v271 v296 v314 v315 v317 cst_122 v318, Safe (F := F) c bd H (k0_part121 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 v21 v60 v243 v251 v271 v296 v314 v315 v317 cst_122 v318) fun _ => True := by
  intros
  rw [k0_part121_eq_skeleton]
  delta k0_part121_skel
  refine Safe.seq (Safe.load L.b19) fun _ => ?_
  refine Safe.seq (Safe.store L.b19) fun _ => ?_
  refine Safe.seq (Safe.load L.b22) fun _ => ?_
  refine Safe.seq (Safe.store L.b22) fun _ => ?_
  refine Safe.seq (Safe.load L.b24) fun _ => ?_
  exact Safe.pure trivial

theorem p122 : ∀ v23 v39 v42 v238 v243 v359, Safe (F := F) c bd H (k0_part122 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 v23 v39 v42 v238 v243 v359) fun _ => True := by
  intros
  rw [k0_part122_eq_skeleton]
  delta k0_part122_skel
  refine Safe.seq (Safe.store L.b24) fun _ => ?_
  refine Safe.seq (Safe.load L.b19) fun _ => ?_
  refine Safe.seq (Safe.load L.b19) fun _ => ?_
  refine Safe.seq (Safe.store L.b19) fun _ => ?_
  refine Safe.seq (Safe.load L.b22) fun _ => ?_
  refine Safe.seq (Safe.load L.b13) fun _ => ?_
  refine Safe.seq (Safe.load L.b20) fun _ => ?_
  exact Safe.pure trivial

theorem p123 : ∀ v62 k0_h1 v251 v271 v279 v298 v390 v393 v394 v395, Safe (F := F) c bd H (k0_part123 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 v62 k0_h1 v251 v271 v279 v298 v390 v393 v394 v395) fun _ => True := by
  intros
  rw [k0_part123_eq_skeleton]
  delta k0_part123_skel
  refine Safe.seq (Safe.store L.b20) fun _ => ?_
  refine Safe.seq (Safe.load L.b22) fun _ => ?_
  refine Safe.seq (Safe.store L.b22) fun _ => ?_
  refine Safe.seq (Safe.word L.b2) fun _ => ?_
  refine Safe.seq (Safe.load L.b24) fun _ => ?_
  refine Safe.seq (Safe.load L.b14) fun _ => ?_
  refine Safe.seq (Safe.load L.b24) fun _ => ?_
  refine Safe.seq (Safe.store L.b24) fun _ => ?_
  refine Safe.seq (Safe.load L.b19) fun _ => ?_
  exact Safe.pure trivial

theorem p124 : ∀ v3 v26 v42 v237 v243 v254 v278 v364 v379 v380 v418 v422 v429 v431, Safe (F := F) c bd H (k0_part124 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 v3 v26 v42 v237 v243 v254 v278 v364 v379 v380 v418 v422 v429 v431) fun _ => True := by
  intros
  rw [k0_part124_eq_skeleton]
  delta k0_part124_skel
  refine Safe.seq (Safe.load L.b25) fun _ => ?_
  refine Safe.seq (Safe.store L.b25) fun _ => ?_
  refine Safe.seq (Safe.load L.b23) fun _ => ?_
  refine Safe.seq (Safe.store L.b23) fun _ => ?_
  refine Safe.seq (Safe.load L.b20) fun _ => ?_
  exact Safe.pure trivial

theorem p125 : ∀ v39 v65 v238 v246 v251 v445 v470 v472, Safe (F := F) c bd H (k0_part125 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 v39 v65 v238 v246 v251 v445 v470 v472) fun _ => True := by
  intros
  rw [k0_part125_eq_skeleton]
  delta k0_part125_skel
  refine Safe.seq (Safe.load L.b19) fun _ => ?_
  refine Safe.seq (Safe.store L.b19) fun _ => ?_
  refine Safe.seq (Safe.load L.b22) fun _ => ?_
  refine Safe.seq (Safe.load L.b13) fun _ => ?_
  refine Safe.seq (Safe.load L.b20) fun _ => ?_
  refine Safe.seq (Safe.store L.b20) fun _ => ?_
  refine Safe.seq (Safe.load L.b18) fun _ => ?_
  refine Safe.seq (Safe.store L.b18) fun _ => ?_
  refine Safe.seq (Safe.load L.b22) fun _ => ?_
  refine Safe.seq (Safe.store L.b22) fun _ => ?_
  refine Safe.seq (Safe.word L.b2) fun _ => ?_
  refine Safe.seq (Safe.load L.b24) fun _ => ?_
  exact Safe.pure trivial

theorem p126 : ∀ k0_h1 v271 v279 v301 v404 v414 v480 v483 v499 v501, Safe (F := F) c bd H (k0_part126 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 k0_h1 v271 v279 v301 v404 v414 v480 v483 v499 v501) fun _ => True := by
  intros
  rw [k0_part126_eq_skeleton]
  delta k0_part126_skel
  refine Safe.seq (Safe.load L.b14) fun _ => ?_
  refine Safe.seq (Safe.load L.b25) fun _ => ?_
  refine Safe.seq (Safe.load L.b23) fun _ => ?_
  refine Safe.seq (Safe.load L.b21) fun _ => ?_
  refine Safe.seq (Safe.store L.b21) fun _ => ?_
  refine Safe.seq (Safe.load L.b24) fun _ => ?_
  refine Safe.seq (Safe.store L.b24) fun _ => ?_
  exact Safe.pure trivial

theorem p127 : ∀ v3 v42 v237 v254 v278 v429 v444 v445 v513 v517, Safe (F := F) c bd H (k0_part127 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 v3 v42 v237 v254 v278 v429 v444 v445 v513 v517) fun _ => True := by
  intros
  rw [k0_part127_eq_skeleton]
  delta k0_part127_skel
  refine Safe.seq (Safe.load L.b19) fun _ => ?_
  refine Safe.seq (Safe.load L.b25) fun _ => ?_
  refine Safe.seq (Safe.store L.b25) fun _ => ?_
  refine Safe.seq (Safe.load L.b23) fun _ => ?_
  refine Safe.seq (Safe.store L.b23) fun _ => ?_
  refine Safe.seq (Safe.load L.b20) fun _ => ?_
  exact Safe.pure trivial

theorem p128 : ∀ v28 v39 v42 v67 v238 v243 v246 v251 v557 v579 v580, Safe (F := F) c bd H (k0_part128 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 v28 v39 v42 v67 v238 v243 v246 v251 v557 v579 v580) fun _ => True := by
  intros
  rw [k0_part128_eq_skeleton]
  delta k0_part128_skel
  refine Safe.seq (Safe.load L.b19) fun _ => ?_
  refine Safe.seq (Safe.store L.b19) fun _ => ?_
  refine Safe.seq (Safe.load L.b22) fun _ => ?_
  refine Safe.seq (Safe.load L.b13) fun _ => ?_
  refine Safe.seq (Safe.load L.b20) fun _ => ?_
  refine Safe.seq (Safe.store L.b20) fun _ => ?_
  refine Safe.seq (Safe.load L.b18) fun _ => ?_
  refine Safe.seq (Safe.store L.b18) fun _ => ?_
  refine Safe.seq (Safe.load L.b22) fun _ => ?_
  refine Safe.seq (Safe.store L.b22) fun _ => ?_
  refine Safe.seq (Safe.word L.b2) fun _ => ?_
  exact Safe.pure trivial

theorem p129 : ∀ k0_h1 v271 v279 v303 v499 v509 v592 v595 v611, Safe (F := F) c bd H (k0_part129 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 k0_h1 v271 v279 v303 v499 v509 v592 v595 v611) fun _ => True := by
  intros
  rw [k0_part129_eq_skeleton]
  delta k0_part129_skel
  refine Safe.seq (Safe.load L.b24) fun _ => ?_
  refine Safe.seq (Safe.load L.b14) fun _ => ?_
  refine Safe.seq (Safe.load L.b25) fun _ => ?_
  refine Safe.seq (Safe.load L.b23) fun _ => ?_
  refine Safe.seq (Safe.load L.b21) fun _ => ?_
  refine Safe.seq (Safe.store L.b21) fun _ => ?_
  refine Safe.seq (Safe.load L.b24) fun _ => ?_
  exact Safe.pure trivial

theorem p130 : ∀ v3 v42 v237 v254 v278 v557 v625 v629 v648, Safe (F := F) c bd H (k0_part130 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 v3 v42 v237 v254 v278 v557 v625 v629 v648) fun _ => True := by
  intros
  rw [k0_part130_eq_skeleton]
  delta k0_part130_skel
  refine Safe.seq (Safe.store L.b24) fun _ => ?_
  refine Safe.seq (Safe.load L.b19) fun _ => ?_
  refine Safe.seq (Safe.load L.b25) fun _ => ?_
  refine Safe.seq (Safe.store L.b25) fun _ => ?_
  refine Safe.seq (Safe.load L.b23) fun _ => ?_
  refine Safe.seq (Safe.store L.b23) fun _ => ?_
  refine Safe.seq (Safe.load L.b20) fun _ => ?_
  exact Safe.pure trivial

theorem p131 : ∀ v31 v39 v42 v70 v238 v243 v246 v251 v541 v556 v669 v683, Safe (F := F) c bd H (k0_part131 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 v31 v39 v42 v70 v238 v243 v246 v251 v541 v556 v669 v683) fun _ => True := by
  intros
  rw [k0_part131_eq_skeleton]
  delta k0_part131_skel
  refine Safe.seq (Safe.load L.b19) fun _ => ?_
  refine Safe.seq (Safe.store L.b19) fun _ => ?_
  refine Safe.seq (Safe.load L.b22) fun _ => ?_
  refine Safe.seq (Safe.load L.b13) fun _ => ?_
  refine Safe.seq (Safe.load L.b20) fun _ => ?_
  refine Safe.seq (Safe.store L.b20) fun _ => ?_
  refine Safe.seq (Safe.load L.b18) fun _ => ?_
  refine Safe.seq (Safe.store L.b18) fun _ => ?_
  refine Safe.seq (Safe.load L.b22) fun _ => ?_
  exact Safe.pure trivial

theorem p132 : ∀ k0_h1 v271 v279 v306 v611 v621 v704 v707 v721, Safe (F := F) c bd H (k0_part132 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 k0_h1 v271 v279 v306 v611 v621 v704 v707 v721) fun _ => True := by
  intros
  rw [k0_part132_eq_skeleton]
  delta k0_part132_skel
  refine Safe.seq (Safe.store L.b22) fun _ => ?_
  refine Safe.seq (Safe.word L.b2) fun _ => ?_
  refine Safe.seq (Safe.load L.b24) fun _ => ?_
  refine Safe.seq (Safe.load L.b14) fun _ => ?_
  refine Safe.seq (Safe.load L.b25) fun _ => ?_
  refine Safe.seq (Safe.load L.b23) fun _ => ?_
  refine Safe.seq (Safe.load L.b21) fun _ => ?_
  refine Safe.seq (Safe.store L.b21) fun _ => ?_
  exact Safe.pure trivial

theorem p133 : ∀ v3 v42 v254 v278 v737 v741 v760, Safe (F := F) c bd H (k0_part133 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 v3 v42 v254 v278 v737 v741 v760) fun _ => True := by
  intros
  rw [k0_part133_eq_skeleton]
  delta k0_part133_skel
  refine Safe.seq (Safe.load L.b24) fun _ => ?_
  refine Safe.seq (Safe.store L.b24) fun _ => ?_
  refine Safe.seq (Safe.load L.b19) fun _ => ?_
  refine Safe.seq (Safe.load L.b25) fun _ => ?_
  refine Safe.seq (Safe.store L.b25) fun _ => ?_
  refine Safe.seq (Safe.load L.b23) fun _ => ?_
  refine Safe.seq (Safe.store L.b23) fun _ => ?_
  refine Safe.seq (Safe.load L.b20) fun _ => ?_
  exact Safe.pure trivial

theorem p134 : ∀ v33 v39 v42 v72 v237 v238 v243 v246 v251 v653 v668 v669 v781 v795, Safe (F := F) c bd H (k0_part134 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 v33 v39 v42 v72 v237 v238 v243 v246 v251 v653 v668 v669 v781 v795) fun _ => True := by
  intros
  rw [k0_part134_eq_skeleton]
  delta k0_part134_skel
  refine Safe.seq (Safe.load L.b19) fun _ => ?_
  refine Safe.seq (Safe.store L.b19) fun _ => ?_
  refine Safe.seq (Safe.load L.b22) fun _ => ?_
  refine Safe.seq (Safe.load L.b13) fun _ => ?_
  refine Safe.seq (Safe.load L.b20) fun _ => ?_
  refine Safe.seq (Safe.store L.b20) fun _ => ?_
  refine Safe.seq (Safe.load L.b18) fun _ => ?_
  refine Safe.seq (Safe.store L.b18) fun _ => ?_
  exact Safe.pure trivial

theorem p135 : ∀ k0_h1 v279 v723 v733 v816 v819 v830, Safe (F := F) c bd H (k0_part135 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 k0_h1 v279 v723 v733 v816 v819 v830) fun _ => True := by
  intros
  rw [k0_part135_eq_skeleton]
  delta k0_part135_skel
  refine Safe.seq (Safe.load L.b22) fun _ => ?_
  refine Safe.seq (Safe.store L.b22) fun _ => ?_
  refine Safe.seq (Safe.word L.b2) fun _ => ?_
  refine Safe.seq (Safe.load L.b24) fun _ => ?_
  refine Safe.seq (Safe.load L.b14) fun _ => ?_
  refine Safe.seq (Safe.load L.b25) fun _ => ?_
  refine Safe.seq (Safe.load L.b23) fun _ => ?_
  refine Safe.seq (Safe.load L.b21) fun _ => ?_
  exact Safe.pure trivial

theorem p136 : ∀ v3 v42 v254 v271 v278 v308 v849 v853 v867, Safe (F := F) c bd H (k0_part136 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 v3 v42 v254 v271 v278 v308 v849 v853 v867) fun _ => True := by
  intros
  rw [k0_part136_eq_skeleton]
  delta k0_part136_skel
  refine Safe.seq (Safe.store L.b21) fun _ => ?_
  refine Safe.seq (Safe.load L.b24) fun _ => ?_
  refine Safe.seq (Safe.store L.b24) fun _ => ?_
  refine Safe.seq (Safe.load L.b19) fun _ => ?_
  refine Safe.seq (Safe.load L.b25) fun _ => ?_
  refine Safe.seq (Safe.store L.b25) fun _ => ?_
  refine Safe.seq (Safe.load L.b23) fun _ => ?_
  refine Safe.seq (Safe.store L.b23) fun _ => ?_
  exact Safe.pure trivial

theorem p137 : ∀ v36 v39 v42 v237 v238 v243 v246 v765 v780 v781 v893, Safe (F := F) c bd H (k0_part137 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 v36 v39 v42 v237 v238 v243 v246 v765 v780 v781 v893) fun _ => True := by
  intros
  rw [k0_part137_eq_skeleton]
  delta k0_part137_skel
  refine Safe.seq (Safe.load L.b20) fun _ => ?_
  refine Safe.seq (Safe.load L.b19) fun _ => ?_
  refine Safe.seq (Safe.store L.b19) fun _ => ?_
  refine Safe.seq (Safe.load L.b22) fun _ => ?_
  refine Safe.seq (Safe.load L.b13) fun _ => ?_
  refine Safe.seq (Safe.load L.b20) fun _ => ?_
  refine Safe.seq (Safe.store L.b20) fun _ => ?_
  refine Safe.seq (Safe.load L.b18) fun _ => ?_
  exact Safe.pure trivial

theorem p138 : ∀ v75 k0_h1 v251 v279 v835 v845 v928 v931 v940, Safe (F := F) c bd H (k0_part138 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 v75 k0_h1 v251 v279 v835 v845 v928 v931 v940) fun _ => True := by
  intros
  rw [k0_part138_eq_skeleton]
  delta k0_part138_skel
  refine Safe.seq (Safe.store L.b18) fun _ => ?_
  refine Safe.seq (Safe.load L.b22) fun _ => ?_
  refine Safe.seq (Safe.store L.b22) fun _ => ?_
  refine Safe.seq (Safe.word L.b2) fun _ => ?_
  refine Safe.seq (Safe.load L.b24) fun _ => ?_
  refine Safe.seq (Safe.load L.b14) fun _ => ?_
  refine Safe.seq (Safe.load L.b25) fun _ => ?_
  refine Safe.seq (Safe.load L.b23) fun _ => ?_
  exact Safe.pure trivial

theorem p139 : ∀ v3 v42 v254 v271 v278 v311 v961 v965 v979, Safe (F := F) c bd H (k0_part139 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 v3 v42 v254 v271 v278 v311 v961 v965 v979) fun _ => True := by
  intros
  rw [k0_part139_eq_skeleton]
  delta k0_part139_skel
  refine Safe.seq (Safe.load L.b21) fun _ => ?_
  refine Safe.seq (Safe.store L.b21) fun _ => ?_
  refine Safe.seq (Safe.load L.b24) fun _ => ?_
  refine Safe.seq (Safe.store L.b24) fun _ => ?_
  refine Safe.seq (Safe.load L.b19) fun _ => ?_
  refine Safe.seq (Safe.load L.b25) fun _ => ?_
  refine Safe.seq (Safe.store L.b25) fun _ => ?_
  exact Safe.pure trivial

theorem p140 : ∀ v38 v39 v42 v237 v238 v243 v246 v877 v892 v893 v1005 v1014, Safe (F := F) c bd H (k0_part140 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 v38 v39 v42 v237 v238 v243 v246 v877 v892 v893 v1005 v1014) fun _ => True := by
  intros
  rw [k0_part140_eq_skeleton]
  delta k0_part140_skel
  refine Safe.seq (Safe.load L.b23) fun _ => ?_
  refine Safe.seq (Safe.store L.b23) fun _ => ?_
  refine Safe.seq (Safe.load L.b20) fun _ => ?_
  refine Safe.seq (Safe.load L.b19) fun _ => ?_
  refine Safe.seq (Safe.store L.b19) fun _ => ?_
  refine Safe.seq (Safe.load L.b22) fun _ => ?_
  refine Safe.seq (Safe.load L.b13) fun _ => ?_
  refine Safe.seq (Safe.load L.b20) fun _ => ?_
  refine Safe.seq (Safe.store L.b20) fun _ => ?_
  exact Safe.pure trivial

theorem p141 : ∀ v77 k0_h1 v251 v279 v947 v957 v1040 v1043 v1049, Safe (F := F) c bd H (k0_part141 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 v77 k0_h1 v251 v279 v947 v957 v1040 v1043 v1049) fun _ => True := by
  intros
  rw [k0_part141_eq_skeleton]
  delta k0_part141_skel
  refine Safe.seq (Safe.load L.b18) fun _ => ?_
  refine Safe.seq (Safe.store L.b18) fun _ => ?_
  refine Safe.seq (Safe.load L.b22) fun _ => ?_
  refine Safe.seq (Safe.store L.b22) fun _ => ?_
  refine Safe.seq (Safe.word L.b2) fun _ => ?_
  refine Safe.seq (Safe.load L.b24) fun _ => ?_
  refine Safe.seq (Safe.load L.b14) fun _ => ?_
  refine Safe.seq (Safe.load L.b25) fun _ => ?_
  exact Safe.pure trivial

theorem p142 : ∀ v3 v42 v254 v271 v278 v313 v1073, Safe (F := F) c bd H (k0_part142 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 v3 v42 v254 v271 v278 v313 v1073) fun _ => True := by
  intros
  rw [k0_part142_eq_skeleton]
  delta k0_part142_skel
  refine Safe.seq (Safe.load L.b23) fun _ => ?_
  refine Safe.seq (Safe.load L.b21) fun _ => ?_
  refine Safe.seq (Safe.store L.b21) fun _ => ?_
  refine Safe.seq (Safe.load L.b24) fun _ => ?_
  refine Safe.seq (Safe.store L.b24) fun _ => ?_
  refine Safe.seq (Safe.load L.b19) fun _ => ?_
  refine Safe.seq (Safe.load L.b25) fun _ => ?_
  refine Safe.seq (Safe.store L.b25) fun _ => ?_
  exact Safe.pure trivial

theorem p143 : ∀ v3 v39 v42 v237 v238 v261 v330 v989 v1004 v1005 v1077 v1117 v1124, Safe (F := F) c bd H (k0_part143 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 v3 v39 v42 v237 v238 v261 v330 v989 v1004 v1005 v1077 v1117 v1124) fun _ => True := by
  intros
  rw [k0_part143_eq_skeleton]
  delta k0_part143_skel
  refine Safe.seq (Safe.load L.b23) fun _ => ?_
  refine Safe.seq (Safe.store L.b23) fun _ => ?_
  refine Safe.seq (Safe.load L.b20) fun _ => ?_
  refine Safe.seq (Safe.load L.b24) fun _ => ?_
  refine Safe.seq (Safe.store L.b24) fun _ => ?_
  refine Safe.seq (Safe.load L.b22) fun _ => ?_
  refine Safe.seq (Safe.load L.b13) fun _ => ?_
  refine Safe.seq (Safe.load L.b20) fun _ => ?_
  exact Safe.pure trivial

theorem p144 : ∀ k0_h1 v246 v261 v279 v332 v1059 v1069 v1142 v1152 v1155 v1156, Safe (F := F) c bd H (k0_part144 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 k0_h1 v246 v261 v279 v332 v1059 v1069 v1142 v1152 v1155 v1156) fun _ => True := by
  intros
  rw [k0_part144_eq_skeleton]
  delta k0_part144_skel
  refine Safe.seq (Safe.store L.b20) fun _ => ?_
  refine Safe.seq (Safe.load L.b18) fun _ => ?_
  refine Safe.seq (Safe.store L.b18) fun _ => ?_
  refine Safe.seq (Safe.load L.b24) fun _ => ?_
  refine Safe.seq (Safe.store L.b24) fun _ => ?_
  refine Safe.seq (Safe.word L.b2) fun _ => ?_
  refine Safe.seq (Safe.load L.b24) fun _ => ?_
  refine Safe.seq (Safe.load L.b14) fun _ => ?_
  refine Safe.seq (Safe.load L.b25) fun _ => ?_
  exact Safe.pure trivial

theorem p145 : ∀ v3 v261 v278 v335 v1185 v1191 v1196, Safe (F := F) c bd H (k0_part145 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 v3 v261 v278 v335 v1185 v1191 v1196) fun _ => True := by
  intros
  rw [k0_part145_eq_skeleton]
  delta k0_part145_skel
  refine Safe.seq (Safe.load L.b23) fun _ => ?_
  refine Safe.seq (Safe.load L.b21) fun _ => ?_
  refine Safe.seq (Safe.store L.b21) fun _ => ?_
  refine Safe.seq (Safe.load L.b24) fun _ => ?_
  refine Safe.seq (Safe.store L.b24) fun _ => ?_
  refine Safe.seq (Safe.word L.b2) fun _ => ?_
  refine Safe.seq (Safe.load L.b24) fun _ => ?_
  refine Safe.seq (Safe.load L.b14) fun _ => ?_
  refine Safe.seq (Safe.load L.b25) fun _ => ?_
  exact Safe.pure trivial

theorem p146 : ∀ v3 v42 v237 v254 v261 v337 v1101 v1116 v1117 v1189 v1229 v1230, Safe (F := F) c bd H (k0_part146 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 v3 v42 v237 v254 v261 v337 v1101 v1116 v1117 v1189 v1229 v1230) fun _ => True := by
  intros
  rw [k0_part146_eq_skeleton]
  delta k0_part146_skel
  refine Safe.seq (Safe.store L.b25) fun _ => ?_
  refine Safe.seq (Safe.load L.b23) fun _ => ?_
  refine Safe.seq (Safe.store L.b23) fun _ => ?_
  refine Safe.seq (Safe.load L.b20) fun _ => ?_
  refine Safe.seq (Safe.load L.b24) fun _ => ?_
  refine Safe.seq (Safe.store L.b24) fun _ => ?_
  refine Safe.seq (Safe.word L.b2) fun _ => ?_
  refine Safe.seq (Safe.load L.b24) fun _ => ?_
  refine Safe.seq (Safe.load L.b14) fun _ => ?_
  exact Safe.pure trivial

theorem p147 : ∀ v3 v246 v261 v264 v340 v1226 v1251 v1258 v1263 v1265, Safe (F := F) c bd H (k0_part147 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 v3 v246 v261 v264 v340 v1226 v1251 v1258 v1263 v1265) fun _ => True := by
  intros
  rw [k0_part147_eq_skeleton]
  delta k0_part147_skel
  refine Safe.seq (Safe.load L.b25) fun _ => ?_
  refine Safe.seq (Safe.store L.b25) fun _ => ?_
  refine Safe.seq (Safe.load L.b18) fun _ => ?_
  refine Safe.seq (Safe.store L.b18) fun _ => ?_
  refine Safe.seq (Safe.load L.b24) fun _ => ?_
  refine Safe.seq (Safe.store L.b24) fun _ => ?_
  refine Safe.seq (Safe.word L.b2) fun _ => ?_
  refine Safe.seq (Safe.load L.b24) fun _ => ?_
  refine Safe.seq (Safe.load L.b14) fun _ => ?_
  exact Safe.pure trivial

theorem p148 : ∀ v3 v261 v264 v342 v1171 v1181 v1271 v1301, Safe (F := F) c bd H (k0_part148 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 v3 v261 v264 v342 v1171 v1181 v1271 v1301) fun _ => True := by
  intros
  rw [k0_part148_eq_skeleton]
  delta k0_part148_skel
  refine Safe.seq (Safe.load L.b25) fun _ => ?_
  refine Safe.seq (Safe.store L.b25) fun _ => ?_
  refine Safe.seq (Safe.load L.b25) fun _ => ?_
  refine Safe.seq (Safe.load L.b23) fun _ => ?_
  refine Safe.seq (Safe.load L.b21) fun _ => ?_
  refine Safe.seq (Safe.store L.b21) fun _ => ?_
  refine Safe.seq (Safe.load L.b24) fun _ => ?_
  refine Safe.seq (Safe.store L.b24) fun _ => ?_
  refine Safe.seq (Safe.word L.b2) fun _ => ?_
  refine Safe.seq (Safe.load L.b24) fun _ => ?_
  exact Safe.pure trivial

theorem p149 : ∀ v3 v261 v264 v345 v1213 v1222 v1302 v1332 v1334, Safe (F := F) c bd H (k0_part149 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 v3 v261 v264 v345 v1213 v1222 v1302 v1332 v1334) fun _ => True := by
  intros
  rw [k0_part149_eq_skeleton]
  delta k0_part149_skel
  refine Safe.seq (Safe.load L.b14) fun _ => ?_
  refine Safe.seq (Safe.load L.b25) fun _ => ?_
  refine Safe.seq (Safe.store L.b25) fun _ => ?_
  refine Safe.seq (Safe.load L.b25) fun _ => ?_
  refine Safe.seq (Safe.load L.b24) fun _ => ?_
  refine Safe.seq (Safe.store L.b24) fun _ => ?_
  refine Safe.seq (Safe.word L.b2) fun _ => ?_
  refine Safe.seq (Safe.load L.b24) fun _ => ?_
  exact Safe.pure trivial

theorem p150 : ∀ v3 v261 v264 v347 v1258 v1267 v1345 v1368 v1370, Safe (F := F) c bd H (k0_part150 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 v3 v261 v264 v347 v1258 v1267 v1345 v1368 v1370) fun _ => True := by
  intros
  rw [k0_part150_eq_skeleton]
  delta k0_part150_skel
  refine Safe.seq (Safe.load L.b14) fun _ => ?_
  refine Safe.seq (Safe.load L.b25) fun _ => ?_
  refine Safe.seq (Safe.store L.b25) fun _ => ?_
  refine Safe.seq (Safe.load L.b25) fun _ => ?_
  refine Safe.seq (Safe.load L.b24) fun _ => ?_
  refine Safe.seq (Safe.store L.b24) fun _ => ?_
  refine Safe.seq (Safe.word L.b2) fun _ => ?_
  refine Safe.seq (Safe.load L.b24) fun _ => ?_
  exact Safe.pure trivial

theorem p151 : ∀ v3 v264 v1289 v1298 v1381 v1404 v1406, Safe (F := F) c bd H (k0_part151 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 v3 v264 v1289 v1298 v1381 v1404 v1406) fun _ => True := by
  intros
  rw [k0_part151_eq_skeleton]
  delta k0_part151_skel
  refine Safe.seq (Safe.load L.b14) fun _ => ?_
  refine Safe.seq (Safe.load L.b25) fun _ => ?_
  refine Safe.seq (Safe.store L.b25) fun _ => ?_
  refine Safe.seq (Safe.load L.b25) fun _ => ?_
  refine Safe.seq (Safe.word L.b2) fun _ => ?_
  refine Safe.seq (Safe.load L.b24) fun _ => ?_
  refine Safe.seq (Safe.load L.b14) fun _ => ?_
  exact Safe.pure trivial

theorem p152 : ∀ v3 v264 v1332 v1341 v1417 v1447, Safe (F := F) c bd H (k0_part152 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 v3 v264 v1332 v1341 v1417 v1447) fun _ => True := by
  intros
  rw [k0_part152_eq_skeleton]
  delta k0_part152_skel
  refine Safe.seq (Safe.load L.b25) fun _ => ?_
  refine Safe.seq (Safe.store L.b25) fun _ => ?_
  refine Safe.seq (Safe.load L.b25) fun _ => ?_
  refine Safe.seq (Safe.word L.b2) fun _ => ?_
  refine Safe.seq (Safe.load L.b24) fun _ => ?_
  refine Safe.seq (Safe.load L.b14) fun _ => ?_
  refine Safe.seq (Safe.load L.b25) fun _ => ?_
  exact Safe.pure trivial

theorem p153 : ∀ v3 v264 v1368 v1377 v1404 v1413 v1435 v1444 v1466 v1475 v1479 v1485, Safe (F := F) c bd H (k0_part153 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 v3 v264 v1368 v1377 v1404 v1413 v1435 v1444 v1466 v1475 v1479 v1485) fun _ => True := by
  intros
  rw [k0_part153_eq_skeleton]
  delta k0_part153_skel
  refine Safe.seq (Safe.store L.b25) fun _ => ?_
  refine Safe.seq (Safe.load L.b25) fun _ => ?_
  refine Safe.seq (Safe.load L.b25) fun _ => ?_
  refine Safe.seq (Safe.store L.b25) fun _ => ?_
  refine Safe.seq (Safe.load L.b25) fun _ => ?_
  refine Safe.seq (Safe.load L.b25) fun _ => ?_
  refine Safe.seq (Safe.load L.b25) fun _ => ?_
  exact Safe.pure trivial

theorem p154 : ∀ arg1 v60 v62 v65 v83 c0_i32_29 c1_i32_31 k0_t1, Safe (F := F) c bd H (k0_part154 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg1 v60 v62 v65 v83 c0_i32_29 c1_i32_31 k0_t1) fun _ => True := by
  intros
  rw [k0_part154_eq_skeleton]
  delta k0_part154_skel
  refine Safe.seq (Safe.load L.b6) fun _ => ?_
  refine Safe.seq (Safe.load L.b10) fun _ => ?_
  refine Safe.seq (Safe.load L.b10) fun _ => ?_
  refine Safe.seq (Safe.load L.b22) fun _ => ?_
  refine Safe.seq (Safe.store L.b22) fun _ => ?_
  refine Safe.seq (Safe.load L.b22) fun _ => ?_
  refine Safe.seq (Safe.store L.b22) fun _ => ?_
  refine Safe.seq (Safe.load L.b22) fun _ => ?_
  exact Safe.pure trivial

theorem p155 : ∀ v67 v70 v72 arg27 arg29 v245 v269 v270, Safe (F := F) c bd H (k0_part155 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 v67 v70 v72 arg27 arg29 v245 v269 v270) fun _ => True := by
  intros
  rw [k0_part155_eq_skeleton]
  delta k0_part155_skel
  refine Safe.seq (Safe.store L.b22) fun _ => ?_
  refine Safe.seq (Safe.load L.b22) fun _ => ?_
  refine Safe.seq (Safe.store L.b22) fun _ => ?_
  refine Safe.seq (Safe.load L.b22) fun _ => ?_
  refine Safe.seq (Safe.store L.b22) fun _ => ?_
  refine Safe.seq (Safe.load L.b22) fun _ => ?_
  refine Safe.seq (Safe.load L.b22) fun _ => ?_
  refine Safe.seq (Safe.store L.b22) fun _ => ?_
  refine Safe.seq (Safe.load L.b22) fun _ => ?_
  exact Safe.pure trivial

theorem p156 : ∀ v75 v77 arg31 arg33 v245 v253 v254 v299 v302 v306, Safe (F := F) c bd H (k0_part156 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 v75 v77 arg31 arg33 v245 v253 v254 v299 v302 v306) fun _ => True := by
  intros
  rw [k0_part156_eq_skeleton]
  delta k0_part156_skel
  refine Safe.seq (Safe.load L.b22) fun _ => ?_
  refine Safe.seq (Safe.store L.b22) fun _ => ?_
  refine Safe.seq (Safe.load L.b22) fun _ => ?_
  refine Safe.seq (Safe.load L.b23) fun _ => ?_
  refine Safe.seq (Safe.store L.b23) fun _ => ?_
  refine Safe.seq (Safe.load L.b22) fun _ => ?_
  refine Safe.seq (Safe.store L.b22) fun _ => ?_
  refine Safe.seq (Safe.load L.b22) fun _ => ?_
  exact Safe.pure trivial

theorem p157 : ∀ arg35 arg37 v253 v254 v316 v319 v325 v339 v342 v343, Safe (F := F) c bd H (k0_part157 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg35 arg37 v253 v254 v316 v319 v325 v339 v342 v343) fun _ => True := by
  intros
  rw [k0_part157_eq_skeleton]
  delta k0_part157_skel
  refine Safe.seq (Safe.load L.b23) fun _ => ?_
  refine Safe.seq (Safe.store L.b23) fun _ => ?_
  refine Safe.seq (Safe.load L.b22) fun _ => ?_
  refine Safe.seq (Safe.load L.b23) fun _ => ?_
  refine Safe.seq (Safe.store L.b23) fun _ => ?_
  refine Safe.seq (Safe.load L.b22) fun _ => ?_
  exact Safe.pure trivial

theorem p158 : ∀ arg28 arg39 v253 v254 v291 v365 v373 v376 v382 v384 cst_161, Safe (F := F) c bd H (k0_part158 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg28 arg39 v253 v254 v291 v365 v373 v376 v382 v384 cst_161) fun _ => True := by
  intros
  rw [k0_part158_eq_skeleton]
  delta k0_part158_skel
  refine Safe.seq (Safe.load L.b23) fun _ => ?_
  refine Safe.seq (Safe.store L.b23) fun _ => ?_
  refine Safe.seq (Safe.load L.b22) fun _ => ?_
  refine Safe.seq (Safe.load L.b23) fun _ => ?_
  refine Safe.seq (Safe.store L.b23) fun _ => ?_
  refine Safe.seq (Safe.load L.b23) fun _ => ?_
  refine Safe.seq (Safe.load L.b21) fun _ => ?_
  refine Safe.seq (Safe.load L.b21) fun _ => ?_
  refine Safe.seq (Safe.store L.b21) fun _ => ?_
  exact Safe.pure trivial

theorem p159 : ∀ arg30 arg41 v253 v254 v304 v390 v393 v399, Safe (F := F) c bd H (k0_part159 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg30 arg41 v253 v254 v304 v390 v393 v399) fun _ => True := by
  intros
  rw [k0_part159_eq_skeleton]
  delta k0_part159_skel
  refine Safe.seq (Safe.load L.b22) fun _ => ?_
  refine Safe.seq (Safe.load L.b23) fun _ => ?_
  refine Safe.seq (Safe.store L.b23) fun _ => ?_
  refine Safe.seq (Safe.load L.b23) fun _ => ?_
  refine Safe.seq (Safe.load L.b21) fun _ => ?_
  refine Safe.seq (Safe.load L.b21) fun _ => ?_
  refine Safe.seq (Safe.store L.b21) fun _ => ?_
  refine Safe.seq (Safe.load L.b23) fun _ => ?_
  exact Safe.pure trivial

theorem p160 : ∀ arg32 arg34 v253 v254 v321 v344 v454 v457 v458, Safe (F := F) c bd H (k0_part160 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg32 arg34 v253 v254 v321 v344 v454 v457 v458) fun _ => True := by
  intros
  rw [k0_part160_eq_skeleton]
  delta k0_part160_skel
  refine Safe.seq (Safe.store L.b23) fun _ => ?_
  refine Safe.seq (Safe.load L.b23) fun _ => ?_
  refine Safe.seq (Safe.load L.b21) fun _ => ?_
  refine Safe.seq (Safe.load L.b21) fun _ => ?_
  refine Safe.seq (Safe.store L.b21) fun _ => ?_
  refine Safe.seq (Safe.load L.b23) fun _ => ?_
  refine Safe.seq (Safe.store L.b23) fun _ => ?_
  refine Safe.seq (Safe.load L.b23) fun _ => ?_
  refine Safe.seq (Safe.load L.b21) fun _ => ?_
  refine Safe.seq (Safe.load L.b21) fun _ => ?_
  exact Safe.pure trivial

theorem p161 : ∀ arg36 arg38 arg40 v361 v378 v395 v491, Safe (F := F) c bd H (k0_part161 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg36 arg38 arg40 v361 v378 v395 v491) fun _ => True := by
  intros
  rw [k0_part161_eq_skeleton]
  delta k0_part161_skel
  refine Safe.seq (Safe.store L.b21) fun _ => ?_
  refine Safe.seq (Safe.load L.b23) fun _ => ?_
  refine Safe.seq (Safe.load L.b21) fun _ => ?_
  refine Safe.seq (Safe.load L.b21) fun _ => ?_
  refine Safe.seq (Safe.store L.b21) fun _ => ?_
  refine Safe.seq (Safe.load L.b23) fun _ => ?_
  refine Safe.seq (Safe.load L.b21) fun _ => ?_
  refine Safe.seq (Safe.load L.b21) fun _ => ?_
  refine Safe.seq (Safe.store L.b21) fun _ => ?_
  refine Safe.seq (Safe.load L.b23) fun _ => ?_
  exact Safe.pure trivial

theorem p162 : ∀ arg1 v60 v62 v65 v83 v96 c1_i32_32 k0_t2, Safe (F := F) c bd H (k0_part162 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg1 v60 v62 v65 v83 v96 c1_i32_32 k0_t2) fun _ => True := by
  intros
  rw [k0_part162_eq_skeleton]
  delta k0_part162_skel
  refine Safe.seq (Safe.load L.b6) fun _ => ?_
  refine Safe.seq (Safe.load L.b10) fun _ => ?_
  refine Safe.seq (Safe.load L.b10) fun _ => ?_
  refine Safe.seq (Safe.load L.b22) fun _ => ?_
  refine Safe.seq (Safe.store L.b22) fun _ => ?_
  refine Safe.seq (Safe.load L.b22) fun _ => ?_
  refine Safe.seq (Safe.store L.b22) fun _ => ?_
  refine Safe.seq (Safe.load L.b22) fun _ => ?_
  exact Safe.pure trivial

theorem p163 : ∀ v67 v70 v72 arg27 arg29 v245 v269 v270, Safe (F := F) c bd H (k0_part163 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 v67 v70 v72 arg27 arg29 v245 v269 v270) fun _ => True := by
  intros
  rw [k0_part163_eq_skeleton]
  delta k0_part163_skel
  refine Safe.seq (Safe.store L.b22) fun _ => ?_
  refine Safe.seq (Safe.load L.b22) fun _ => ?_
  refine Safe.seq (Safe.store L.b22) fun _ => ?_
  refine Safe.seq (Safe.load L.b22) fun _ => ?_
  refine Safe.seq (Safe.store L.b22) fun _ => ?_
  refine Safe.seq (Safe.load L.b22) fun _ => ?_
  refine Safe.seq (Safe.load L.b22) fun _ => ?_
  refine Safe.seq (Safe.store L.b22) fun _ => ?_
  refine Safe.seq (Safe.load L.b22) fun _ => ?_
  exact Safe.pure trivial

theorem p164 : ∀ v75 v77 arg31 arg33 v245 v253 v254 v299 v302 v306, Safe (F := F) c bd H (k0_part164 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 v75 v77 arg31 arg33 v245 v253 v254 v299 v302 v306) fun _ => True := by
  intros
  rw [k0_part164_eq_skeleton]
  delta k0_part164_skel
  refine Safe.seq (Safe.load L.b22) fun _ => ?_
  refine Safe.seq (Safe.store L.b22) fun _ => ?_
  refine Safe.seq (Safe.load L.b22) fun _ => ?_
  refine Safe.seq (Safe.load L.b23) fun _ => ?_
  refine Safe.seq (Safe.store L.b23) fun _ => ?_
  refine Safe.seq (Safe.load L.b22) fun _ => ?_
  refine Safe.seq (Safe.store L.b22) fun _ => ?_
  refine Safe.seq (Safe.load L.b22) fun _ => ?_
  exact Safe.pure trivial

theorem p165 : ∀ arg35 arg37 v253 v254 v316 v319 v325 v339 v342 v343, Safe (F := F) c bd H (k0_part165 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg35 arg37 v253 v254 v316 v319 v325 v339 v342 v343) fun _ => True := by
  intros
  rw [k0_part165_eq_skeleton]
  delta k0_part165_skel
  refine Safe.seq (Safe.load L.b23) fun _ => ?_
  refine Safe.seq (Safe.store L.b23) fun _ => ?_
  refine Safe.seq (Safe.load L.b22) fun _ => ?_
  refine Safe.seq (Safe.load L.b23) fun _ => ?_
  refine Safe.seq (Safe.store L.b23) fun _ => ?_
  refine Safe.seq (Safe.load L.b22) fun _ => ?_
  exact Safe.pure trivial

theorem p166 : ∀ arg28 arg39 v253 v254 v291 v365 v373 v376 v382 v384 cst_161, Safe (F := F) c bd H (k0_part166 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg28 arg39 v253 v254 v291 v365 v373 v376 v382 v384 cst_161) fun _ => True := by
  intros
  rw [k0_part166_eq_skeleton]
  delta k0_part166_skel
  refine Safe.seq (Safe.load L.b23) fun _ => ?_
  refine Safe.seq (Safe.store L.b23) fun _ => ?_
  refine Safe.seq (Safe.load L.b22) fun _ => ?_
  refine Safe.seq (Safe.load L.b23) fun _ => ?_
  refine Safe.seq (Safe.store L.b23) fun _ => ?_
  refine Safe.seq (Safe.load L.b23) fun _ => ?_
  refine Safe.seq (Safe.load L.b21) fun _ => ?_
  refine Safe.seq (Safe.load L.b21) fun _ => ?_
  refine Safe.seq (Safe.store L.b21) fun _ => ?_
  exact Safe.pure trivial

theorem p167 : ∀ arg30 arg41 v253 v254 v304 v390 v393 v399, Safe (F := F) c bd H (k0_part167 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg30 arg41 v253 v254 v304 v390 v393 v399) fun _ => True := by
  intros
  rw [k0_part167_eq_skeleton]
  delta k0_part167_skel
  refine Safe.seq (Safe.load L.b22) fun _ => ?_
  refine Safe.seq (Safe.load L.b23) fun _ => ?_
  refine Safe.seq (Safe.store L.b23) fun _ => ?_
  refine Safe.seq (Safe.load L.b23) fun _ => ?_
  refine Safe.seq (Safe.load L.b21) fun _ => ?_
  refine Safe.seq (Safe.load L.b21) fun _ => ?_
  refine Safe.seq (Safe.store L.b21) fun _ => ?_
  refine Safe.seq (Safe.load L.b23) fun _ => ?_
  exact Safe.pure trivial

theorem p168 : ∀ arg32 arg34 v253 v254 v321 v344 v454 v457 v458, Safe (F := F) c bd H (k0_part168 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg32 arg34 v253 v254 v321 v344 v454 v457 v458) fun _ => True := by
  intros
  rw [k0_part168_eq_skeleton]
  delta k0_part168_skel
  refine Safe.seq (Safe.store L.b23) fun _ => ?_
  refine Safe.seq (Safe.load L.b23) fun _ => ?_
  refine Safe.seq (Safe.load L.b21) fun _ => ?_
  refine Safe.seq (Safe.load L.b21) fun _ => ?_
  refine Safe.seq (Safe.store L.b21) fun _ => ?_
  refine Safe.seq (Safe.load L.b23) fun _ => ?_
  refine Safe.seq (Safe.store L.b23) fun _ => ?_
  refine Safe.seq (Safe.load L.b23) fun _ => ?_
  refine Safe.seq (Safe.load L.b21) fun _ => ?_
  refine Safe.seq (Safe.load L.b21) fun _ => ?_
  exact Safe.pure trivial

theorem p169 : ∀ arg36 arg38 arg40 v361 v378 v395 v491, Safe (F := F) c bd H (k0_part169 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg36 arg38 arg40 v361 v378 v395 v491) fun _ => True := by
  intros
  rw [k0_part169_eq_skeleton]
  delta k0_part169_skel
  refine Safe.seq (Safe.store L.b21) fun _ => ?_
  refine Safe.seq (Safe.load L.b23) fun _ => ?_
  refine Safe.seq (Safe.load L.b21) fun _ => ?_
  refine Safe.seq (Safe.load L.b21) fun _ => ?_
  refine Safe.seq (Safe.store L.b21) fun _ => ?_
  refine Safe.seq (Safe.load L.b23) fun _ => ?_
  refine Safe.seq (Safe.load L.b21) fun _ => ?_
  refine Safe.seq (Safe.load L.b21) fun _ => ?_
  refine Safe.seq (Safe.store L.b21) fun _ => ?_
  refine Safe.seq (Safe.load L.b23) fun _ => ?_
  exact Safe.pure trivial

end Cert.Attention

end
-- ==== Proof.PartsD.lean ====
module

public import proofs.«01_k».proof.Proof.PartsA
public import proofs.«01_k».proof.Proof.PartsB
public import proofs.«01_k».proof.Proof.PartsC

@[expose] public section

set_option maxRecDepth 65536

noncomputable section

namespace Cert.Attention

open Cert.Kernel Cert.Kernel.Gen
open Idealize.ShloMosaic Idealize.ShloMosaic.TcCoe
open Idealize.SL Idealize.SL.RA Idealize.SL.BI
open Idealize.ShloMosaic.Rounds

variable {F : FTy → Type} [BitOps F] {c : Dev nD} {bd : Option ℕ}
variable {H : sProp (MT nD τ sig Unit (Elt F) ℕ (UR sig nD τ) ℕ)}

variable {i : grid0.Coords}
variable {arg2 : Memref sig .tc .smem S8 .f32} {harg2 : arg2.IsWhole}
variable {arg3 : Memref sig .tc .vmem S1x256x512 .bf16} {harg3 : arg3.IsWhole}
variable {arg4 : Memref sig .tc .vmem S1x2048x512 .bf16} {harg4 : arg4.IsWhole}
variable {arg5 : Memref sig .tc .vmem S1x256x512 .bf16} {harg5 : arg5.IsWhole}
variable {arg6 : Memref sig .tc .vmem S1x2048x512 .bf16} {harg6 : arg6.IsWhole}
variable {arg7 : Memref sig .tc .vmem S1x256x512 .bf16} {harg7 : arg7.IsWhole}
variable {arg8 : Memref sig .tc .vmem S1x2048x256 .bf16} {harg8 : arg8.IsWhole}
variable {arg9 : Memref sig .tc .vmem S8x512x256 .bf16} {harg9 : arg9.IsWhole}
variable {arg10 : Memref sig .tc .vmem S8x512x256 .bf16} {harg10 : arg10.IsWhole}
variable {arg11 : Memref sig .tc .vmem S8x128x256 .bf16} {harg11 : arg11.IsWhole}
variable {arg12 : Memref sig .tc .vmem S256x256 .bf16} {harg12 : arg12.IsWhole}
variable {arg13 : Memref sig .tc .vmem S4x2x256x256 .f32} {harg13 : arg13.IsWhole}
variable {arg14 : Memref sig .tc .vmem S8x2x256x128 .f32} {harg14 : arg14.IsWhole}
variable {arg15 : Memref sig .tc .vmem S4x64 .f32} {harg15 : arg15.IsWhole}
variable {arg16 : Memref sig .tc .vmem S128x1 .f32} {harg16 : arg16.IsWhole}
variable {arg17 : Memref sig .tc .vmem S1x256x1536 .bf16} {harg17 : arg17.IsWhole}
variable {arg18 : Memref sig .tc .vmem S512x256 .f32} {harg18 : arg18.IsWhole}
variable {arg19 : Memref sig .tc .vmem S16x256x256 .f32} {harg19 : arg19.IsWhole}
variable {arg20 : Memref sig .tc .vmem S16x256x256 .f32} {harg20 : arg20.IsWhole}
variable {arg21 : Memref sig .tc .vmem S8x128x256 .f32} {harg21 : arg21.IsWhole}
variable {arg22 : Memref sig .tc .vmem S24x256x256 .f32} {harg22 : arg22.IsWhole}
variable {arg23 : Memref sig .tc .vmem S24x144x256 .f32} {harg23 : arg23.IsWhole}
variable {arg24 : Memref sig .tc .vmem S16x256x128 .f32} {harg24 : arg24.IsWhole}
variable {arg25 : Memref sig .tc .vmem S16x80x128 .f32} {harg25 : arg25.IsWhole}
variable (L : Lent (F := F) c H arg2 arg3 arg4 arg5 arg6 arg7 arg8 arg9 arg10 arg11 arg12 arg13 arg14 arg15 arg16 arg17 arg18 arg19 arg20 arg21 arg22 arg23 arg24 arg25)
include L

attribute [local irreducible] k0_part1 k0_part2 k0_part3 k0_part4 k0_part5 k0_part6 k0_part7 k0_part8 k0_part9 k0_part10 k0_part11 k0_part12 k0_part13 k0_part14 k0_part15 k0_part16 k0_part17 k0_part18 k0_part19 k0_part20 k0_part21 k0_part22 k0_part23 k0_part24 k0_part25 k0_part26 k0_part27 k0_part28 k0_part29 k0_part30 k0_part31 k0_part32 k0_part33 k0_part34 k0_part35 k0_part36 k0_part37 k0_part38 k0_part39 k0_part40 k0_part41 k0_part42 k0_part43 k0_part44 k0_part45 k0_part46 k0_part47 k0_part48 k0_part49 k0_part50 k0_part51 k0_part52 k0_part53 k0_part54 k0_part55 k0_part56 k0_part57 k0_part58 k0_part59 k0_part60 k0_part61 k0_part62 k0_part64 k0_part65 k0_part66 k0_part67 k0_part68 k0_part69 k0_part70 k0_part71 k0_part72 k0_part73 k0_part74 k0_part75 k0_part76 k0_part77 k0_part78 k0_part79 k0_part80 k0_part81 k0_part82 k0_part83 k0_part84 k0_part85 k0_part86 k0_part87 k0_part88 k0_part89 k0_part90 k0_part91 k0_part92 k0_part93 k0_part94 k0_part95 k0_part96 k0_part97 k0_part98 k0_part99 k0_part100 k0_part101 k0_part102 k0_part103 k0_part104 k0_part105 k0_part106 k0_part107 k0_part108 k0_part109 k0_part110 k0_part111 k0_part112 k0_part113 k0_part114 k0_part115 k0_part116 k0_part117 k0_part119 k0_part120 k0_part121 k0_part122 k0_part123 k0_part124 k0_part125 k0_part126 k0_part127 k0_part128 k0_part129 k0_part130 k0_part131 k0_part132 k0_part133 k0_part134 k0_part135 k0_part136 k0_part137 k0_part138 k0_part139 k0_part140 k0_part141 k0_part142 k0_part143 k0_part144 k0_part145 k0_part146 k0_part147 k0_part148 k0_part149 k0_part150 k0_part151 k0_part152 k0_part153 k0_part154 k0_part155 k0_part156 k0_part157 k0_part158 k0_part159 k0_part160 k0_part161 k0_part162 k0_part163 k0_part164 k0_part165 k0_part166 k0_part167 k0_part168 k0_part169

theorem p63 : ∀ arg1 v0 v2 v3 v21 v23 v26 v28 v31 v33 v36 v38 v39 v42 v60 v62 v65 v67 v70 v72 v75 v77 v78 v79 k0_h1 k0_h2, Safe (F := F) c bd H (k0_part63 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg1 v0 v2 v3 v21 v23 v26 v28 v31 v33 v36 v38 v39 v42 v60 v62 v65 v67 v70 v72 v75 v77 v78 v79 k0_h1 k0_h2) fun _ => True := by
  intros
  rw [k0_part63_eq_skeleton]
  delta k0_part63_skel
  refine Safe.seq (p1 L ..) ?_; rintro ⟨_, _, _, _, _, _, _, _, _, _, _, _⟩
  refine Safe.seq (p2 L ..) ?_; rintro ⟨_, _, _, _, _, _, _, _, _, _, _, _, _⟩
  refine Safe.seq (p3 L ..) ?_; rintro ⟨_, _, _, _, _, _, _, _, _, _, _, _, _, _, _⟩
  refine Safe.seq (p4 L ..) ?_; rintro ⟨_, _, _, _, _, _, _, _, _⟩
  refine Safe.seq (p5 L ..) ?_; rintro ⟨_, _, _, _, _⟩
  refine Safe.seq (p6 L ..) ?_; rintro ⟨_, _, _, _, _, _, _⟩
  refine Safe.seq (p7 L ..) ?_; rintro ⟨_, _, _⟩
  refine Safe.seq (p8 L ..) ?_; rintro ⟨_, _, _, _, _⟩
  refine Safe.seq (p9 L ..) ?_; rintro ⟨_, _, _, _, _⟩
  refine Safe.seq (p10 L ..) ?_; rintro ⟨_, _, _, _, _⟩
  refine Safe.seq (p11 L ..) ?_; rintro ⟨_, _, _, _, _⟩
  refine Safe.seq (p12 L ..) ?_; rintro ⟨_, _, _, _, _, _, _⟩
  refine Safe.seq (p13 L ..) ?_; rintro ⟨_, _, _, _⟩
  refine Safe.seq (p14 L ..) ?_; rintro ⟨_, _, _, _, _⟩
  refine Safe.seq (p15 L ..) ?_; rintro ⟨_, _, _, _, _, _, _, _⟩
  refine Safe.seq (p16 L ..) ?_; rintro ⟨_, _, _, _, _, _⟩
  refine Safe.seq (p17 L ..) ?_; rintro ⟨_, _, _, _⟩
  refine Safe.seq (p18 L ..) ?_; rintro ⟨_, _, _, _, _, _, _⟩
  refine Safe.seq (p19 L ..) ?_; rintro ⟨_, _, _, _, _, _⟩
  refine Safe.seq (p20 L ..) ?_; rintro ⟨_, _, _, _⟩
  refine Safe.seq (p21 L ..) ?_; rintro ⟨_, _, _, _, _⟩
  refine Safe.seq (p22 L ..) ?_; rintro ⟨_, _, _, _, _, _⟩
  refine Safe.seq (p23 L ..) ?_; rintro ⟨_, _, _, _⟩
  refine Safe.seq (p24 L ..) ?_; rintro ⟨_, _, _, _, _, _, _, _⟩
  refine Safe.seq (p25 L ..) ?_; rintro ⟨_, _, _, _, _⟩
  refine Safe.seq (p26 L ..) ?_; rintro ⟨_, _, _, _⟩
  refine Safe.seq (p27 L ..) ?_; rintro ⟨_, _, _, _, _, _, _, _⟩
  refine Safe.seq (p28 L ..) ?_; rintro ⟨_, _, _, _, _, _⟩
  refine Safe.seq (p29 L ..) ?_; rintro ⟨_, _, _, _, _⟩
  refine Safe.seq (p30 L ..) ?_; rintro ⟨_, _, _, _, _, _, _⟩
  refine Safe.seq (p31 L ..) ?_; rintro ⟨_, _, _⟩
  refine Safe.seq (p32 L ..) ?_; rintro ⟨_, _, _, _, _⟩
  refine Safe.seq (p33 L ..) ?_; rintro ⟨_, _, _, _, _, _⟩
  refine Safe.seq (p34 L ..) ?_; rintro ⟨_, _, _, _, _⟩
  refine Safe.seq (p35 L ..) ?_; rintro ⟨_, _, _, _, _, _⟩
  refine Safe.seq (p36 L ..) ?_; rintro ⟨_, _, _, _⟩
  refine Safe.seq (p37 L ..) ?_; rintro ⟨_, _, _, _, _, _⟩
  refine Safe.seq (p38 L ..) ?_; rintro ⟨_, _, _, _⟩
  refine Safe.seq (p39 L ..) ?_; rintro ⟨_, _, _, _, _⟩
  refine Safe.seq (p40 L ..) ?_; rintro ⟨_, _, _, _, _, _⟩
  refine Safe.seq (p41 L ..) ?_; rintro ⟨_, _, _, _, _⟩
  refine Safe.seq (p42 L ..) ?_; rintro ⟨_, _, _, _, _, _⟩
  refine Safe.seq (p43 L ..) ?_; rintro ⟨_, _, _, _, _, _, _⟩
  refine Safe.seq (p44 L ..) ?_; rintro ⟨_, _, _, _⟩
  refine Safe.seq (p45 L ..) ?_; rintro ⟨_, _, _, _, _⟩
  refine Safe.seq (p46 L ..) ?_; rintro ⟨_, _, _, _, _⟩
  refine Safe.seq (p47 L ..) ?_; rintro ⟨_, _, _, _, _⟩
  refine Safe.seq (p48 L ..) ?_; rintro ⟨_, _, _, _, _⟩
  refine Safe.seq (p49 L ..) ?_; rintro ⟨_, _, _, _, _⟩
  refine Safe.seq (p50 L ..) ?_; rintro ⟨_, _, _, _, _⟩
  refine Safe.seq (p51 L ..) ?_; rintro ⟨_, _, _, _, _, _⟩
  refine Safe.seq (p52 L ..) ?_; rintro ⟨_, _, _, _⟩
  refine Safe.seq (p53 L ..) ?_; rintro ⟨_, _, _, _, _, _, _, _⟩
  refine Safe.seq (p54 L ..) ?_; rintro ⟨_, _, _, _, _⟩
  refine Safe.seq (p55 L ..) ?_; rintro ⟨_, _, _, _, _, _⟩
  refine Safe.seq (p56 L ..) ?_; rintro ⟨_, _, _, _, _, _, _⟩
  refine Safe.seq (p57 L ..) ?_; rintro ⟨_, _, _, _, _, _, _⟩
  refine Safe.seq (p58 L ..) ?_; rintro ⟨_, _, _, _, _⟩
  refine Safe.seq (p59 L ..) ?_; rintro ⟨_, _, _, _, _, _⟩
  refine Safe.seq (p60 L ..) ?_; rintro ⟨_, _, _, _, _, _, _⟩
  exact Safe.pure trivial

theorem p118 : ∀ arg1 v0 v2 v3 v21 v23 v26 v28 v31 v33 v36 v38 v39 v42 v60 v62 v65 v67 v70 v72 v75 v77 v78 v79 k0_h1 k0_h2, Safe (F := F) c bd H (k0_part118 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg1 v0 v2 v3 v21 v23 v26 v28 v31 v33 v36 v38 v39 v42 v60 v62 v65 v67 v70 v72 v75 v77 v78 v79 k0_h1 k0_h2) fun _ => True := by
  intros
  rw [k0_part118_eq_skeleton]
  delta k0_part118_skel
  refine Safe.seq (p64 L ..) ?_; rintro ⟨_, _, _, _, _, _, _, _, _, _, _⟩
  refine Safe.seq (p65 L ..) ?_; rintro ⟨_, _, _, _, _, _, _, _, _, _, _⟩
  refine Safe.seq (p66 L ..) ?_; rintro ⟨_, _, _, _, _, _, _, _, _, _, _, _, _, _, _, _, _, _⟩
  refine Safe.seq (p67 L ..) ?_; rintro ⟨_, _, _, _⟩
  refine Safe.seq (p68 L ..) ?_; rintro ⟨_, _, _, _, _⟩
  refine Safe.seq (p69 L ..) ?_; rintro ⟨_, _, _, _⟩
  refine Safe.seq (p70 L ..) ?_; rintro ⟨_, _, _, _, _, _⟩
  refine Safe.seq (p71 L ..) ?_; rintro ⟨_, _, _, _, _⟩
  refine Safe.seq (p72 L ..) ?_; rintro ⟨_, _, _, _⟩
  refine Safe.seq (p73 L ..) ?_; rintro ⟨_, _, _, _, _, _⟩
  refine Safe.seq (p74 L ..) ?_; rintro ⟨_, _, _, _, _, _, _⟩
  refine Safe.seq (p75 L ..) ?_; rintro ⟨_, _, _, _, _, _⟩
  refine Safe.seq (p76 L ..) ?_; rintro ⟨_, _, _, _, _⟩
  refine Safe.seq (p77 L ..) ?_; rintro ⟨_, _, _, _, _⟩
  refine Safe.seq (p78 L ..) ?_; rintro ⟨_, _, _, _, _, _⟩
  refine Safe.seq (p79 L ..) ?_; rintro ⟨_, _, _⟩
  refine Safe.seq (p80 L ..) ?_; rintro ⟨_, _, _, _, _⟩
  refine Safe.seq (p81 L ..) ?_; rintro ⟨_, _, _, _, _⟩
  refine Safe.seq (p82 L ..) ?_; rintro ⟨_, _, _, _, _⟩
  refine Safe.seq (p83 L ..) ?_; rintro ⟨_, _, _, _, _⟩
  refine Safe.seq (p84 L ..) ?_; rintro ⟨_, _, _, _, _, _, _⟩
  refine Safe.seq (p85 L ..) ?_; rintro ⟨_, _, _, _⟩
  refine Safe.seq (p86 L ..) ?_; rintro ⟨_, _, _, _, _⟩
  refine Safe.seq (p87 L ..) ?_; rintro ⟨_, _, _, _, _, _, _, _⟩
  refine Safe.seq (p88 L ..) ?_; rintro ⟨_, _, _, _, _, _⟩
  refine Safe.seq (p89 L ..) ?_; rintro ⟨_, _, _, _⟩
  refine Safe.seq (p90 L ..) ?_; rintro ⟨_, _, _, _, _, _, _⟩
  refine Safe.seq (p91 L ..) ?_; rintro ⟨_, _, _, _, _⟩
  refine Safe.seq (p92 L ..) ?_; rintro ⟨_, _, _, _, _⟩
  refine Safe.seq (p93 L ..) ?_; rintro ⟨_, _, _, _, _⟩
  refine Safe.seq (p94 L ..) ?_; rintro ⟨_, _, _, _, _, _⟩
  refine Safe.seq (p95 L ..) ?_; rintro ⟨_, _, _⟩
  refine Safe.seq (p96 L ..) ?_; rintro ⟨_, _, _, _, _, _, _⟩
  refine Safe.seq (p97 L ..) ?_; rintro ⟨_, _, _⟩
  refine Safe.seq (p98 L ..) ?_; rintro ⟨_, _, _, _, _, _⟩
  refine Safe.seq (p99 L ..) ?_; rintro ⟨_, _, _, _, _⟩
  refine Safe.seq (p100 L ..) ?_; rintro ⟨_, _, _, _, _⟩
  refine Safe.seq (p101 L ..) ?_; rintro ⟨_, _, _, _, _⟩
  refine Safe.seq (p102 L ..) ?_; rintro ⟨_, _, _⟩
  refine Safe.seq (p103 L ..) ?_; rintro ⟨_, _, _, _, _, _⟩
  refine Safe.seq (p104 L ..) ?_; rintro ⟨_, _, _, _⟩
  refine Safe.seq (p105 L ..) ?_; rintro ⟨_, _, _, _⟩
  refine Safe.seq (p106 L ..) ?_; rintro ⟨_, _, _, _, _, _⟩
  refine Safe.seq (p107 L ..) ?_; rintro ⟨_, _, _, _, _⟩
  refine Safe.seq (p108 L ..) ?_; rintro ⟨_, _, _, _, _⟩
  refine Safe.seq (p109 L ..) ?_; rintro ⟨_, _, _, _, _, _, _, _⟩
  refine Safe.seq (p110 L ..) ?_; rintro ⟨_, _, _, _, _⟩
  refine Safe.seq (p111 L ..) ?_; rintro ⟨_, _, _, _, _, _, _⟩
  refine Safe.seq (p112 L ..) ?_; rintro ⟨_, _, _, _⟩
  refine Safe.seq (p113 L ..) ?_; rintro ⟨_, _, _, _, _, _⟩
  refine Safe.seq (p114 L ..) ?_; rintro ⟨_, _, _, _, _, _⟩
  refine Safe.seq (p115 L ..) ?_; rintro ⟨_, _, _, _, _, _⟩
  refine Safe.seq (p116 L ..) ?_; rintro ⟨_, _, _⟩
  refine Safe.seq (p117 L ..) ?_; rintro ⟨_, _, _, _⟩
  refine Safe.seq (Safe.store L.b21) fun _ => ?_
  exact Safe.pure trivial

theorem p173 : ∀ v98_1 v98_3 v98_5 v98_7 v122, Safe (F := F) c bd H (k0_part173 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 v98_1 v98_3 v98_5 v98_7 v122) fun _ => True := by
  intros
  rw [k0_part173_eq_skeleton]
  delta k0_part173_skel
  refine Safe.seq (Safe.load L.b21) fun _ => ?_
  refine Safe.seq (Safe.load L.b21) fun _ => ?_
  refine Safe.seq (Safe.load L.b16) fun _ => ?_
  refine Safe.seq (Safe.load L.b21) fun _ => ?_
  refine Safe.seq (Safe.load L.b21) fun _ => ?_
  exact Safe.pure trivial

theorem p174 : ∀ v98_9 v98_11 v98_13 v122 v160 v165, Safe (F := F) c bd H (k0_part174 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 v98_9 v98_11 v98_13 v122 v160 v165) fun _ => True := by
  intros
  rw [k0_part174_eq_skeleton]
  delta k0_part174_skel
  refine Safe.seq (Safe.load L.b16) fun _ => ?_
  refine Safe.seq (Safe.load L.b21) fun _ => ?_
  refine Safe.seq (Safe.load L.b21) fun _ => ?_
  refine Safe.seq (Safe.load L.b16) fun _ => ?_
  refine Safe.seq (Safe.load L.b21) fun _ => ?_
  exact Safe.pure trivial

theorem p170 : Safe (F := F) c bd H (k0_part170 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25) fun r => r.1 = BitVec.ofNat 32 (i 1).val := by
  intros
  rw [k0_part170_eq_skeleton]
  delta k0_part170_skel
  refine Safe.seq (Safe.load L.b3) fun _ => ?_
  refine Safe.seq (Safe.load L.b12) fun _ => ?_
  exact Safe.pure rfl

theorem p171 : ∀ arg1, Safe (F := F) c bd H (k0_part171 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg1) fun _ => True := by
  intros
  rw [k0_part171_eq_skeleton]
  delta k0_part171_skel
  refine Safe.seq (Safe.load L.b5) fun _ => ?_
  exact Safe.pure trivial

theorem t1 : ∀ arg1 v0 v2 v3 v21 v23 v26 v28 v31 v33 v36 v38 v39 v42 v60 v62 v65 v67 v70 v72 v75 v77 v78 v79 v83 v84 c0_i32_25 c2_i32 k a, Safe (F := F) c bd H (k0_t1_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg1 v0 v2 v3 v21 v23 v26 v28 v31 v33 v36 v38 v39 v42 v60 v62 v65 v67 v70 v72 v75 v77 v78 v79 v83 v84 c0_i32_25 c2_i32 k a) fun _ => True := by
  intros
  delta k0_t1_body
  refine Safe.seq (p154 L ..) ?_; rintro ⟨_, _, _, _, _⟩
  refine Safe.seq (p155 L ..) ?_; rintro ⟨_, _, _, _, _, _⟩
  refine Safe.seq (p156 L ..) ?_; rintro ⟨_, _, _, _, _, _, _⟩
  refine Safe.seq (p157 L ..) ?_; rintro ⟨_, _, _, _, _, _, _, _, _, _⟩
  refine Safe.seq (p158 L ..) ?_; rintro ⟨_, _, _, _, _⟩
  refine Safe.seq (p159 L ..) ?_; rintro ⟨_, _, _, _, _, _⟩
  refine Safe.seq (p160 L ..) ?_; rintro ⟨_, _, _⟩
  refine Safe.seq (p161 L ..) ?_; rintro ⟨_, _, _, _⟩
  refine Safe.seq (Safe.load L.b21) fun _ => ?_
  refine Safe.seq (Safe.load L.b21) fun _ => ?_
  refine Safe.seq (Safe.store L.b21) fun _ => ?_
  refine Safe.seq (Safe.load L.b23) fun _ => ?_
  refine Safe.seq (Safe.load L.b21) fun _ => ?_
  refine Safe.seq (Safe.load L.b21) fun _ => ?_
  refine Safe.seq (Safe.store L.b21) fun _ => ?_
  exact Safe.pure trivial

theorem t2 : ∀ arg1 v0 v2 v3 v21 v23 v26 v28 v31 v33 v36 v38 v39 v42 v60 v62 v65 v67 v70 v72 v75 v77 v78 v79 v83 v84 c0_i32_25 c2_i32 v96 k a, Safe (F := F) c bd H (k0_t2_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg1 v0 v2 v3 v21 v23 v26 v28 v31 v33 v36 v38 v39 v42 v60 v62 v65 v67 v70 v72 v75 v77 v78 v79 v83 v84 c0_i32_25 c2_i32 v96 k a) fun _ => True := by
  intros
  delta k0_t2_body
  refine Safe.seq (p162 L ..) ?_; rintro ⟨_, _, _, _, _⟩
  refine Safe.seq (p163 L ..) ?_; rintro ⟨_, _, _, _, _, _⟩
  refine Safe.seq (p164 L ..) ?_; rintro ⟨_, _, _, _, _, _, _⟩
  refine Safe.seq (p165 L ..) ?_; rintro ⟨_, _, _, _, _, _, _, _, _, _⟩
  refine Safe.seq (p166 L ..) ?_; rintro ⟨_, _, _, _, _⟩
  refine Safe.seq (p167 L ..) ?_; rintro ⟨_, _, _, _, _, _⟩
  refine Safe.seq (p168 L ..) ?_; rintro ⟨_, _, _⟩
  refine Safe.seq (p169 L ..) ?_; rintro ⟨_, _, _, _⟩
  refine Safe.seq (Safe.load L.b21) fun _ => ?_
  refine Safe.seq (Safe.load L.b21) fun _ => ?_
  refine Safe.seq (Safe.store L.b21) fun _ => ?_
  refine Safe.seq (Safe.load L.b23) fun _ => ?_
  refine Safe.seq (Safe.load L.b21) fun _ => ?_
  refine Safe.seq (Safe.load L.b21) fun _ => ?_
  refine Safe.seq (Safe.store L.b21) fun _ => ?_
  exact Safe.pure trivial

end Cert.Attention

end
-- ==== Proof.While.lean ====
module

public import proofs.«01_k».proof.Proof.Safe

@[expose] public section

set_option maxRecDepth 65536

noncomputable section

namespace Cert.Attention

open Cert.Kernel Cert.Kernel.Gen
open Idealize.ShloMosaic Idealize.ShloMosaic.TcCoe
open Idealize.SL Idealize.SL.RA Idealize.SL.BI
open Idealize.ShloMosaic.Rounds

variable {F : FTy → Type} [BitOps F] {c : Dev nD} {bd : Option ℕ}
variable {H : sProp (MT nD τ sig Unit (Elt F) ℕ (UR sig nD τ) ℕ)}
variable {i : grid0.Coords}
variable {arg4 : Memref sig .tc .vmem S1x2048x512 .bf16} {harg4 : arg4.IsWhole}
variable {arg9 : Memref sig .tc .vmem S8x512x256 .bf16} {harg9 : arg9.IsWhole}
variable {arg18 : Memref sig .tc .vmem S512x256 .f32} {harg18 : arg18.IsWhole}
variable {arg19 : Memref sig .tc .vmem S16x256x256 .f32} {harg19 : arg19.IsWhole}
variable {arg20 : Memref sig .tc .vmem S16x256x256 .f32} {harg20 : arg20.IsWhole}
variable (L4 : Lends (F := F) c H arg4)
variable (L9 : Lends (F := F) c H arg9)
variable (L18 : Lends (F := F) c H arg18)
variable (L19 : Lends (F := F) c H arg19)
variable (L20 : Lends (F := F) c H arg20)
include L4 L9 L18 L19 L20

theorem w175 : ∀ v21 v23 v26 v28 v31 v33 v39 v36 v38 arg26 arg27 arg28 arg29 arg30 arg31 arg32 arg33 arg34 arg35, k0_chk1 arg26 → Safe (F := F) c bd H (k0_part175 (F := F) i arg4 harg4 arg9 harg9 v21 arg19 harg19 v23 v26 v28 v31 v33 v39 arg20 harg20 v36 v38 arg18 harg18 arg26 arg27 arg28 arg29 arg30 arg31 arg32 arg33 arg34 arg35) fun _ => True := by
  intro v21 v23 v26 v28 v31 v33 v39 v36 v38 arg26 arg27 arg28 arg29 arg30 arg31 arg32 arg33 arg34 arg35 hchk
  rw [k0_part175_eq_skeleton]
  delta k0_part175_skel
  refine Safe.seq (Safe.assume hchk) fun _ => ?_
  refine Safe.seq (Safe.load L4) fun _ => ?_
  refine Safe.seq (Safe.load L9) fun _ => ?_
  refine Safe.seq (Safe.load L19) fun _ => ?_
  refine Safe.seq (Safe.store L19) fun _ => ?_
  refine Safe.seq (Safe.load L19) fun _ => ?_
  refine Safe.seq (Safe.store L19) fun _ => ?_
  refine Safe.seq (Safe.load L19) fun _ => ?_
  refine Safe.seq (Safe.store L19) fun _ => ?_
  refine Safe.seq (Safe.load L19) fun _ => ?_
  refine Safe.seq (Safe.store L19) fun _ => ?_
  exact Safe.pure trivial

theorem w176 : ∀ v21 v23 v26 v28 v31 v33 v39 v36 v38 arg26 arg27 arg28 arg29 arg30 arg31 arg32 arg33 arg34 arg35 v241 v266, Safe (F := F) c bd H (k0_part176 (F := F) i arg4 harg4 arg9 harg9 v21 arg19 harg19 v23 v26 v28 v31 v33 v39 arg20 harg20 v36 v38 arg18 harg18 arg26 arg27 arg28 arg29 arg30 arg31 arg32 arg33 arg34 arg35 v241 v266) fun _ => True := by
  intros
  rw [k0_part176_eq_skeleton]
  delta k0_part176_skel
  refine Safe.seq (Safe.load L19) fun _ => ?_
  refine Safe.seq (Safe.store L19) fun _ => ?_
  refine Safe.seq (Safe.load L19) fun _ => ?_
  refine Safe.seq (Safe.load L19) fun _ => ?_
  refine Safe.seq (Safe.store L19) fun _ => ?_
  refine Safe.seq (Safe.load L19) fun _ => ?_
  exact Safe.pure trivial

theorem w177 : ∀ v21 v23 v26 v28 v31 v33 v39 v36 v38 arg26 arg27 arg28 arg29 arg30 arg31 arg32 arg33 arg34 arg35 v241 v285 v306, Safe (F := F) c bd H (k0_part177 (F := F) i arg4 harg4 arg9 harg9 v21 arg19 harg19 v23 v26 v28 v31 v33 v39 arg20 harg20 v36 v38 arg18 harg18 arg26 arg27 arg28 arg29 arg30 arg31 arg32 arg33 arg34 arg35 v241 v285 v306) fun _ => True := by
  intros
  rw [k0_part177_eq_skeleton]
  delta k0_part177_skel
  refine Safe.seq (Safe.load L20) fun _ => ?_
  refine Safe.seq (Safe.store L20) fun _ => ?_
  refine Safe.seq (Safe.load L19) fun _ => ?_
  refine Safe.seq (Safe.store L19) fun _ => ?_
  refine Safe.seq (Safe.load L19) fun _ => ?_
  refine Safe.seq (Safe.load L20) fun _ => ?_
  refine Safe.seq (Safe.store L20) fun _ => ?_
  refine Safe.seq (Safe.load L19) fun _ => ?_
  exact Safe.pure trivial

theorem w178 : ∀ v21 v23 v26 v28 v31 v33 v39 v36 v38 arg26 arg27 arg28 arg29 arg30 arg31 arg32 arg33 arg34 arg35 v331 v340, Safe (F := F) c bd H (k0_part178 (F := F) i arg4 harg4 arg9 harg9 v21 arg19 harg19 v23 v26 v28 v31 v33 v39 arg20 harg20 v36 v38 arg18 harg18 arg26 arg27 arg28 arg29 arg30 arg31 arg32 arg33 arg34 arg35 v331 v340) fun _ => True := by
  intros
  rw [k0_part178_eq_skeleton]
  delta k0_part178_skel
  refine Safe.seq (Safe.store L19) fun _ => ?_
  refine Safe.seq (Safe.load L19) fun _ => ?_
  refine Safe.seq (Safe.load L20) fun _ => ?_
  refine Safe.seq (Safe.store L20) fun _ => ?_
  refine Safe.seq (Safe.load L19) fun _ => ?_
  exact Safe.pure trivial

theorem w179 : ∀ v21 v23 v26 v28 v31 v33 v39 v36 v38 arg26 arg27 arg28 arg29 arg30 arg31 arg32 arg33 arg34 arg35 v271 v284 v285 v376 v377, Safe (F := F) c bd H (k0_part179 (F := F) i arg4 harg4 arg9 harg9 v21 arg19 harg19 v23 v26 v28 v31 v33 v39 arg20 harg20 v36 v38 arg18 harg18 arg26 arg27 arg28 arg29 arg30 arg31 arg32 arg33 arg34 arg35 v271 v284 v285 v376 v377) fun _ => True := by
  intros
  rw [k0_part179_eq_skeleton]
  delta k0_part179_skel
  refine Safe.seq (Safe.load L20) fun _ => ?_
  refine Safe.seq (Safe.store L20) fun _ => ?_
  refine Safe.seq (Safe.load L19) fun _ => ?_
  refine Safe.seq (Safe.load L20) fun _ => ?_
  refine Safe.seq (Safe.store L20) fun _ => ?_
  refine Safe.seq (Safe.load L20) fun _ => ?_
  refine Safe.seq (Safe.load L19) fun _ => ?_
  exact Safe.pure trivial

theorem w180 : ∀ v21 v23 v26 v28 v31 v33 v39 v36 v38 arg26 arg27 arg28 arg29 arg30 arg31 arg32 arg33 arg34 arg35 v244 v292 v305 v306 v396 v411 v415 v416, Safe (F := F) c bd H (k0_part180 (F := F) i arg4 harg4 arg9 harg9 v21 arg19 harg19 v23 v26 v28 v31 v33 v39 arg20 harg20 v36 v38 arg18 harg18 arg26 arg27 arg28 arg29 arg30 arg31 arg32 arg33 arg34 arg35 v244 v292 v305 v306 v396 v411 v415 v416) fun _ => True := by
  intros
  rw [k0_part180_eq_skeleton]
  delta k0_part180_skel
  refine Safe.seq (Safe.load L20) fun _ => ?_
  refine Safe.seq (Safe.store L20) fun _ => ?_
  refine Safe.seq (Safe.load L20) fun _ => ?_
  refine Safe.seq (Safe.load L18) fun _ => ?_
  refine Safe.seq (Safe.load L18) fun _ => ?_
  refine Safe.seq (Safe.store L18) fun _ => ?_
  refine Safe.seq (Safe.load L19) fun _ => ?_
  exact Safe.pure trivial

theorem w181 : ∀ v21 v23 v26 v28 v31 v33 v39 v36 v38 arg26 arg27 arg28 arg29 arg30 arg31 arg32 arg33 arg34 arg35 v244 v317 v330 v331 v427 v442 v454 v455, Safe (F := F) c bd H (k0_part181 (F := F) i arg4 harg4 arg9 harg9 v21 arg19 harg19 v23 v26 v28 v31 v33 v39 arg20 harg20 v36 v38 arg18 harg18 arg26 arg27 arg28 arg29 arg30 arg31 arg32 arg33 arg34 arg35 v244 v317 v330 v331 v427 v442 v454 v455) fun _ => True := by
  intros
  rw [k0_part181_eq_skeleton]
  delta k0_part181_skel
  refine Safe.seq (Safe.load L20) fun _ => ?_
  refine Safe.seq (Safe.store L20) fun _ => ?_
  refine Safe.seq (Safe.load L20) fun _ => ?_
  refine Safe.seq (Safe.load L18) fun _ => ?_
  refine Safe.seq (Safe.load L18) fun _ => ?_
  refine Safe.seq (Safe.store L18) fun _ => ?_
  exact Safe.pure trivial

theorem w182 : ∀ v21 v23 v26 v28 v31 v33 v39 v36 v38 arg26 arg27 arg28 arg29 arg30 arg31 arg32 arg33 arg34 arg35 v244 v342 v355 v356 v362 v375 v376 v483 v494, Safe (F := F) c bd H (k0_part182 (F := F) i arg4 harg4 arg9 harg9 v21 arg19 harg19 v23 v26 v28 v31 v33 v39 arg20 harg20 v36 v38 arg18 harg18 arg26 arg27 arg28 arg29 arg30 arg31 arg32 arg33 arg34 arg35 v244 v342 v355 v356 v362 v375 v376 v483 v494) fun _ => True := by
  intros
  rw [k0_part182_eq_skeleton]
  delta k0_part182_skel
  refine Safe.seq (Safe.load L20) fun _ => ?_
  refine Safe.seq (Safe.store L20) fun _ => ?_
  refine Safe.seq (Safe.load L20) fun _ => ?_
  refine Safe.seq (Safe.load L18) fun _ => ?_
  refine Safe.seq (Safe.load L18) fun _ => ?_
  refine Safe.seq (Safe.store L18) fun _ => ?_
  refine Safe.seq (Safe.load L20) fun _ => ?_
  refine Safe.seq (Safe.load L18) fun _ => ?_
  exact Safe.pure trivial

theorem w183 : ∀ v21 v23 v26 v28 v31 v33 v39 v36 v38 arg26 arg27 arg28 arg29 arg30 arg31 arg32 arg33 arg34 arg35 v244 v382 v395 v396 v413 v426 v427 v529 v536, Safe (F := F) c bd H (k0_part183 (F := F) i arg4 harg4 arg9 harg9 v21 arg19 harg19 v23 v26 v28 v31 v33 v39 arg20 harg20 v36 v38 arg18 harg18 arg26 arg27 arg28 arg29 arg30 arg31 arg32 arg33 arg34 arg35 v244 v382 v395 v396 v413 v426 v427 v529 v536) fun _ => True := by
  intros
  rw [k0_part183_eq_skeleton]
  delta k0_part183_skel
  refine Safe.seq (Safe.load L18) fun _ => ?_
  refine Safe.seq (Safe.store L18) fun _ => ?_
  refine Safe.seq (Safe.load L20) fun _ => ?_
  refine Safe.seq (Safe.load L18) fun _ => ?_
  refine Safe.seq (Safe.load L18) fun _ => ?_
  refine Safe.seq (Safe.store L18) fun _ => ?_
  refine Safe.seq (Safe.load L20) fun _ => ?_
  refine Safe.seq (Safe.load L18) fun _ => ?_
  exact Safe.pure trivial

theorem w184 : ∀ v21 v23 v26 v28 v31 v33 v39 v36 v38 arg26 arg27 arg28 arg29 arg30 arg31 arg32 arg33 arg34 arg35 v244 v407 v438 v454 v467 v468 v479 v504 v525 v546 v567 v571 v578, Safe (F := F) c bd H (k0_part184 (F := F) i arg4 harg4 arg9 harg9 v21 arg19 harg19 v23 v26 v28 v31 v33 v39 arg20 harg20 v36 v38 arg18 harg18 arg26 arg27 arg28 arg29 arg30 arg31 arg32 arg33 arg34 arg35 v244 v407 v438 v454 v467 v468 v479 v504 v525 v546 v567 v571 v578) fun r => r.2.1 = Scalar.subi arg26 1#32 := by
  intros
  rw [k0_part184_eq_skeleton]
  delta k0_part184_skel
  refine Safe.seq (Safe.load L18) fun _ => ?_
  refine Safe.seq (Safe.store L18) fun _ => ?_
  refine Safe.seq (Safe.load L20) fun _ => ?_
  refine Safe.seq (Safe.load L18) fun _ => ?_
  refine Safe.seq (Safe.load L18) fun _ => ?_
  refine Safe.seq (Safe.store L18) fun _ => ?_
  refine Safe.seq (Safe.load L18) fun _ => ?_
  refine Safe.seq (Safe.load L18) fun _ => ?_
  refine Safe.seq (Safe.store L18) fun _ => ?_
  exact Safe.pure rfl

attribute [local irreducible] k0_part175 k0_part176 k0_part177 k0_part178 k0_part179 k0_part180 k0_part181 k0_part182 k0_part183 k0_part184

omit L4 L9 L18 L19 L20 in
theorem sge_zero {a : BitVec 32} {b : BitVec 1} (h : Scalar.andi (Scalar.cmpi .sge a 0#32) b = 1#1) : 0 ≤ a.toInt := by
  by_contra hn
  have h0 : Scalar.cmpi .sge a 0#32 = 0#1 := by
    simp only [Scalar.cmpi, IntOp.cmpi, BitVec.sle, BitVec.toInt_zero, hn, decide_false, BitVec.ofBool_false]
    rfl
  rw [h0] at h
  simp [Scalar.andi, IntOp.andi] at h

omit L4 L9 L18 L19 L20 in
/-- Every counter from zero to seven passes the side condition of the tile it names. -/
theorem chk_all : ∀ k : Fin 8, k0_chk1 (BitVec.ofNat 32 k.val) := by decide +kernel

omit L4 L9 L18 L19 L20 in
theorem counter {a : BitVec 32} (h0 : 0 ≤ a.toInt) (h8 : a.toInt < 8) : ∃ k : Fin 8, a = BitVec.ofNat 32 k.val ∧ a.toInt = k.val := by
  have hk : a.toInt.toNat < 8 := by omega
  refine ⟨⟨a.toInt.toNat, hk⟩, ?_, by simp only; omega⟩
  apply BitVec.eq_of_toInt_eq
  have e : ((a.toInt.toNat : ℕ) : ℤ) = a.toInt := Int.toNat_of_nonneg h0
  rw [BitVec.toInt_ofNat', e]
  exact (Int.bmod_eq_of_le (by omega) (by omega)).symm

omit L4 L9 L18 L19 L20 in
theorem chk_of {a : BitVec 32} (h0 : 0 ≤ a.toInt) (h8 : a.toInt < 8) : k0_chk1 a := by
  obtain ⟨k, rfl, -⟩ := counter h0 h8
  exact chk_all k

omit L4 L9 L18 L19 L20 in
theorem down {a : BitVec 32} (h0 : 0 ≤ a.toInt) (h8 : a.toInt < 8) : (Scalar.subi a 1#32).toInt = a.toInt - 1 := by
  obtain ⟨k, rfl, -⟩ := counter h0 h8
  revert k
  decide +kernel

/-- The loop ends, its counter going down to below zero, from any counter at most seven. -/
theorem while_safe : ∀ (n : ℕ) v21 v23 v26 v28 v31 v33 v39 v36 v38 arg26 arg27 arg28 arg29 arg30 arg31 arg32 arg33 arg34 arg35, arg26.toInt < 8 → arg26.toInt < (n : ℤ) →
    Safe (F := F) c (some n) H (cc0_while1 (F := F) i arg4 harg4 arg9 harg9 v21 arg19 harg19 v23 v26 v28 v31 v33 v39 arg20 harg20 v36 v38 arg18 harg18 arg26 arg27 arg28 arg29 arg30 arg31 arg32 arg33 arg34 arg35) fun _ => True := by
  intro n
  induction n with
  | zero =>
    intro v21 v23 v26 v28 v31 v33 v39 v36 v38 arg26 arg27 arg28 arg29 arg30 arg31 arg32 arg33 arg34 arg35 h8 hn
    rw [cc0_while1_eq_skeleton]
    delta cc0_while1_skel
    refine Safe.dcond (fun h => ?_) fun h => Safe.pure trivial
    have := sge_zero h
    omega
  | succ n ih =>
    intro v21 v23 v26 v28 v31 v33 v39 v36 v38 arg26 arg27 arg28 arg29 arg30 arg31 arg32 arg33 arg34 arg35 h8 hn
    rw [cc0_while1_eq_skeleton]
    delta cc0_while1_skel
    refine Safe.dcond (fun h => ?_) fun h => Safe.pure trivial
    have h0 := sge_zero h
    refine Safe.seq (w175 L4 L9 L18 L19 L20 _ _ _ _ _ _ _ _ _ _ _ _ _ _ _ _ _ _ _ (chk_of h0 h8)) ?_; rintro ⟨_, _, _⟩
    refine Safe.seq (w176 L4 L9 L18 L19 L20 ..) ?_; rintro ⟨_, _, _, _, _, _⟩
    refine Safe.seq (w177 L4 L9 L18 L19 L20 ..) ?_; rintro ⟨_, _, _, _⟩
    refine Safe.seq (w178 L4 L9 L18 L19 L20 ..) ?_; rintro ⟨_, _, _, _, _, _, _⟩
    refine Safe.seq (w179 L4 L9 L18 L19 L20 ..) ?_; rintro ⟨_, _, _, _, _, _, _, _⟩
    refine Safe.seq (w180 L4 L9 L18 L19 L20 ..) ?_; rintro ⟨_, _, _, _, _, _⟩
    refine Safe.seq (w181 L4 L9 L18 L19 L20 ..) ?_; rintro ⟨_, _, _, _, _⟩
    refine Safe.seq (w182 L4 L9 L18 L19 L20 ..) ?_; rintro ⟨_, _, _, _⟩
    refine Safe.seq (w183 L4 L9 L18 L19 L20 ..) ?_; rintro ⟨_, _, _, _⟩
    refine Safe.bind (w184 L4 L9 L18 L19 L20 ..) ?_; rintro ⟨_, _, _⟩ hr
    refine Safe.call n (fun u hu => by cases hu; exact Nat.lt_succ_self n) ?_
    refine ih _ _ _ _ _ _ _ _ _ _ _ _ _ _ _ _ _ _ _ ?_ ?_
    · obtain rfl := hr
      have := down h0 h8
      omega
    · obtain rfl := hr
      have := down h0 h8
      omega

end Cert.Attention

end
-- ==== Proof.Body.lean ====
module

public import proofs.«01_k».proof.Proof.PartsD
public import proofs.«01_k».proof.Proof.While

@[expose] public section

set_option maxRecDepth 65536

noncomputable section

namespace Cert.Attention

open Cert.Kernel Cert.Kernel.Gen
open Idealize.ShloMosaic Idealize.ShloMosaic.TcCoe
open Idealize.SL Idealize.SL.RA Idealize.SL.BI
open Idealize.ShloMosaic.Rounds

variable {F : FTy → Type} [BitOps F] {c : Dev nD} {bd : Option ℕ}
variable {H : sProp (MT nD τ sig Unit (Elt F) ℕ (UR sig nD τ) ℕ)}

variable {i : grid0.Coords}
variable {arg2 : Memref sig .tc .smem S8 .f32} {harg2 : arg2.IsWhole}
variable {arg3 : Memref sig .tc .vmem S1x256x512 .bf16} {harg3 : arg3.IsWhole}
variable {arg4 : Memref sig .tc .vmem S1x2048x512 .bf16} {harg4 : arg4.IsWhole}
variable {arg5 : Memref sig .tc .vmem S1x256x512 .bf16} {harg5 : arg5.IsWhole}
variable {arg6 : Memref sig .tc .vmem S1x2048x512 .bf16} {harg6 : arg6.IsWhole}
variable {arg7 : Memref sig .tc .vmem S1x256x512 .bf16} {harg7 : arg7.IsWhole}
variable {arg8 : Memref sig .tc .vmem S1x2048x256 .bf16} {harg8 : arg8.IsWhole}
variable {arg9 : Memref sig .tc .vmem S8x512x256 .bf16} {harg9 : arg9.IsWhole}
variable {arg10 : Memref sig .tc .vmem S8x512x256 .bf16} {harg10 : arg10.IsWhole}
variable {arg11 : Memref sig .tc .vmem S8x128x256 .bf16} {harg11 : arg11.IsWhole}
variable {arg12 : Memref sig .tc .vmem S256x256 .bf16} {harg12 : arg12.IsWhole}
variable {arg13 : Memref sig .tc .vmem S4x2x256x256 .f32} {harg13 : arg13.IsWhole}
variable {arg14 : Memref sig .tc .vmem S8x2x256x128 .f32} {harg14 : arg14.IsWhole}
variable {arg15 : Memref sig .tc .vmem S4x64 .f32} {harg15 : arg15.IsWhole}
variable {arg16 : Memref sig .tc .vmem S128x1 .f32} {harg16 : arg16.IsWhole}
variable {arg17 : Memref sig .tc .vmem S1x256x1536 .bf16} {harg17 : arg17.IsWhole}
variable {arg18 : Memref sig .tc .vmem S512x256 .f32} {harg18 : arg18.IsWhole}
variable {arg19 : Memref sig .tc .vmem S16x256x256 .f32} {harg19 : arg19.IsWhole}
variable {arg20 : Memref sig .tc .vmem S16x256x256 .f32} {harg20 : arg20.IsWhole}
variable {arg21 : Memref sig .tc .vmem S8x128x256 .f32} {harg21 : arg21.IsWhole}
variable {arg22 : Memref sig .tc .vmem S24x256x256 .f32} {harg22 : arg22.IsWhole}
variable {arg23 : Memref sig .tc .vmem S24x144x256 .f32} {harg23 : arg23.IsWhole}
variable {arg24 : Memref sig .tc .vmem S16x256x128 .f32} {harg24 : arg24.IsWhole}
variable {arg25 : Memref sig .tc .vmem S16x80x128 .f32} {harg25 : arg25.IsWhole}
variable (L : Lent (F := F) c H arg2 arg3 arg4 arg5 arg6 arg7 arg8 arg9 arg10 arg11 arg12 arg13 arg14 arg15 arg16 arg17 arg18 arg19 arg20 arg21 arg22 arg23 arg24 arg25)
include L

attribute [local irreducible] k0_part1 k0_part2 k0_part3 k0_part4 k0_part5 k0_part6 k0_part7 k0_part8 k0_part9 k0_part10 k0_part11 k0_part12 k0_part13 k0_part14 k0_part15 k0_part16 k0_part17 k0_part18 k0_part19 k0_part20 k0_part21 k0_part22 k0_part23 k0_part24 k0_part25 k0_part26 k0_part27 k0_part28 k0_part29 k0_part30 k0_part31 k0_part32 k0_part33 k0_part34 k0_part35 k0_part36 k0_part37 k0_part38 k0_part39 k0_part40 k0_part41 k0_part42 k0_part43 k0_part44 k0_part45 k0_part46 k0_part47 k0_part48 k0_part49 k0_part50 k0_part51 k0_part52 k0_part53 k0_part54 k0_part55 k0_part56 k0_part57 k0_part58 k0_part59 k0_part60 k0_part61 k0_part62 k0_part63 k0_part64 k0_part65 k0_part66 k0_part67 k0_part68 k0_part69 k0_part70 k0_part71 k0_part72 k0_part73 k0_part74 k0_part75 k0_part76 k0_part77 k0_part78 k0_part79 k0_part80 k0_part81 k0_part82 k0_part83 k0_part84 k0_part85 k0_part86 k0_part87 k0_part88 k0_part89 k0_part90 k0_part91 k0_part92 k0_part93 k0_part94 k0_part95 k0_part96 k0_part97 k0_part98 k0_part99 k0_part100 k0_part101 k0_part102 k0_part103 k0_part104 k0_part105 k0_part106 k0_part107 k0_part108 k0_part109 k0_part110 k0_part111 k0_part112 k0_part113 k0_part114 k0_part115 k0_part116 k0_part117 k0_part118 k0_part119 k0_part120 k0_part121 k0_part122 k0_part123 k0_part124 k0_part125 k0_part126 k0_part127 k0_part128 k0_part129 k0_part130 k0_part131 k0_part132 k0_part133 k0_part134 k0_part135 k0_part136 k0_part137 k0_part138 k0_part139 k0_part140 k0_part141 k0_part142 k0_part143 k0_part144 k0_part145 k0_part146 k0_part147 k0_part148 k0_part149 k0_part150 k0_part151 k0_part152 k0_part153 k0_part154 k0_part155 k0_part156 k0_part157 k0_part158 k0_part159 k0_part160 k0_part161 k0_part162 k0_part163 k0_part164 k0_part165 k0_part166 k0_part167 k0_part168 k0_part169 k0_part170 k0_part171 k0_part172 k0_part173 k0_part174

omit L in
/-- The first counter of the loop lies below eight whatever the tile. -/
theorem first_lt (j : Fin (grid0.bound 1)) : (Scalar.subi (BitVec.ofNat 32 j.val) 2#32).toInt < 8 := by
  revert j
  decide +kernel

theorem p172 (a v0 v2 v3 v21 v23 v26 v28 v31 v33 v36 v38 v39 v42 v60 v62 v65 v67 v70 v72 v75 v77 v78 v79 v83 v84 x y) (hbd : bd = none) (ha : a = BitVec.ofNat 32 (i 1).val) :
    Safe (F := F) c bd H (k0_part172 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 a v0 v2 v3 v21 v23 v26 v28 v31 v33 v36 v38 v39 v42 v60 v62 v65 v67 v70 v72 v75 v77 v78 v79 v83 v84 x y) fun _ => True := by
  rw [k0_part172_eq_skeleton]
  delta k0_part172_skel
  extract_lets e1 e2 e3 e4 e5 e6 e7 e8 jp jq
  have hjp : ∀ r, Safe (F := F) c bd H (jp r) fun _ => True := by
    rintro ⟨_, _, _, _, _, _, _, _, _, _, _, _, _, _, _, _, _, _, _, _, _, _, _, _, _⟩
    refine Safe.seq (Safe.loop _ _ _ _ fun k r => t1 L ..) ?_
    rintro ⟨_, _, _, _, _, _, _, _, _, _, _, _, _, _, _, _⟩
    refine Safe.seq (Safe.loop _ _ _ _ fun k r => t2 L ..) ?_
    rintro ⟨_, _, _, _, _, _, _, _, _, _, _, _, _, _, _, _⟩
    subst hbd ha
    refine Safe.seq (Safe.call 8 (fun u hu => nomatch hu) (while_safe L.b4 L.b9 L.b18 L.b19 L.b20 8 _ _ _ _ _ _ _ _ _ _ _ _ _ _ _ _ _ _ _ (first_lt _) (first_lt _))) ?_
    rintro ⟨_, _, _, _, _, _, _, _, _, _⟩
    refine Safe.seq (Safe.load L.b18) fun _ => ?_
    refine Safe.seq (Safe.load L.b17) fun _ => ?_
    refine Safe.seq (Safe.store L.b17) fun _ => ?_
    refine Safe.seq (Safe.load L.b15) fun _ => ?_
    exact Safe.pure trivial
  clear_value jp
  refine Safe.dcond ?_ ?_ <;> intro k0_h1
  · have hjq : ∀ r, Safe (F := F) c bd H (jq r) fun _ => True := by
      rintro ⟨_, _, _, _, _, _, _, _, _, _, _, _, _, _, _, _, _, _, _, _, _, _, _, _, _⟩
      exact hjp _
    clear_value jq
    refine Safe.dcond ?_ ?_ <;> intro k0_h2
    · skip
      refine Safe.seq (p63 L ..) ?_; rintro ⟨_, _, _, _, _, _, _, _, _, _, _, _, _, _, _, _, _, _, _, _, _, _, _, _, _, _, _, _, _, _, _, _, _, _, _, _, _, _, _, _, _, _, _, _, _, _, _, _, _⟩
      refine Safe.seq (p61 L ..) ?_; rintro ⟨_, _⟩
      refine Safe.seq (p62 L ..) ?_; rintro ⟨_, _, _, _, _⟩
      refine Safe.seq (Safe.load L.b21) fun _ => ?_
      refine Safe.seq (Safe.load L.b21) fun _ => ?_
      refine Safe.seq (Safe.store L.b21) fun _ => ?_
      refine Safe.seq (Safe.load L.b17) fun _ => ?_
      refine Safe.seq (Safe.store L.b17) fun _ => ?_
      exact hjq _
    · skip
      refine Safe.seq (p118 L ..) ?_; rintro ⟨_, _, _, _, _, _, _, _, _, _, _, _, _, _, _, _, _, _, _, _, _, _, _, _, _⟩
      refine Safe.seq (Safe.load L.b17) fun _ => ?_
      refine Safe.seq (Safe.store L.b17) fun _ => ?_
      exact hjq _
  · skip
    refine Safe.seq (p119 L ..) ?_; rintro ⟨_, _, _, _, _, _, _, _, _, _⟩
    refine Safe.seq (p120 L ..) ?_; rintro ⟨_, _, _, _, _, _, _, _, _, _, _, _, _, _, _⟩
    refine Safe.seq (p121 L ..) ?_; rintro ⟨_, _, _, _, _, _, _, _, _⟩
    refine Safe.seq (p122 L ..) ?_; rintro ⟨_, _, _, _, _, _, _⟩
    refine Safe.seq (p123 L ..) ?_; rintro ⟨_, _, _, _, _, _⟩
    refine Safe.seq (p124 L ..) ?_; rintro ⟨_, _, _, _, _⟩
    refine Safe.seq (p125 L ..) ?_; rintro ⟨_, _, _, _⟩
    refine Safe.seq (p126 L ..) ?_; rintro ⟨_, _, _, _, _⟩
    refine Safe.seq (p127 L ..) ?_; rintro ⟨_, _, _, _, _, _⟩
    refine Safe.seq (p128 L ..) ?_; rintro ⟨_, _, _⟩
    refine Safe.seq (p129 L ..) ?_; rintro ⟨_, _, _, _, _, _⟩
    refine Safe.seq (p130 L ..) ?_; rintro ⟨_, _, _, _, _⟩
    refine Safe.seq (p131 L ..) ?_; rintro ⟨_, _, _⟩
    refine Safe.seq (p132 L ..) ?_; rintro ⟨_, _, _, _, _, _, _⟩
    refine Safe.seq (p133 L ..) ?_; rintro ⟨_, _, _, _⟩
    refine Safe.seq (p134 L ..) ?_; rintro ⟨_, _, _, _⟩
    refine Safe.seq (p135 L ..) ?_; rintro ⟨_, _, _, _, _, _, _⟩
    refine Safe.seq (p136 L ..) ?_; rintro ⟨_, _, _⟩
    refine Safe.seq (p137 L ..) ?_; rintro ⟨_, _, _, _⟩
    refine Safe.seq (p138 L ..) ?_; rintro ⟨_, _, _, _, _, _, _⟩
    refine Safe.seq (p139 L ..) ?_; rintro ⟨_, _, _, _⟩
    refine Safe.seq (p140 L ..) ?_; rintro ⟨_, _, _, _⟩
    refine Safe.seq (p141 L ..) ?_; rintro ⟨_, _, _, _, _⟩
    refine Safe.seq (p142 L ..) ?_; rintro ⟨_, _, _, _, _⟩
    refine Safe.seq (p143 L ..) ?_; rintro ⟨_, _, _, _, _⟩
    refine Safe.seq (p144 L ..) ?_; rintro ⟨_, _, _, _, _, _⟩
    refine Safe.seq (p145 L ..) ?_; rintro ⟨_, _, _, _, _, _, _⟩
    refine Safe.seq (p146 L ..) ?_; rintro ⟨_, _, _, _, _⟩
    refine Safe.seq (p147 L ..) ?_; rintro ⟨_, _, _, _, _⟩
    refine Safe.seq (p148 L ..) ?_; rintro ⟨_, _, _, _, _⟩
    refine Safe.seq (p149 L ..) ?_; rintro ⟨_, _, _, _, _⟩
    refine Safe.seq (p150 L ..) ?_; rintro ⟨_, _, _, _, _⟩
    refine Safe.seq (p151 L ..) ?_; rintro ⟨_, _, _, _, _, _⟩
    refine Safe.seq (p152 L ..) ?_; rintro ⟨_, _, _, _, _⟩
    refine Safe.seq (p153 L ..) ?_; rintro ⟨_, _, _, _, _, _⟩
    refine Safe.seq (Safe.load L.b17) fun _ => ?_
    refine Safe.seq (Safe.store L.b17) fun _ => ?_
    exact hjp _

/-- The attention's body runs to its end from its windows and its scratch at any contents. -/
theorem body (hbd : bd = none) : Safe (F := F) c bd H (cc0_attention (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25) fun _ => True := by
  rw [cc0_attention_eq_skeleton]
  delta cc0_attention_skel
  refine Safe.bind (p170 L ..) ?_
  rintro ⟨_, _, _, _, _, _, _, _, _, _, _, _, _, _⟩ ha
  refine Safe.seq (p171 L ..) ?_
  rintro ⟨_, _, _, _, _, _, _, _, _, _, _, _, _, _⟩
  refine Safe.seq (p172 L _ _ _ _ _ _ _ _ _ _ _ _ _ _ _ _ _ _ _ _ _ _ _ _ _ _ _ _ hbd ha) ?_
  rintro ⟨_, _, _, _, _, _, _, _, _⟩
  refine Safe.seq (p173 L ..) ?_
  rintro ⟨_, _, _⟩
  refine Safe.seq (p174 L ..) ?_
  rintro ⟨_, _, _, _⟩
  refine Safe.seq (Safe.load L.b21) fun _ => ?_
  refine Safe.seq (Safe.load L.b16) fun _ => ?_
  refine Safe.seq (Safe.load L.b17) fun _ => ?_
  refine Safe.seq (Safe.store L.b17) fun _ => ?_
  exact Safe.pure trivial

end Cert.Attention

end
-- ==== Proof.Frame.lean ====
module

public import proofs.«01_k».proof.Defs
public import proofs.«01_k».proof.Proof.Body
public import proofs.«01_k».proof.Proof.Gen.Kernel.Launch
public import proofs.«01_k».proof.Proof.Gen.Kernel.Points
public import Idealize.ShloMosaic.Lib.Pipeline.Frame

@[expose] public section

set_option maxRecDepth 65536

noncomputable section

namespace Cert.Attention

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligationLoose cellOf)

variable {F : FTy → Type} [BitOps F]

local notation "𝕄" => MT nD τ sig Unit (Elt F) ℕ (UR sig nD τ) ℕ

/-! ## Taking one buffer out of a row of them -/

section Row
variable {c : Dev nD} {X R : sProp (MT nD τ sig Unit (Elt F) ℕ (UR sig nD τ) ℕ)}
variable {sp : CoreSpace} {s : Shape} {e : EltTy} {M : Memref sig .tc sp s e}

theorem Lends.here : Lends (F := F) c (Held (F := F) c M) M := by
  unfold Lends
  iintro H
  isplitl [H]; · iexact H
  iintro H; iexact H

theorem Lends.head : Lends (F := F) c iprop(Held (F := F) c M ∗ R) M := by
  unfold Lends
  iintro ⟨H, HR⟩
  isplitl [H]; · iexact H
  iintro H
  isplitl [H]; · iexact H
  iexact HR

theorem Lends.tail (h : Lends (F := F) c R M) : Lends (F := F) c iprop(X ∗ R) M := by
  unfold Lends at h ⊢
  iintro ⟨HX, HR⟩
  ihave HR := h $$ HR
  icases HR with ⟨H, Hb⟩
  isplitl [H]; · iexact H
  iintro H
  isplitl [HX]; · iexact HX
  iapply Hb
  iexact H
end Row

/-! ## The body at a point of the grid -/

variable (m : (ℓ : Loc nD τ sig) → Buf (Elt F) ℓ) (ρ : Dev nD → PrngReg)

/-- Core `c`'s buffers when the call is entered: the arguments, and the three reshaped ones. -/
abbrev V (c : Dev nD) (b : Ref sig .tc) : Buf (Elt F) ((c : Thread nD τ).loc b) := StableHlo.after hostOps0 (fun b => m (c, b)) b

/-- No window's contents are named: the body is run from its windows at any contents and leaves them at some. -/
def dats (_ : Fin 1) (c : Dev nD) : Dat τ (Elt F) Unit ℕ (UR sig nD τ) ℕ (cfg0 (F := F)) c where
  A w := V m c (Pipeline.arrRef spec0 w)
  after := Dat.unnamed
  Φ _ := Pipeline.ΦA spec0 c
  q w := Pipeline.shareOf spec0 w
  owed _ := 0

/-- The buffers the body uses at the point `t`. -/
def Row (c : Dev nD) (t : Fin (cfg0 (F := F)).N) : sProp 𝕄 :=
  iprop(Held (F := F) c (win0_0.stage ((cfg0 (F := F)).slots t 0)) ∗
    Held (F := F) c (win0_1.stage ((cfg0 (F := F)).slots t 1)) ∗
    Held (F := F) c (win0_2.stage ((cfg0 (F := F)).slots t 2)) ∗
    Held (F := F) c (win0_3.stage ((cfg0 (F := F)).slots t 3)) ∗
    Held (F := F) c (win0_4.stage ((cfg0 (F := F)).slots t 4)) ∗
    Held (F := F) c (win0_5.stage ((cfg0 (F := F)).slots t 5)) ∗
    Held (F := F) c (win0_6.stage ((cfg0 (F := F)).slots t 6)) ∗
    Held (F := F) c (win0_7.stage ((cfg0 (F := F)).slots t 7)) ∗
    Held (F := F) c (win0_8.stage ((cfg0 (F := F)).slots t 8)) ∗
    Held (F := F) c (win0_9.stage ((cfg0 (F := F)).slots t 9)) ∗
    Held (F := F) c (win0_10.stage ((cfg0 (F := F)).slots t 10)) ∗
    Held (F := F) c (win0_11.stage ((cfg0 (F := F)).slots t 11)) ∗
    Held (F := F) c (win0_12.stage ((cfg0 (F := F)).slots t 12)) ∗
    Held (F := F) c (win0_13.stage ((cfg0 (F := F)).slots t 13)) ∗
    Held (F := F) c (win0_14.stage ((cfg0 (F := F)).slots t 14)) ∗
    Held (F := F) c (win0_15.stage ((cfg0 (F := F)).slots t 15)) ∗
    Held (F := F) c (Memref.whole cc0_scratch0) ∗
    Held (F := F) c (Memref.whole cc0_scratch1) ∗
    Held (F := F) c (Memref.whole cc0_scratch2) ∗
    Held (F := F) c (Memref.whole cc0_scratch3) ∗
    Held (F := F) c (Memref.whole cc0_scratch4) ∗
    Held (F := F) c (Memref.whole cc0_scratch5) ∗
    Held (F := F) c (Memref.whole cc0_scratch6) ∗
    Held (F := F) c (Memref.whole cc0_scratch7))

theorem lent (c : Dev nD) (t : Fin (cfg0 (F := F)).N) : Lent (F := F) c (Row c t)
    (win0_0.stage ((cfg0 (F := F)).slots t 0))
    (win0_1.stage ((cfg0 (F := F)).slots t 1))
    (win0_2.stage ((cfg0 (F := F)).slots t 2))
    (win0_3.stage ((cfg0 (F := F)).slots t 3))
    (win0_4.stage ((cfg0 (F := F)).slots t 4))
    (win0_5.stage ((cfg0 (F := F)).slots t 5))
    (win0_6.stage ((cfg0 (F := F)).slots t 6))
    (win0_7.stage ((cfg0 (F := F)).slots t 7))
    (win0_8.stage ((cfg0 (F := F)).slots t 8))
    (win0_9.stage ((cfg0 (F := F)).slots t 9))
    (win0_10.stage ((cfg0 (F := F)).slots t 10))
    (win0_11.stage ((cfg0 (F := F)).slots t 11))
    (win0_12.stage ((cfg0 (F := F)).slots t 12))
    (win0_13.stage ((cfg0 (F := F)).slots t 13))
    (win0_14.stage ((cfg0 (F := F)).slots t 14))
    (win0_15.stage ((cfg0 (F := F)).slots t 15))
    (Memref.whole cc0_scratch0)
    (Memref.whole cc0_scratch1)
    (Memref.whole cc0_scratch2)
    (Memref.whole cc0_scratch3)
    (Memref.whole cc0_scratch4)
    (Memref.whole cc0_scratch5)
    (Memref.whole cc0_scratch6)
    (Memref.whole cc0_scratch7) := by
  unfold Row
  constructor
  · exact Lends.head
  · exact .tail <| Lends.head
  · exact .tail <| .tail <| Lends.head
  · exact .tail <| .tail <| .tail <| Lends.head
  · exact .tail <| .tail <| .tail <| .tail <| Lends.head
  · exact .tail <| .tail <| .tail <| .tail <| .tail <| Lends.head
  · exact .tail <| .tail <| .tail <| .tail <| .tail <| .tail <| Lends.head
  · exact .tail <| .tail <| .tail <| .tail <| .tail <| .tail <| .tail <| Lends.head
  · exact .tail <| .tail <| .tail <| .tail <| .tail <| .tail <| .tail <| .tail <| Lends.head
  · exact .tail <| .tail <| .tail <| .tail <| .tail <| .tail <| .tail <| .tail <| .tail <| Lends.head
  · exact .tail <| .tail <| .tail <| .tail <| .tail <| .tail <| .tail <| .tail <| .tail <| .tail <| Lends.head
  · exact .tail <| .tail <| .tail <| .tail <| .tail <| .tail <| .tail <| .tail <| .tail <| .tail <| .tail <| Lends.head
  · exact .tail <| .tail <| .tail <| .tail <| .tail <| .tail <| .tail <| .tail <| .tail <| .tail <| .tail <| .tail <| Lends.head
  · exact .tail <| .tail <| .tail <| .tail <| .tail <| .tail <| .tail <| .tail <| .tail <| .tail <| .tail <| .tail <| .tail <| Lends.head
  · exact .tail <| .tail <| .tail <| .tail <| .tail <| .tail <| .tail <| .tail <| .tail <| .tail <| .tail <| .tail <| .tail <| .tail <| Lends.head
  · exact .tail <| .tail <| .tail <| .tail <| .tail <| .tail <| .tail <| .tail <| .tail <| .tail <| .tail <| .tail <| .tail <| .tail <| .tail <| Lends.head
  · exact .tail <| .tail <| .tail <| .tail <| .tail <| .tail <| .tail <| .tail <| .tail <| .tail <| .tail <| .tail <| .tail <| .tail <| .tail <| .tail <| Lends.head
  · exact .tail <| .tail <| .tail <| .tail <| .tail <| .tail <| .tail <| .tail <| .tail <| .tail <| .tail <| .tail <| .tail <| .tail <| .tail <| .tail <| .tail <| Lends.head
  · exact .tail <| .tail <| .tail <| .tail <| .tail <| .tail <| .tail <| .tail <| .tail <| .tail <| .tail <| .tail <| .tail <| .tail <| .tail <| .tail <| .tail <| .tail <| Lends.head
  · exact .tail <| .tail <| .tail <| .tail <| .tail <| .tail <| .tail <| .tail <| .tail <| .tail <| .tail <| .tail <| .tail <| .tail <| .tail <| .tail <| .tail <| .tail <| .tail <| Lends.head
  · exact .tail <| .tail <| .tail <| .tail <| .tail <| .tail <| .tail <| .tail <| .tail <| .tail <| .tail <| .tail <| .tail <| .tail <| .tail <| .tail <| .tail <| .tail <| .tail <| .tail <| Lends.head
  · exact .tail <| .tail <| .tail <| .tail <| .tail <| .tail <| .tail <| .tail <| .tail <| .tail <| .tail <| .tail <| .tail <| .tail <| .tail <| .tail <| .tail <| .tail <| .tail <| .tail <| .tail <| Lends.head
  · exact .tail <| .tail <| .tail <| .tail <| .tail <| .tail <| .tail <| .tail <| .tail <| .tail <| .tail <| .tail <| .tail <| .tail <| .tail <| .tail <| .tail <| .tail <| .tail <| .tail <| .tail <| .tail <| Lends.head
  · exact .tail <| .tail <| .tail <| .tail <| .tail <| .tail <| .tail <| .tail <| .tail <| .tail <| .tail <| .tail <| .tail <| .tail <| .tail <| .tail <| .tail <| .tail <| .tail <| .tail <| .tail <| .tail <| .tail <| Lends.here

theorem stage_eq (c : Dev nD) (w : Fin 16) (s : Fin (spec0 w).nbuf) :
    (iprop(∃ X, owns (c : Thread nD τ) ((spec0 w).stage s) fullShare X) : sProp 𝕄) = Held (F := F) c ((spec0 w).stage s) :=
  (stage_whole0 w s).exists_owns_eq fullShare

attribute [local irreducible] cc0_attention in
/-- The body the grid runs at the point `t`. -/
theorem body_at (t : Fin (cfg0 (F := F)).N) :
    defs₀ (F := F) .tc cfg0.body (cfg0.bodyArgs t (cfg0.slots t)) = cc0_attention (F := F) (grid0.coords t) (win0_0.stage ((cfg0 (F := F)).slots t 0)) (hstage0_0 (((cfg0 (F := F)).slots t 0).cast nbuf0_0)) (win0_1.stage ((cfg0 (F := F)).slots t 1)) (hstage0_1 (((cfg0 (F := F)).slots t 1).cast nbuf0_1)) (win0_2.stage ((cfg0 (F := F)).slots t 2)) (hstage0_2 (((cfg0 (F := F)).slots t 2).cast nbuf0_2)) (win0_3.stage ((cfg0 (F := F)).slots t 3)) (hstage0_3 (((cfg0 (F := F)).slots t 3).cast nbuf0_3)) (win0_4.stage ((cfg0 (F := F)).slots t 4)) (hstage0_4 (((cfg0 (F := F)).slots t 4).cast nbuf0_4)) (win0_5.stage ((cfg0 (F := F)).slots t 5)) (hstage0_5 (((cfg0 (F := F)).slots t 5).cast nbuf0_5)) (win0_6.stage ((cfg0 (F := F)).slots t 6)) (hstage0_6 (((cfg0 (F := F)).slots t 6).cast nbuf0_6)) (win0_7.stage ((cfg0 (F := F)).slots t 7)) (hstage0_7 (((cfg0 (F := F)).slots t 7).cast nbuf0_7)) (win0_8.stage ((cfg0 (F := F)).slots t 8)) (hstage0_8 (((cfg0 (F := F)).slots t 8).cast nbuf0_8)) (win0_9.stage ((cfg0 (F := F)).slots t 9)) (hstage0_9 (((cfg0 (F := F)).slots t 9).cast nbuf0_9)) (win0_10.stage ((cfg0 (F := F)).slots t 10)) (hstage0_10 (((cfg0 (F := F)).slots t 10).cast nbuf0_10)) (win0_11.stage ((cfg0 (F := F)).slots t 11)) (hstage0_11 (((cfg0 (F := F)).slots t 11).cast nbuf0_11)) (win0_12.stage ((cfg0 (F := F)).slots t 12)) (hstage0_12 (((cfg0 (F := F)).slots t 12).cast nbuf0_12)) (win0_13.stage ((cfg0 (F := F)).slots t 13)) (hstage0_13 (((cfg0 (F := F)).slots t 13).cast nbuf0_13)) (win0_14.stage ((cfg0 (F := F)).slots t 14)) (hstage0_14 (((cfg0 (F := F)).slots t 14).cast nbuf0_14)) (win0_15.stage ((cfg0 (F := F)).slots t 15)) (hstage0_15 (((cfg0 (F := F)).slots t 15).cast nbuf0_15)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) := rfl

/-- From its row of buffers at any contents the body runs to its end at every point. -/
theorem body_safe (c : Dev nD) (t : Fin (cfg0 (F := F)).N) :
    Safe (F := F) c none (Row c t) (cc0_attention (F := F) (grid0.coords t) (win0_0.stage ((cfg0 (F := F)).slots t 0)) (hstage0_0 (((cfg0 (F := F)).slots t 0).cast nbuf0_0)) (win0_1.stage ((cfg0 (F := F)).slots t 1)) (hstage0_1 (((cfg0 (F := F)).slots t 1).cast nbuf0_1)) (win0_2.stage ((cfg0 (F := F)).slots t 2)) (hstage0_2 (((cfg0 (F := F)).slots t 2).cast nbuf0_2)) (win0_3.stage ((cfg0 (F := F)).slots t 3)) (hstage0_3 (((cfg0 (F := F)).slots t 3).cast nbuf0_3)) (win0_4.stage ((cfg0 (F := F)).slots t 4)) (hstage0_4 (((cfg0 (F := F)).slots t 4).cast nbuf0_4)) (win0_5.stage ((cfg0 (F := F)).slots t 5)) (hstage0_5 (((cfg0 (F := F)).slots t 5).cast nbuf0_5)) (win0_6.stage ((cfg0 (F := F)).slots t 6)) (hstage0_6 (((cfg0 (F := F)).slots t 6).cast nbuf0_6)) (win0_7.stage ((cfg0 (F := F)).slots t 7)) (hstage0_7 (((cfg0 (F := F)).slots t 7).cast nbuf0_7)) (win0_8.stage ((cfg0 (F := F)).slots t 8)) (hstage0_8 (((cfg0 (F := F)).slots t 8).cast nbuf0_8)) (win0_9.stage ((cfg0 (F := F)).slots t 9)) (hstage0_9 (((cfg0 (F := F)).slots t 9).cast nbuf0_9)) (win0_10.stage ((cfg0 (F := F)).slots t 10)) (hstage0_10 (((cfg0 (F := F)).slots t 10).cast nbuf0_10)) (win0_11.stage ((cfg0 (F := F)).slots t 11)) (hstage0_11 (((cfg0 (F := F)).slots t 11).cast nbuf0_11)) (win0_12.stage ((cfg0 (F := F)).slots t 12)) (hstage0_12 (((cfg0 (F := F)).slots t 12).cast nbuf0_12)) (win0_13.stage ((cfg0 (F := F)).slots t 13)) (hstage0_13 (((cfg0 (F := F)).slots t 13).cast nbuf0_13)) (win0_14.stage ((cfg0 (F := F)).slots t 14)) (hstage0_14 (((cfg0 (F := F)).slots t 14).cast nbuf0_14)) (win0_15.stage ((cfg0 (F := F)).slots t 15)) (hstage0_15 (((cfg0 (F := F)).slots t 15).cast nbuf0_15)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _)) fun _ => True :=
  body (lent (F := F) c t) rfl

theorem Safe.wp_of {α : Type} {c : Dev nD} {bd : Option ℕ} {H : sProp (MT nD τ sig Unit (Elt F) ℕ (UR sig nD τ) ℕ)}
    {p : Prog (TpuEff nD τ sig (Elt F) (Λ₀ F) .tc) α} (h : Safe (F := F) c bd H p fun _ => True) (K : α → sProp 𝕄) :
    iprop(H ∗ ∀ r, H -∗ K r) ⊢ wp frame (wpE (defs₀ (F := F)) Variants.nat (c : Thread nD τ) bd) Set.univ p K := by
  unfold Safe at h
  refine BIBase.Entails.trans ?_ (h K)
  iintro ⟨HR, HK⟩
  isplitl [HR]; · iexact HR
  iintro %r
  iintro %hr
  iapply HK

attribute [local irreducible] cc0_attention Row in
/-- The same of the body as the grid names it. -/
theorem body_row (c : Dev nD) (t : Fin (cfg0 (F := F)).N) :
    Safe (F := F) c none (Row c t) (defs₀ (F := F) .tc cfg0.body (cfg0.bodyArgs t (cfg0.slots t))) fun _ => True := by
  rw [body_at]
  exact body_safe c t

/-- The windows at the point `t`, each at some contents. -/
def Wins (c : Dev nD) (t : Fin (cfg0 (F := F)).N) : sProp 𝕄 :=
  bigSep Finset.univ fun w : Fin 16 => iprop(∃ X, owns (c : Thread nD τ) ((spec0 w).stage ((cfg0 (F := F)).slots t w)) fullShare X)

theorem wins_eq (c : Dev nD) (t : Fin (cfg0 (F := F)).N) :
    Wins (F := F) c t = bigSep Finset.univ fun w : Fin 16 => Held (F := F) c ((spec0 w).stage ((cfg0 (F := F)).slots t w)) := by
  unfold Wins
  exact bigSep_congr fun w _ => stage_eq c w _

theorem rest_eq (c : Dev nD) : (Pipeline.scopedRest spec0 c : sProp 𝕄)
    = iprop(Held (F := F) c (Memref.whole cc0_scratch0) ∗ Held (F := F) c (Memref.whole cc0_scratch1) ∗ Held (F := F) c (Memref.whole cc0_scratch2) ∗ Held (F := F) c (Memref.whole cc0_scratch3) ∗ Held (F := F) c (Memref.whole cc0_scratch4) ∗ Held (F := F) c (Memref.whole cc0_scratch5) ∗ Held (F := F) c (Memref.whole cc0_scratch6) ∗ Held (F := F) c (Memref.whole cc0_scratch7)) :=
  scopedRest0_eq c

/-- The windows and the scratch buffers make the row. -/
theorem row_in (c : Dev nD) (t : Fin (cfg0 (F := F)).N) :
    iprop(Pipeline.scopedRest spec0 c ∗ Wins (F := F) c t) ⊢ Row (F := F) c t := by
  rw [wins_eq, bigSep_W0, rest_eq]
  unfold Row
  iintro ⟨⟨s0, s1, s2, s3, s4, s5, s6, s7⟩, w0, w1, w2, w3, w4, w5, w6, w7, w8, w9, w10, w11, w12, w13, w14, w15⟩
  isplitl [w0]; · iexact w0
  isplitl [w1]; · iexact w1
  isplitl [w2]; · iexact w2
  isplitl [w3]; · iexact w3
  isplitl [w4]; · iexact w4
  isplitl [w5]; · iexact w5
  isplitl [w6]; · iexact w6
  isplitl [w7]; · iexact w7
  isplitl [w8]; · iexact w8
  isplitl [w9]; · iexact w9
  isplitl [w10]; · iexact w10
  isplitl [w11]; · iexact w11
  isplitl [w12]; · iexact w12
  isplitl [w13]; · iexact w13
  isplitl [w14]; · iexact w14
  isplitl [w15]; · iexact w15
  isplitl [s0]; · iexact s0
  isplitl [s1]; · iexact s1
  isplitl [s2]; · iexact s2
  isplitl [s3]; · iexact s3
  isplitl [s4]; · iexact s4
  isplitl [s5]; · iexact s5
  isplitl [s6]; · iexact s6
  iexact s7

/-- The row gives the windows and the scratch buffers back. -/
theorem row_out (c : Dev nD) (t : Fin (cfg0 (F := F)).N) :
    Row (F := F) c t ⊢ iprop(Pipeline.scopedRest spec0 c ∗ Wins (F := F) c t) := by
  rw [wins_eq, bigSep_W0, rest_eq]
  unfold Row
  iintro ⟨w0, w1, w2, w3, w4, w5, w6, w7, w8, w9, w10, w11, w12, w13, w14, w15, s0, s1, s2, s3, s4, s5, s6, s7⟩
  isplitl [s0 s1 s2 s3 s4 s5 s6 s7]
  · isplitl [s0]; · iexact s0
    isplitl [s1]; · iexact s1
    isplitl [s2]; · iexact s2
    isplitl [s3]; · iexact s3
    isplitl [s4]; · iexact s4
    isplitl [s5]; · iexact s5
    isplitl [s6]; · iexact s6
    iexact s7
  isplitl [w0]; · iexact w0
  isplitl [w1]; · iexact w1
  isplitl [w2]; · iexact w2
  isplitl [w3]; · iexact w3
  isplitl [w4]; · iexact w4
  isplitl [w5]; · iexact w5
  isplitl [w6]; · iexact w6
  isplitl [w7]; · iexact w7
  isplitl [w8]; · iexact w8
  isplitl [w9]; · iexact w9
  isplitl [w10]; · iexact w10
  isplitl [w11]; · iexact w11
  isplitl [w12]; · iexact w12
  isplitl [w13]; · iexact w13
  isplitl [w14]; · iexact w14
  iexact w15

attribute [local irreducible] cc0_attention Row defs₀ in
/-- At every point the body runs from its windows and scratch at any contents and leaves them at some. -/
theorem body_obligation (c : Dev nD) :
    BodyObligationLoose (dats (F := F) m 0 c) (defs₀ (F := F)) Variants.nat () Set.univ (fun _ => true) := fun t => by
  have h : iprop(Pipeline.ΦA spec0 c ∗ (dats (F := F) m 0 c).owesAt () t.castSucc ∗ Wins (F := F) c t)
      ⊢ wp frame (wpE (defs₀ (F := F)) Variants.nat (c : Thread nD τ) none) Set.univ (defs₀ (F := F) .tc cfg0.body (cfg0.bodyArgs t (cfg0.slots t)))
        fun _ => iprop(Pipeline.ΦA spec0 c ∗ (dats (F := F) m 0 c).owesAt () t.castSucc ∗ Wins (F := F) c t) := by
    refine BIBase.Entails.trans ?_ ((body_row c t).wp_of _)
    unfold Pipeline.ΦA
    iintro ⟨⟨HS, HP⟩, HO, HW⟩
    isplitl [HS HW]
    · iapply (row_in c t)
      isplitl [HS]; · iexact HS
      iexact HW
    iintro %r
    iintro HR
    ihave HR := (row_out c t) $$ HR
    icases HR with ⟨HS, HW⟩
    isplitl [HS HP]
    · isplitl [HS]; · iexact HS
      iexact HP
    isplitl [HO]; · iexact HO
    iexact HW
  exact h

/-! ## The arguments when the call is entered -/

theorem V_arg0 (c : Dev nD) : V (F := F) m c main_arg0 = m ((c : Thread nD τ).loc main_arg0) :=
  StableHlo.after_of_forall_not_mem (b := Proc.devRef .tc main_arg0) _ _ (List.forall_iff_forall_mem.mp (by
    simp only [hostOps0, List.Forall, StableHlo.reshape_writes, Finset.mem_singleton]
    repeat' apply And.intro
    all_goals exact StableHlo.devRef_ne_of_ne (by decide)))

theorem V_arg1 (c : Dev nD) : V (F := F) m c main_arg1 = m ((c : Thread nD τ).loc main_arg1) :=
  StableHlo.after_of_forall_not_mem (b := Proc.devRef .tc main_arg1) _ _ (List.forall_iff_forall_mem.mp (by
    simp only [hostOps0, List.Forall, StableHlo.reshape_writes, Finset.mem_singleton]
    repeat' apply And.intro
    all_goals exact StableHlo.devRef_ne_of_ne (by decide)))

theorem V_arg2 (c : Dev nD) : V (F := F) m c main_arg2 = m ((c : Thread nD τ).loc main_arg2) :=
  StableHlo.after_of_forall_not_mem (b := Proc.devRef .tc main_arg2) _ _ (List.forall_iff_forall_mem.mp (by
    simp only [hostOps0, List.Forall, StableHlo.reshape_writes, Finset.mem_singleton]
    repeat' apply And.intro
    all_goals exact StableHlo.devRef_ne_of_ne (by decide)))

theorem V_arg3 (c : Dev nD) : V (F := F) m c main_arg3 = m ((c : Thread nD τ).loc main_arg3) :=
  StableHlo.after_of_forall_not_mem (b := Proc.devRef .tc main_arg3) _ _ (List.forall_iff_forall_mem.mp (by
    simp only [hostOps0, List.Forall, StableHlo.reshape_writes, Finset.mem_singleton]
    repeat' apply And.intro
    all_goals exact StableHlo.devRef_ne_of_ne (by decide)))

theorem V_arg4 (c : Dev nD) : V (F := F) m c main_arg4 = m ((c : Thread nD τ).loc main_arg4) :=
  StableHlo.after_of_forall_not_mem (b := Proc.devRef .tc main_arg4) _ _ (List.forall_iff_forall_mem.mp (by
    simp only [hostOps0, List.Forall, StableHlo.reshape_writes, Finset.mem_singleton]
    repeat' apply And.intro
    all_goals exact StableHlo.devRef_ne_of_ne (by decide)))

theorem V_arg5 (c : Dev nD) : V (F := F) m c main_arg5 = m ((c : Thread nD τ).loc main_arg5) :=
  StableHlo.after_of_forall_not_mem (b := Proc.devRef .tc main_arg5) _ _ (List.forall_iff_forall_mem.mp (by
    simp only [hostOps0, List.Forall, StableHlo.reshape_writes, Finset.mem_singleton]
    repeat' apply And.intro
    all_goals exact StableHlo.devRef_ne_of_ne (by decide)))

theorem V_arg6 (c : Dev nD) : V (F := F) m c main_arg6 = m ((c : Thread nD τ).loc main_arg6) :=
  StableHlo.after_of_forall_not_mem (b := Proc.devRef .tc main_arg6) _ _ (List.forall_iff_forall_mem.mp (by
    simp only [hostOps0, List.Forall, StableHlo.reshape_writes, Finset.mem_singleton]
    repeat' apply And.intro
    all_goals exact StableHlo.devRef_ne_of_ne (by decide)))

theorem V_arg7 (c : Dev nD) : V (F := F) m c main_arg7 = m ((c : Thread nD τ).loc main_arg7) :=
  StableHlo.after_of_forall_not_mem (b := Proc.devRef .tc main_arg7) _ _ (List.forall_iff_forall_mem.mp (by
    simp only [hostOps0, List.Forall, StableHlo.reshape_writes, Finset.mem_singleton]
    repeat' apply And.intro
    all_goals exact StableHlo.devRef_ne_of_ne (by decide)))

theorem V_arg8 (c : Dev nD) : V (F := F) m c main_arg8 = m ((c : Thread nD τ).loc main_arg8) :=
  StableHlo.after_of_forall_not_mem (b := Proc.devRef .tc main_arg8) _ _ (List.forall_iff_forall_mem.mp (by
    simp only [hostOps0, List.Forall, StableHlo.reshape_writes, Finset.mem_singleton]
    repeat' apply And.intro
    all_goals exact StableHlo.devRef_ne_of_ne (by decide)))

theorem hostOps0_fresh : (hostOps0 (F := F)).Forall fun op => op.fresh = ∅ := by
  simp only [List.Forall]; repeat' constructor

set_option maxHeartbeats 800000 in
theorem hmain : Pipeline.HMain (Ix := Unit) (Name := ℕ) (U := UR sig nD τ) (Lvl := ℕ) cfgs 0 defs₀ Variants.nat m (main (F := F)) (V m) :=
  Pipeline.hmain_prefix cfgs 0 defs₀ Variants.nat m main hostOps0 hostOps0_sub hostOps0_fresh main_chain

theorem rest0 : main_arg0 ∈ Pipeline.restRefs sig spec0 := Pipeline.mem_restRefs_of main_arg0 (by decide) (by decide)

theorem rest1 : main_arg1 ∈ Pipeline.restRefs sig spec0 := Pipeline.mem_restRefs_of main_arg1 (by decide) (by decide)

theorem rest8 : main_arg8 ∈ Pipeline.restRefs sig spec0 := Pipeline.mem_restRefs_of main_arg8 (by decide) (by decide)

/-! ## The run -/

attribute [local irreducible] cc0_attention Row defs₀ in
/-- The program runs to its end, its arguments are as they were, and every semaphore is back at zero. -/
theorem run : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8))
      ∧ r.2.sem = fun _ => 0) :=
  Pipeline.θ_run_frame_forget_shared cfgs (dats m) 0 launch₀0 defs₀ Variants.nat (fun _ => true) m ρ main
    (fun c => body_obligation m c) (fun _ _ _ => rfl) (fun _ _ => rfl) (V m) (hmain m) (fun _ _ => rfl) (fun _ _ => rfl) _
    (fun r h => ⟨fun c => ⟨((h.1 c).2 main_arg0 rest0).trans (V_arg0 m c),
      ((h.1 c).2 main_arg1 rest1).trans (V_arg1 m c),
      (h.1.arr_in c 7 rfl).trans (V_arg2 m c),
      (h.1.arr_in c 10 rfl).trans (V_arg3 m c),
      (h.1.arr_in c 11 rfl).trans (V_arg4 m c),
      (h.1.arr_in c 12 rfl).trans (V_arg5 m c),
      (h.1.arr_in c 0 rfl).trans (V_arg6 m c),
      (h.1.arr_in c 13 rfl).trans (V_arg7 m c),
      ((h.1 c).2 main_arg8 rest8).trans (V_arg8 m c)⟩, h.2⟩)

end Cert.Attention

end
-- ==== Proof.Sums.lean ====
module

public import Idealize.ShloMosaic.Lib.Pointwise
public import Idealize.ShloMosaic.Lib.IdealHost

/-! What a feed-forward layer computes for one token, over the extended reals, and the sums cut into pieces. -/

@[expose] public section

noncomputable section

namespace Cert.Rows

open Idealize.ShloMosaic

/-- A token's row, divided by its root mean square and scaled channel by channel. -/
def rms (x g : Fin 1024 → EReal) (k : Fin 1024) : EReal :=
  x k * Ideal.rsqrt (Ideal.div (∑ i, x i * x i) (Ideal.ofBits .f32 1149239296#32) + Ideal.ofBits .f32 897988541#32) * g k

/-- One hidden channel: the gate's projection, times its logistic, times the other projection. -/
def act (h : Fin 1024 → EReal) (wg wu : Fin 1024 → EReal) : EReal :=
  (∑ k, h k * wg k) * Ideal.div 1 (1 + Ideal.exp (-∑ k, h k * wg k)) * ∑ k, h k * wu k

/-- One output channel of the layer: the residual, plus half of the hidden channels projected back. -/
def ffn (x g : Fin 1024 → EReal) (wg wu : Fin 1024 → Fin 2816 → EReal) (o : Fin 2816 → EReal) (r : EReal) : EReal :=
  r + Ideal.ofBits .f32 1056964608#32 * ∑ f, act (rms x g) (fun k => wg k f) (fun k => wu k f) * o f

theorem half_eq : Ideal.ofBits .f32 1056964608#32 = (((1 : ℝ) / 2 : ℝ) : EReal) := by
  simp [Ideal.ofBits, Ideal.ieee, -EReal.coe_mul]; norm_num

theorem half_nonneg : (0 : EReal) ≤ Ideal.ofBits .f32 1056964608#32 :=
  half_eq ▸ EReal.coe_nonneg.mpr (by norm_num)

theorem half_ne_top : Ideal.ofBits .f32 1056964608#32 ≠ (⊤ : EReal) :=
  half_eq ▸ EReal.coe_ne_top _

theorem half_add (a b : EReal) : Ideal.ofBits .f32 1056964608#32 * (a + b)
    = Ideal.ofBits .f32 1056964608#32 * a + Ideal.ofBits .f32 1056964608#32 * b :=
  EReal.left_distrib_of_nonneg_of_ne_top half_nonneg half_ne_top a b

/-- A sum over 2816 channels in pieces of 768, 768, 768 and 512. -/
theorem sum_chunks (f : Fin 2816 → EReal) :
    ∑ i, f i = (∑ i : Fin 768, f ⟨i.1, by omega⟩) + (∑ i : Fin 768, f ⟨768 + i.1, by omega⟩)
      + (∑ i : Fin 768, f ⟨1536 + i.1, by omega⟩) + ∑ i : Fin 512, f ⟨2304 + i.1, by omega⟩ := by
  have e := Fin.sum_univ_add (a := 2304) (b := 512) f
  have e2 := Fin.sum_univ_add (a := 1536) (b := 768) fun i => f (Fin.castAdd 512 i)
  have e3 := Fin.sum_univ_add (a := 768) (b := 768) fun i => f (Fin.castAdd 512 (Fin.castAdd 768 i))
  exact (e.trans (congrArg (· + _) (e2.trans (congrArg (· + _) e3))))

/-- `act` with the negation as a difference from zero. -/
def act0 (h : Fin 1024 → EReal) (wg wu : Fin 1024 → EReal) : EReal :=
  (∑ k, h k * wg k) * Ideal.div 1 (1 + Ideal.exp (0 - ∑ k, h k * wg k)) * ∑ k, h k * wu k

theorem act0_eq (h wg wu : Fin 1024 → EReal) : act0 h wg wu = act h wg wu := by
  simp only [act0, act, zero_sub]

/-- `ffn` summed up piece by piece. -/
theorem ffn_chunks (x g : Fin 1024 → EReal) (wg wu : Fin 1024 → Fin 2816 → EReal) (o : Fin 2816 → EReal) (r : EReal) :
    r + Ideal.ofBits .f32 1056964608#32 * (∑ i : Fin 768,
          act0 (rms x g) (fun k => wg k ⟨i.1, by omega⟩) (fun k => wu k ⟨i.1, by omega⟩) * o ⟨i.1, by omega⟩)
        + Ideal.ofBits .f32 1056964608#32 * (∑ i : Fin 768,
          act0 (rms x g) (fun k => wg k ⟨768 + i.1, by omega⟩) (fun k => wu k ⟨768 + i.1, by omega⟩) * o ⟨768 + i.1, by omega⟩)
        + Ideal.ofBits .f32 1056964608#32 * (∑ i : Fin 768,
          act0 (rms x g) (fun k => wg k ⟨1536 + i.1, by omega⟩) (fun k => wu k ⟨1536 + i.1, by omega⟩) * o ⟨1536 + i.1, by omega⟩)
        + Ideal.ofBits .f32 1056964608#32 * (∑ i : Fin 512,
          act0 (rms x g) (fun k => wg k ⟨2304 + i.1, by omega⟩) (fun k => wu k ⟨2304 + i.1, by omega⟩) * o ⟨2304 + i.1, by omega⟩)
      = ffn x g wg wu o r := by
  unfold ffn
  rw [sum_chunks]
  simp only [half_add, act0_eq, add_assoc]

/-- A sum over 2816 channels in pieces of 1536 and 1280. -/
theorem sum_two (f : Fin 2816 → EReal) :
    ∑ i, f i = (∑ i : Fin 1536, f ⟨i.1, by omega⟩) + ∑ i : Fin 1280, f ⟨1536 + i.1, by omega⟩ :=
  Fin.sum_univ_add (a := 1536) (b := 1280) f

/-- `ffn` summed up in two pieces. -/
theorem ffn_two (x g : Fin 1024 → EReal) (wg wu : Fin 1024 → Fin 2816 → EReal) (o : Fin 2816 → EReal) (r : EReal) :
    r + Ideal.ofBits .f32 1056964608#32 * (∑ i : Fin 1536,
          act0 (rms x g) (fun k => wg k ⟨i.1, by omega⟩) (fun k => wu k ⟨i.1, by omega⟩) * o ⟨i.1, by omega⟩)
        + Ideal.ofBits .f32 1056964608#32 * (∑ i : Fin 1280,
          act0 (rms x g) (fun k => wg k ⟨1536 + i.1, by omega⟩) (fun k => wu k ⟨1536 + i.1, by omega⟩) * o ⟨1536 + i.1, by omega⟩)
      = ffn x g wg wu o r := by
  unfold ffn
  rw [sum_two]
  simp only [half_add, act0_eq, add_assoc]

/-- One channel of a gated branch: the logistic of the gate times the branch's row projected. -/
def gated (g : EReal) (o w : Fin 512 → EReal) : EReal := Ideal.div 1 (1 + Ideal.exp (-g)) * ∑ k, o k * w k

/-- `gated` with the negation as a difference from zero. -/
def gated0 (g : EReal) (o w : Fin 512 → EReal) : EReal := Ideal.div 1 (1 + Ideal.exp (0 - g)) * ∑ k, o k * w k

theorem gated0_eq (g : EReal) (o w : Fin 512 → EReal) : gated0 g o w = gated g o w := by
  simp only [gated0, gated, zero_sub]

/-- One channel after the mixer: the residual, plus the three gated branches' sum projected. -/
def mixed (g1 g2 g3 : Fin 1024 → EReal) (o1 o2 o3 : Fin 512 → EReal) (w1 w2 w3 : Fin 512 → Fin 1024 → EReal)
    (wo : Fin 1024 → EReal) (r : EReal) : EReal :=
  r + ∑ d, (gated (g1 d) o1 (fun k => w1 k d) + gated (g2 d) o2 (fun k => w2 k d) + gated (g3 d) o3 (fun k => w3 k d)) * wo d

theorem mixed0 (g1 g2 g3 : Fin 1024 → EReal) (o1 o2 o3 : Fin 512 → EReal) (w1 w2 w3 : Fin 512 → Fin 1024 → EReal)
    (wo : Fin 1024 → EReal) (r : EReal) :
    r + ∑ d, (gated0 (g1 d) o1 (fun k => w1 k d) + gated0 (g2 d) o2 (fun k => w2 k d) + gated0 (g3 d) o3 (fun k => w3 k d)) * wo d
      = mixed g1 g2 g3 o1 o2 o3 w1 w2 w3 wo r := by
  simp only [gated0_eq, mixed]

/-- One channel of a projected row divided by the root mean square of its block of 256, weighed by `gm`, and scaled. -/
def normed (y : Fin 1792 → EReal) (gm : Fin 256 → Fin 256 → EReal) (g : Fin 1792 → EReal) (b : Fin 1792) : EReal :=
  y b * Ideal.rsqrt ((∑ q : Fin 256, y ⟨b.1 / 256 * 256 + q.1, by omega⟩ * y ⟨b.1 / 256 * 256 + q.1, by omega⟩
    * gm q ⟨b.1 % 256, by omega⟩) + Ideal.ofBits .f32 897988541#32) * g b

theorem normed_at (y : Fin 1792 → EReal) (gm : Fin 256 → Fin 256 → EReal) (g : Fin 1792 → EReal) (o : ℕ)
    (h : o + 256 ≤ 1792) (ho : o % 256 = 0) (x : Fin 256) :
    y ⟨o + x.1, by omega⟩ * Ideal.rsqrt ((∑ q : Fin 256, y ⟨o + q.1, by omega⟩ * y ⟨o + q.1, by omega⟩ * gm q x)
      + Ideal.ofBits .f32 897988541#32) * g ⟨o + x.1, by omega⟩ = normed y gm g ⟨o + x.1, by omega⟩ := by
  have e : (o + x.1) / 256 * 256 = o := by omega
  have e' : (⟨(o + x.1) % 256, by omega⟩ : Fin 256) = x := Fin.ext (by simp only; omega)
  simp only [normed, e, e']

theorem normed_zero (y : Fin 1792 → EReal) (gm : Fin 256 → Fin 256 → EReal) (g : Fin 1792 → EReal) (x : Fin 256) :
    y ⟨x.1, by omega⟩ * Ideal.rsqrt ((∑ q : Fin 256, y ⟨q.1, by omega⟩ * y ⟨q.1, by omega⟩ * gm q x)
      + Ideal.ofBits .f32 897988541#32) * g ⟨x.1, by omega⟩ = normed y gm g ⟨x.1, by omega⟩ := by
  have := normed_at y gm g 0 (by omega) rfl x
  simpa only [zero_add] using this

/-- The sequence that row `r` of the flattened activations belongs to. -/
abbrev seqOf (r : Fin 32768) : Fin 16 := ⟨r.1 / 2048, by omega⟩

/-- The position of row `r` in its sequence. -/
abbrev posOf (r : Fin 32768) : Fin 2048 := ⟨r.1 % 2048, by omega⟩

end Cert.Rows
-- ==== Proof.Ffn.lean ====
module

public import proofs.«01_k».proof.Defs
public import proofs.«01_k».proof.Proof.Gen.Kernel2Ideal.Value
public import proofs.«01_k».proof.Proof.Gen.Reference2Ideal.Run
public import Idealize.ShloMosaic.Lib.Pointwise
public import Idealize.ShloMosaic.Lib.Claim
public import Idealize.ShloMosaic.Lib.Tactic.CleanTypes
public import proofs.«01_k».proof.Proof.Sums
public import Idealize.ShloMosaic.Lib.Pipeline.ValueKit

@[expose] public section

set_option maxRecDepth 16384

noncomputable section

namespace Cert.Ffn

open Cert.Kernel2Ideal Cert.Kernel2Ideal.Gen Idealize.ShloMosaic Idealize.ShloMosaic.TcCoe Idealize.SL.Sem

/-- What one grid point writes, at row `j 0` of its tile and channel `j 1`. -/
theorem out_at (x : Vec Ideal S1024x1024 .f32) (g : Vec Ideal S1x1024 .f32) (wg wu : Vec Ideal S1x1024x2816 .bf16)
    (o : Vec Ideal S1x2816x1024 .bf16) (j : S1024x1024.Idx) :
    out0_5 x g wg wu o j = Rows.ffn (fun k => x (ix2 (j 0) k)) (fun k => g (ix2 0 k)) (fun k f => wg (ix3 0 k f))
      (fun k f => wu (ix3 0 k f)) (fun f => o (ix3 0 f (j 1))) (x j) := by
  unfold_out out0_5
  frame_out
  pointwise [k0_pay1, k0_pay2, k0_pay3, k0_pay4, k0_pay5, k0_pay6, k0_pay7, k0_pay8]
  exact Rows.ffn_chunks (fun k => x (ix2 (j 0) k)) (fun k => g (ix2 0 k)) (fun k f => wg (ix3 0 k f)) (fun k f => wu (ix3 0 k f)) (fun f => o (ix3 0 f (j 1))) (x j)

/-- The array that the launch leaves, at row `j 0` and channel `j 1`. -/
def G (m : (ℓ : Loc nD τ sig) → Buf (Elt Ideal) ℓ) (c : Dev nD) : Vec Ideal S32768x1024 .f32 := fun j =>
  Rows.ffn (fun k => m ((c : Thread nD τ).loc main_arg0) (ix3 (Rows.seqOf (j 0)) (Rows.posOf (j 0)) k))
    (fun k => m ((c : Thread nD τ).loc main_arg1) (ix2 0 k))
    (fun k f => m ((c : Thread nD τ).loc main_arg2) (ix3 0 k ⟨f.1, by omega⟩))
    (fun k f => m ((c : Thread nD τ).loc main_arg2) (ix3 0 k ⟨2816 + f.1, by omega⟩))
    (fun f => m ((c : Thread nD τ).loc main_arg3) (ix3 0 f (j 1)))
    (m ((c : Thread nD τ).loc main_arg0) (ix3 (Rows.seqOf (j 0)) (Rows.posOf (j 0)) (j 1)))

theorem e0 : ∀ t : Fin cfg0.N, win0_0.index t = ![(grid0.coords t 0).val, 0] := (by decide +kernel : ∀ t : Fin grid0.N, _)
theorem e1 : ∀ t : Fin cfg0.N, win0_1.index t = ![0, 0] := (by decide +kernel : ∀ t : Fin grid0.N, _)
theorem e2 : ∀ t : Fin cfg0.N, win0_2.index t = ![0, 0, 0] := (by decide +kernel : ∀ t : Fin grid0.N, _)
theorem e3 : ∀ t : Fin cfg0.N, win0_3.index t = ![0, 0, 1] := (by decide +kernel : ∀ t : Fin grid0.N, _)
theorem e4 : ∀ t : Fin cfg0.N, win0_4.index t = ![0, 0, 0] := (by decide +kernel : ∀ t : Fin grid0.N, _)
theorem e5 : ∀ t : Fin cfg0.N, win0_5.index t = ![(grid0.coords t 0).val, 0] := (by decide +kernel : ∀ t : Fin grid0.N, _)

theorem row_val (t : Fin cfg0.N) (y : ((cfg0.win 5).xblock (cfg0.grid.coords t)).Idx) :
    (((win0_5.blk t).view.emb y 0 : Fin 32768) : ℕ) = (grid0.coords t 0).val * 1024 + (y 0).val := by
  blk_simp [e5 t]

theorem arr_eq (m : (ℓ : Loc nD τ sig) → Buf (Elt Ideal) ℓ) (c : Dev nD) :
    (dats m 0 c).arrAt 5 cfg0.N = G m c := by
  refine (dats m 0 c).arrAt_eq_of_covers 5 _ (by decide +kernel) fun t hf y => ?_
  blk_simp
  rw [after0_5, out_at]
  unfold G
  congr 1
  · funext k; blk_ext! [iblk, V, e0 t, e5 t]
    · exact congrArg (· / 2048) (row_val t y).symm
    · exact congrArg (· % 2048) (row_val t y).symm
  · funext k; blk_ext! [iblk, V, e1 t, e5 t]
  · funext k f; blk_ext! [iblk, V, e2 t, e5 t]
  · funext k f; blk_ext! [iblk, V, e3 t, e5 t]
  · funext f; blk_ext! [iblk, V, e4 t, e5 t]
  · blk_ext! [iblk, V, e0 t, e5 t]
    · exact congrArg (· / 2048) (row_val t y).symm
    · exact congrArg (· % 2048) (row_val t y).symm

/-- The reference's result, at row `j 0` and channel `j 1`. -/
theorem res_at (m : (ℓ : Loc Reference2Ideal.nD Reference2Ideal.τ Reference2Ideal.sig) → Buf (Elt Ideal) ℓ)
    (c : Dev Reference2Ideal.nD) (j : S32768x1024.Idx) :
    Reference2Ideal.Value.res_out0 m c j = Rows.ffn
      (fun k => m ((c.tc : Thread Reference2Ideal.nD Reference2Ideal.τ).loc Reference2Ideal.main_arg0) (ix3 (Rows.seqOf (j 0)) (Rows.posOf (j 0)) k))
      (fun k => m ((c.tc : Thread Reference2Ideal.nD Reference2Ideal.τ).loc Reference2Ideal.main_arg1) (ix2 0 k))
      (fun k f => m ((c.tc : Thread Reference2Ideal.nD Reference2Ideal.τ).loc Reference2Ideal.main_arg2) (ix3 0 k ⟨f.1, by omega⟩))
      (fun k f => m ((c.tc : Thread Reference2Ideal.nD Reference2Ideal.τ).loc Reference2Ideal.main_arg2) (ix3 0 k ⟨2816 + f.1, by omega⟩))
      (fun f => m ((c.tc : Thread Reference2Ideal.nD Reference2Ideal.τ).loc Reference2Ideal.main_arg3) (ix3 0 f (j 1)))
      (m ((c.tc : Thread Reference2Ideal.nD Reference2Ideal.τ).loc Reference2Ideal.main_arg0) (ix3 (Rows.seqOf (j 0)) (Rows.posOf (j 0)) (j 1))) := by
  unfold Reference2Ideal.Value.res_out0 Reference2Ideal.Value.res_main_v28
  clean_types
  pointwise
  rfl

theorem algebraic [Kernel2Ideal.Facts] [Reference2Ideal.Facts] : algebraic_Kernel2Ideal_Reference2Ideal := by
  intro m ρ m' ρ' _ hagree
  refine ⟨fun c => G m c, (θ_run _ _ _).mono (fun r h c => ?_) (Kernel2Ideal.Value.run_blocks m ρ),
    (θ_run _ _ _).mono (fun r h c => ?_) (Reference2Ideal.Value.run m' ρ')⟩
  · obtain ⟨h0, h1⟩ := h c
    exact ⟨h0.trans (arr_eq m c), h1⟩
  · obtain ⟨h0, h1⟩ := h c
    refine ⟨h0.trans (funext fun j => (res_at m' c j).trans ?_), h1⟩
    simp only [hagree c]
    rfl

end Cert.Ffn
-- ==== Proof.MergeFfn.lean ====
module

public import proofs.«01_k».proof.Defs
public import proofs.«01_k».proof.Proof.Gen.Kernel3Ideal.Value
public import proofs.«01_k».proof.Proof.Gen.Reference3Ideal.Run
public import Idealize.ShloMosaic.Lib.Pointwise
public import Idealize.ShloMosaic.Lib.Claim
public import Idealize.ShloMosaic.Lib.Tactic.CleanTypes
public import proofs.«01_k».proof.Proof.Sums
public import Idealize.ShloMosaic.Lib.Pipeline.ValueKit

@[expose] public section

set_option maxRecDepth 16384

noncomputable section

namespace Cert.MergeFfn

open Cert.Kernel3Ideal Cert.Kernel3Ideal.Gen Idealize.ShloMosaic Idealize.ShloMosaic.TcCoe Idealize.SL.Sem

/-- The residual stream after the mixer, in one tile. -/
theorem mid_at (x : Vec Ideal S512x1024 .f32) (o1 o2 o3 : Vec Ideal S512x512 .bf16) (g1 g2 g3 : Vec Ideal S512x1024 .bf16)
    (w1 w2 w3 : Vec Ideal S1x512x1024 .bf16) (wo : Vec Ideal S1x1024x1024 .bf16) (j : S512x1024.Idx) :
    k0_pay5 (k0_pay2 g1 o1 w1 g2 o2 w2) (k0_pay3 g3) k0_pay4 o3 w3 x wo j
      = Rows.mixed (fun d => g1 (ix2 (j 0) d)) (fun d => g2 (ix2 (j 0) d)) (fun d => g3 (ix2 (j 0) d))
          (fun k => o1 (ix2 (j 0) k)) (fun k => o2 (ix2 (j 0) k)) (fun k => o3 (ix2 (j 0) k))
          (fun k d => w1 (ix3 0 k d)) (fun k d => w2 (ix3 0 k d)) (fun k d => w3 (ix3 0 k d))
          (fun d => wo (ix3 0 d (j 1))) (x j) := by
  refine Eq.trans ?_ (Rows.mixed0 ..)
  pointwise [k0_pay2, k0_pay3, k0_pay4, k0_pay5]
  rfl

/-- The normalized rows that the feed-forward block starts from. -/
theorem norm_at (a b c : FVec Ideal S512x1024 .f32) (o : Vec Ideal S512x512 .bf16) (w : Vec Ideal S1x512x1024 .bf16)
    (x : Vec Ideal S512x1024 .f32) (wo : Vec Ideal S1x1024x1024 .bf16) (g : Vec Ideal S1x1024 .f32) (r : Fin 512) (k : Fin 1024) :
    k0_pay6 a b c o w x wo g (ix2 r k)
      = Rows.rms (fun k => k0_pay5 a b c o w x wo (ix2 r k)) (fun k => g (ix2 0 k)) k := by
  unfold k0_pay6
  generalize k0_pay5 a b c o w x wo = v
  pointwise
  rfl

/-- The block after its normalization, in one tile. -/
theorem tail_at (v : FVec Ideal S512x1024 .f32) (h : FVec Ideal S512x1024 .bf16) (wg wu : Vec Ideal S1x1024x2816 .bf16)
    (o : Vec Ideal S1x2816x1024 .bf16) (x g : Fin 1024 → EReal) (j : S512x1024.Idx) (e : ∀ k, h (ix2 (j 0) k) = Rows.rms x g k) :
    k0_pay1 (k0_pay8 v h (k0_pay7 (View.ld wg r0_5)) (constant S512x1536 .f32 0x00000000#32) (View.ld wu r0_5) (View.ld o r0_6))
        (k0_pay9 h (View.ld wg r0_7) (View.ld wu r0_7)) (View.ld o r0_8) j
      = Rows.ffn x g (fun k f => wg (ix3 0 k f)) (fun k f => wu (ix3 0 k f)) (fun f => o (ix3 0 f (j 1))) (v j) := by
  refine Eq.trans ?_ (Rows.ffn_two ..)
  simp only [Rows.act0, ← e]
  pointwise [k0_pay1, k0_pay7, k0_pay8, k0_pay9]

/-- What one grid point writes, at row `j 0` of its tile and channel `j 1`. -/
theorem out_at (x : Vec Ideal S512x1024 .f32) (o1 o2 o3 : Vec Ideal S512x512 .bf16) (g1 g2 g3 : Vec Ideal S512x1024 .bf16)
    (w1 w2 w3 : Vec Ideal S1x512x1024 .bf16) (wo : Vec Ideal S1x1024x1024 .bf16) (g : Vec Ideal S1x1024 .f32)
    (wg wu : Vec Ideal S1x1024x2816 .bf16) (o : Vec Ideal S1x2816x1024 .bf16) (j : S512x1024.Idx) :
    out0_15 x o1 o2 o3 g1 g2 g3 w1 w2 w3 wo g wg wu o j = Rows.ffn
      (fun c => Rows.mixed (fun d => g1 (ix2 (j 0) d)) (fun d => g2 (ix2 (j 0) d)) (fun d => g3 (ix2 (j 0) d))
          (fun k => o1 (ix2 (j 0) k)) (fun k => o2 (ix2 (j 0) k)) (fun k => o3 (ix2 (j 0) k))
          (fun k d => w1 (ix3 0 k d)) (fun k d => w2 (ix3 0 k d)) (fun k d => w3 (ix3 0 k d))
          (fun d => wo (ix3 0 d c)) (x (ix2 (j 0) c)))
      (fun k => g (ix2 0 k)) (fun k f => wg (ix3 0 k f))
      (fun k f => wu (ix3 0 k f)) (fun f => o (ix3 0 f (j 1)))
      (Rows.mixed (fun d => g1 (ix2 (j 0) d)) (fun d => g2 (ix2 (j 0) d)) (fun d => g3 (ix2 (j 0) d))
          (fun k => o1 (ix2 (j 0) k)) (fun k => o2 (ix2 (j 0) k)) (fun k => o3 (ix2 (j 0) k))
          (fun k d => w1 (ix3 0 k d)) (fun k d => w2 (ix3 0 k d)) (fun k d => w3 (ix3 0 k d))
          (fun d => wo (ix3 0 d (j 1))) (x j)) := by
  unfold_out out0_15
  frame_out
  refine (tail_at _ _ wg wu o _ _ j fun k => norm_at _ _ _ _ _ _ _ _ _ _).trans ?_
  simp only [mid_at]
  rfl

/-- The array that the launch leaves, at row `j 0` and channel `j 1`. -/
def G (m : (ℓ : Loc nD τ sig) → Buf (Elt Ideal) ℓ) (c : Dev nD) : Vec Ideal S32768x1024 .f32 := fun j =>
  Rows.ffn
    (fun c' => (Rows.mixed
      (fun d => m ((c : Thread nD τ).loc main_arg2) (ix2 (j 0) ⟨1024 + d.1, by omega⟩)) (fun d => m ((c : Thread nD τ).loc main_arg2) (ix2 (j 0) ⟨2048 + d.1, by omega⟩))
      (fun d => m ((c : Thread nD τ).loc main_arg2) (ix2 (j 0) ⟨3072 + d.1, by omega⟩))
      (fun k => m ((c : Thread nD τ).loc main_arg1) (ix3 (Rows.seqOf (j 0)) (Rows.posOf (j 0)) ⟨k.1, by omega⟩))
      (fun k => m ((c : Thread nD τ).loc main_arg1) (ix3 (Rows.seqOf (j 0)) (Rows.posOf (j 0)) ⟨512 + k.1, by omega⟩))
      (fun k => m ((c : Thread nD τ).loc main_arg1) (ix3 (Rows.seqOf (j 0)) (Rows.posOf (j 0)) ⟨1024 + k.1, by omega⟩))
      (fun k d => m ((c : Thread nD τ).loc main_arg3) (ix3 1 k d)) (fun k d => m ((c : Thread nD τ).loc main_arg4) (ix3 1 k d)) (fun k d => m ((c : Thread nD τ).loc main_arg5) (ix3 1 k d))
      (fun d => m ((c : Thread nD τ).loc main_arg6) (ix3 1 d c')) (m ((c : Thread nD τ).loc main_arg0) (ix3 (Rows.seqOf (j 0)) (Rows.posOf (j 0)) c'))))
    (fun k => m ((c : Thread nD τ).loc main_arg7) (ix2 1 k)) (fun k f => m ((c : Thread nD τ).loc main_arg8) (ix3 1 k ⟨f.1, by omega⟩))
    (fun k f => m ((c : Thread nD τ).loc main_arg8) (ix3 1 k ⟨2816 + f.1, by omega⟩)) (fun f => m ((c : Thread nD τ).loc main_arg9) (ix3 1 f (j 1)))
    (Rows.mixed
      (fun d => m ((c : Thread nD τ).loc main_arg2) (ix2 (j 0) ⟨1024 + d.1, by omega⟩)) (fun d => m ((c : Thread nD τ).loc main_arg2) (ix2 (j 0) ⟨2048 + d.1, by omega⟩))
      (fun d => m ((c : Thread nD τ).loc main_arg2) (ix2 (j 0) ⟨3072 + d.1, by omega⟩))
      (fun k => m ((c : Thread nD τ).loc main_arg1) (ix3 (Rows.seqOf (j 0)) (Rows.posOf (j 0)) ⟨k.1, by omega⟩))
      (fun k => m ((c : Thread nD τ).loc main_arg1) (ix3 (Rows.seqOf (j 0)) (Rows.posOf (j 0)) ⟨512 + k.1, by omega⟩))
      (fun k => m ((c : Thread nD τ).loc main_arg1) (ix3 (Rows.seqOf (j 0)) (Rows.posOf (j 0)) ⟨1024 + k.1, by omega⟩))
      (fun k d => m ((c : Thread nD τ).loc main_arg3) (ix3 1 k d)) (fun k d => m ((c : Thread nD τ).loc main_arg4) (ix3 1 k d)) (fun k d => m ((c : Thread nD τ).loc main_arg5) (ix3 1 k d))
      (fun d => m ((c : Thread nD τ).loc main_arg6) (ix3 1 d (j 1))) (m ((c : Thread nD τ).loc main_arg0) (ix3 (Rows.seqOf (j 0)) (Rows.posOf (j 0)) (j 1))))

theorem e0 : ∀ t : Fin cfg0.N, win0_0.index t = ![(grid0.coords t 0).val, 0] := (by decide +kernel : ∀ t : Fin grid0.N, _)
theorem e1 : ∀ t : Fin cfg0.N, win0_1.index t = ![(grid0.coords t 0).val, 0] := (by decide +kernel : ∀ t : Fin grid0.N, _)
theorem e2 : ∀ t : Fin cfg0.N, win0_2.index t = ![(grid0.coords t 0).val, 1] := (by decide +kernel : ∀ t : Fin grid0.N, _)
theorem e3 : ∀ t : Fin cfg0.N, win0_3.index t = ![(grid0.coords t 0).val, 2] := (by decide +kernel : ∀ t : Fin grid0.N, _)
theorem e4 : ∀ t : Fin cfg0.N, win0_4.index t = ![(grid0.coords t 0).val, 1] := (by decide +kernel : ∀ t : Fin grid0.N, _)
theorem e5 : ∀ t : Fin cfg0.N, win0_5.index t = ![(grid0.coords t 0).val, 2] := (by decide +kernel : ∀ t : Fin grid0.N, _)
theorem e6 : ∀ t : Fin cfg0.N, win0_6.index t = ![(grid0.coords t 0).val, 3] := (by decide +kernel : ∀ t : Fin grid0.N, _)
theorem e7 : ∀ t : Fin cfg0.N, win0_7.index t = ![1, 0, 0] := (by decide +kernel : ∀ t : Fin grid0.N, _)
theorem e8 : ∀ t : Fin cfg0.N, win0_8.index t = ![1, 0, 0] := (by decide +kernel : ∀ t : Fin grid0.N, _)
theorem e9 : ∀ t : Fin cfg0.N, win0_9.index t = ![1, 0, 0] := (by decide +kernel : ∀ t : Fin grid0.N, _)
theorem e10 : ∀ t : Fin cfg0.N, win0_10.index t = ![1, 0, 0] := (by decide +kernel : ∀ t : Fin grid0.N, _)
theorem e11 : ∀ t : Fin cfg0.N, win0_11.index t = ![0, 0] := (by decide +kernel : ∀ t : Fin grid0.N, _)
theorem e12 : ∀ t : Fin cfg0.N, win0_12.index t = ![1, 0, 0] := (by decide +kernel : ∀ t : Fin grid0.N, _)
theorem e13 : ∀ t : Fin cfg0.N, win0_13.index t = ![1, 0, 1] := (by decide +kernel : ∀ t : Fin grid0.N, _)
theorem e14 : ∀ t : Fin cfg0.N, win0_14.index t = ![1, 0, 0] := (by decide +kernel : ∀ t : Fin grid0.N, _)
theorem e15 : ∀ t : Fin cfg0.N, win0_15.index t = ![(grid0.coords t 0).val, 0] := (by decide +kernel : ∀ t : Fin grid0.N, _)

theorem row_val (t : Fin cfg0.N) (y : ((cfg0.win 15).xblock (cfg0.grid.coords t)).Idx) :
    (((win0_15.blk t).view.emb y 0 : Fin 32768) : ℕ) = (grid0.coords t 0).val * 512 + (y 0).val := by
  blk_simp [e15 t]

set_option maxHeartbeats 8000000 in
theorem arr_eq (m : (ℓ : Loc nD τ sig) → Buf (Elt Ideal) ℓ) (c : Dev nD) :
    (dats m 0 c).arrAt 15 cfg0.N = G m c := by
  refine (dats m 0 c).arrAt_eq_of_covers 15 _ (by decide +kernel) fun t hf y => ?_
  blk_simp
  rw [after0_15, out_at]
  unfold G
  congr 1
  · funext c'
    congr 1
    · funext d; blk_ext! [iblk, V, e4 t, e15 t]
    · funext d; blk_ext! [iblk, V, e5 t, e15 t]
    · funext d; blk_ext! [iblk, V, e6 t, e15 t]
    · funext k; blk_ext! [iblk, V, e1 t, e15 t]
      · exact congrArg (· / 2048) (row_val t y).symm
      · exact congrArg (· % 2048) (row_val t y).symm
    · funext k; blk_ext! [iblk, V, e2 t, e15 t]
      · exact congrArg (· / 2048) (row_val t y).symm
      · exact congrArg (· % 2048) (row_val t y).symm
    · funext k; blk_ext! [iblk, V, e3 t, e15 t]
      · exact congrArg (· / 2048) (row_val t y).symm
      · exact congrArg (· % 2048) (row_val t y).symm
    · funext k d; blk_ext! [iblk, V, e7 t, e15 t]
    · funext k d; blk_ext! [iblk, V, e8 t, e15 t]
    · funext k d; blk_ext! [iblk, V, e9 t, e15 t]
    · funext d; blk_ext! [iblk, V, e10 t, e15 t]
    · blk_ext! [iblk, V, e0 t, e15 t]
      · exact congrArg (· / 2048) (row_val t y).symm
      · exact congrArg (· % 2048) (row_val t y).symm
  · funext k; blk_ext! [iblk, V, e11 t, e15 t]
  · funext k f; blk_ext! [iblk, V, e12 t, e15 t]
  · funext k f; blk_ext! [iblk, V, e13 t, e15 t]
  · funext f; blk_ext! [iblk, V, e14 t, e15 t]
  · congr 1
    · funext d; blk_ext! [iblk, V, e4 t, e15 t]
    · funext d; blk_ext! [iblk, V, e5 t, e15 t]
    · funext d; blk_ext! [iblk, V, e6 t, e15 t]
    · funext k; blk_ext! [iblk, V, e1 t, e15 t]
      · exact congrArg (· / 2048) (row_val t y).symm
      · exact congrArg (· % 2048) (row_val t y).symm
    · funext k; blk_ext! [iblk, V, e2 t, e15 t]
      · exact congrArg (· / 2048) (row_val t y).symm
      · exact congrArg (· % 2048) (row_val t y).symm
    · funext k; blk_ext! [iblk, V, e3 t, e15 t]
      · exact congrArg (· / 2048) (row_val t y).symm
      · exact congrArg (· % 2048) (row_val t y).symm
    · funext k d; blk_ext! [iblk, V, e7 t, e15 t]
    · funext k d; blk_ext! [iblk, V, e8 t, e15 t]
    · funext k d; blk_ext! [iblk, V, e9 t, e15 t]
    · funext d; blk_ext! [iblk, V, e10 t, e15 t]
    · blk_ext! [iblk, V, e0 t, e15 t]
      · exact congrArg (· / 2048) (row_val t y).symm
      · exact congrArg (· % 2048) (row_val t y).symm

/-- The reference's result, at row `j 0` and channel `j 1`. -/
theorem res_at (m : (ℓ : Loc Reference3Ideal.nD Reference3Ideal.τ Reference3Ideal.sig) → Buf (Elt Ideal) ℓ)
    (c : Dev Reference3Ideal.nD) (j : S32768x1024.Idx) :
    Reference3Ideal.Value.res_out0 m c j = Rows.ffn
    (fun c' => (Rows.mixed
      (fun d => m ((c.tc : Thread Reference3Ideal.nD Reference3Ideal.τ).loc Reference3Ideal.main_arg2) (ix2 (j 0) ⟨1024 + d.1, by omega⟩)) (fun d => m ((c.tc : Thread Reference3Ideal.nD Reference3Ideal.τ).loc Reference3Ideal.main_arg2) (ix2 (j 0) ⟨2048 + d.1, by omega⟩))
      (fun d => m ((c.tc : Thread Reference3Ideal.nD Reference3Ideal.τ).loc Reference3Ideal.main_arg2) (ix2 (j 0) ⟨3072 + d.1, by omega⟩))
      (fun k => m ((c.tc : Thread Reference3Ideal.nD Reference3Ideal.τ).loc Reference3Ideal.main_arg1) (ix3 (Rows.seqOf (j 0)) (Rows.posOf (j 0)) ⟨k.1, by omega⟩))
      (fun k => m ((c.tc : Thread Reference3Ideal.nD Reference3Ideal.τ).loc Reference3Ideal.main_arg1) (ix3 (Rows.seqOf (j 0)) (Rows.posOf (j 0)) ⟨512 + k.1, by omega⟩))
      (fun k => m ((c.tc : Thread Reference3Ideal.nD Reference3Ideal.τ).loc Reference3Ideal.main_arg1) (ix3 (Rows.seqOf (j 0)) (Rows.posOf (j 0)) ⟨1024 + k.1, by omega⟩))
      (fun k d => m ((c.tc : Thread Reference3Ideal.nD Reference3Ideal.τ).loc Reference3Ideal.main_arg3) (ix3 1 k d)) (fun k d => m ((c.tc : Thread Reference3Ideal.nD Reference3Ideal.τ).loc Reference3Ideal.main_arg4) (ix3 1 k d)) (fun k d => m ((c.tc : Thread Reference3Ideal.nD Reference3Ideal.τ).loc Reference3Ideal.main_arg5) (ix3 1 k d))
      (fun d => m ((c.tc : Thread Reference3Ideal.nD Reference3Ideal.τ).loc Reference3Ideal.main_arg6) (ix3 1 d c')) (m ((c.tc : Thread Reference3Ideal.nD Reference3Ideal.τ).loc Reference3Ideal.main_arg0) (ix3 (Rows.seqOf (j 0)) (Rows.posOf (j 0)) c'))))
    (fun k => m ((c.tc : Thread Reference3Ideal.nD Reference3Ideal.τ).loc Reference3Ideal.main_arg7) (ix2 1 k)) (fun k f => m ((c.tc : Thread Reference3Ideal.nD Reference3Ideal.τ).loc Reference3Ideal.main_arg8) (ix3 1 k ⟨f.1, by omega⟩))
    (fun k f => m ((c.tc : Thread Reference3Ideal.nD Reference3Ideal.τ).loc Reference3Ideal.main_arg8) (ix3 1 k ⟨2816 + f.1, by omega⟩)) (fun f => m ((c.tc : Thread Reference3Ideal.nD Reference3Ideal.τ).loc Reference3Ideal.main_arg9) (ix3 1 f (j 1)))
    (Rows.mixed
      (fun d => m ((c.tc : Thread Reference3Ideal.nD Reference3Ideal.τ).loc Reference3Ideal.main_arg2) (ix2 (j 0) ⟨1024 + d.1, by omega⟩)) (fun d => m ((c.tc : Thread Reference3Ideal.nD Reference3Ideal.τ).loc Reference3Ideal.main_arg2) (ix2 (j 0) ⟨2048 + d.1, by omega⟩))
      (fun d => m ((c.tc : Thread Reference3Ideal.nD Reference3Ideal.τ).loc Reference3Ideal.main_arg2) (ix2 (j 0) ⟨3072 + d.1, by omega⟩))
      (fun k => m ((c.tc : Thread Reference3Ideal.nD Reference3Ideal.τ).loc Reference3Ideal.main_arg1) (ix3 (Rows.seqOf (j 0)) (Rows.posOf (j 0)) ⟨k.1, by omega⟩))
      (fun k => m ((c.tc : Thread Reference3Ideal.nD Reference3Ideal.τ).loc Reference3Ideal.main_arg1) (ix3 (Rows.seqOf (j 0)) (Rows.posOf (j 0)) ⟨512 + k.1, by omega⟩))
      (fun k => m ((c.tc : Thread Reference3Ideal.nD Reference3Ideal.τ).loc Reference3Ideal.main_arg1) (ix3 (Rows.seqOf (j 0)) (Rows.posOf (j 0)) ⟨1024 + k.1, by omega⟩))
      (fun k d => m ((c.tc : Thread Reference3Ideal.nD Reference3Ideal.τ).loc Reference3Ideal.main_arg3) (ix3 1 k d)) (fun k d => m ((c.tc : Thread Reference3Ideal.nD Reference3Ideal.τ).loc Reference3Ideal.main_arg4) (ix3 1 k d)) (fun k d => m ((c.tc : Thread Reference3Ideal.nD Reference3Ideal.τ).loc Reference3Ideal.main_arg5) (ix3 1 k d))
      (fun d => m ((c.tc : Thread Reference3Ideal.nD Reference3Ideal.τ).loc Reference3Ideal.main_arg6) (ix3 1 d (j 1))) (m ((c.tc : Thread Reference3Ideal.nD Reference3Ideal.τ).loc Reference3Ideal.main_arg0) (ix3 (Rows.seqOf (j 0)) (Rows.posOf (j 0)) (j 1)))) := by
  unfold Reference3Ideal.Value.res_out0 Reference3Ideal.Value.res_main_v74
  clean_types
  pointwise
  rfl

theorem algebraic [Kernel3Ideal.Facts] [Reference3Ideal.Facts] : algebraic_Kernel3Ideal_Reference3Ideal := by
  intro m ρ m' ρ' _ hagree
  refine ⟨fun c => G m c, (θ_run _ _ _).mono (fun r h c => ?_) (Kernel3Ideal.Value.run_blocks m ρ),
    (θ_run _ _ _).mono (fun r h c => ?_) (Reference3Ideal.Value.run m' ρ')⟩
  · obtain ⟨h0, h1⟩ := h c
    exact ⟨h0.trans (arr_eq m c), h1⟩
  · obtain ⟨h0, h1⟩ := h c
    refine ⟨h0.trans (funext fun j => (res_at m' c j).trans ?_), h1⟩
    simp only [hagree c]
    rfl

end Cert.MergeFfn
-- ==== Proof.Proj.lean ====
module

public import proofs.«01_k».proof.Defs
public import proofs.«01_k».proof.Proof.Gen.Kernel4Ideal.Value
public import proofs.«01_k».proof.Proof.Gen.Reference4Ideal.Run
public import Idealize.ShloMosaic.Lib.Pointwise
public import Idealize.ShloMosaic.Lib.Claim
public import Idealize.ShloMosaic.Lib.Tactic.CleanTypes
public import proofs.«01_k».proof.Proof.Sums
public import Idealize.ShloMosaic.Lib.Pipeline.ValueKit

@[expose] public section

set_option maxRecDepth 16384

noncomputable section

namespace Cert.Proj

open Cert.Kernel4Ideal Cert.Kernel4Ideal.Gen Idealize.ShloMosaic Idealize.ShloMosaic.TcCoe Idealize.SL.Sem

/-- The normalized rows that every projection starts from. -/
theorem norm_at (x : Vec Ideal S512x1024 .f32) (g : Vec Ideal S1x1024 .f32) (r : Fin 512) (k : Fin 1024) :
    k0_pay3 x g (ix2 r k) = Rows.rms (fun k => x (ix2 r k)) (fun k => g (ix2 0 k)) k := by
  pointwise [k0_pay3]
  rfl

/-- A tile of the first output: gate and stick-breaking channels. -/
theorem p1_at (m : (ℓ : Loc nD τ sig) → Buf (Elt Ideal) ℓ) (c : Dev nD) (t : Fin cfg0.N) (r : Fin 512) (d : Fin 4096) :
    (outsAt0 m c t).1 (ix2 r d) = ∑ k, Rows.rms (fun k => iblk m c 0 t (ix2 r k)) (fun k => iblk m c 1 t (ix2 0 k)) k
      * iblk m c 2 t (ix3 0 k d) := by
  unfold outsAt0
  frame_out
  generalize iblk m c 0 t = x0
  generalize iblk m c 1 t = x1
  generalize iblk m c 2 t = x2
  canon_tiles x h
  all_goals obtain rfl : r = x 0 := Fin.ext h0
  · obtain rfl : d = ⟨3584 + (x 1).1, lt_of_lt_of_le (Nat.add_lt_add_left x1_lt 3584) (by decide)⟩ := Fin.ext h1
    pointwise [k0_pay3, k0_pay11]
    rfl
  · obtain rfl : d = ⟨3072 + (x 1).1, lt_of_lt_of_le (Nat.add_lt_add_left x1_lt 3072) (by decide)⟩ := Fin.ext h1
    pointwise [k0_pay3, k0_pay10]
    rfl
  · obtain rfl : d = ⟨2560 + (x 1).1, lt_of_lt_of_le (Nat.add_lt_add_left x1_lt 2560) (by decide)⟩ := Fin.ext h1
    pointwise [k0_pay3, k0_pay9]
    rfl
  · obtain rfl : d = ⟨2048 + (x 1).1, lt_of_lt_of_le (Nat.add_lt_add_left x1_lt 2048) (by decide)⟩ := Fin.ext h1
    pointwise [k0_pay3, k0_pay8]
    rfl
  · obtain rfl : d = ⟨1536 + (x 1).1, lt_of_lt_of_le (Nat.add_lt_add_left x1_lt 1536) (by decide)⟩ := Fin.ext h1
    pointwise [k0_pay3, k0_pay7]
    rfl
  · obtain rfl : d = ⟨1024 + (x 1).1, lt_of_lt_of_le (Nat.add_lt_add_left x1_lt 1024) (by decide)⟩ := Fin.ext h1
    pointwise [k0_pay3, k0_pay6]
    rfl
  · obtain rfl : d = ⟨512 + (x 1).1, lt_of_lt_of_le (Nat.add_lt_add_left x1_lt 512) (by decide)⟩ := Fin.ext h1
    pointwise [k0_pay3, k0_pay5]
    rfl
  · obtain rfl : d = ⟨(x 1).1, lt_of_lt_of_le x1_lt (by decide)⟩ := Fin.ext h1
    pointwise [k0_pay3, k0_pay4]
    rfl

/-- The second output's channels before their norm. -/
theorem y_at (h : FVec Ideal S512x1024 .bf16) (w : Vec Ideal S1x1024x1792 .bf16) (r : Fin 512) (d : Fin 1792) :
    k0_pay12 h w (ix2 r d) = ∑ k, h (ix2 r k) * w (ix3 0 k d) := by
  pointwise [k0_pay12]

/-- A tile of the second output: queries and keys of the two softmax branches, with their norm. -/
theorem p2_at (m : (ℓ : Loc nD τ sig) → Buf (Elt Ideal) ℓ) (c : Dev nD) (t : Fin cfg0.N) (r : Fin 512) (d : Fin 1792) :
    (outsAt0 m c t).2.1 (ix2 r d) = Rows.normed
      (fun d => ∑ k, Rows.rms (fun k => iblk m c 0 t (ix2 r k)) (fun k => iblk m c 1 t (ix2 0 k)) k * iblk m c 3 t (ix3 0 k d))
      (fun q s => iblk m c 5 t (ix2 q s)) (fun d => iblk m c 4 t (ix2 0 d)) d := by
  unfold outsAt0
  frame_out
  simp only [← norm_at, ← y_at]
  generalize iblk m c 4 t = x4
  generalize iblk m c 5 t = x5
  simp only [k0_pay13, k0_pay14, k0_pay15, k0_pay16]
  generalize k0_pay12 (k0_pay3 (iblk m c 0 t) (iblk m c 1 t)) (iblk m c 3 t) = v
  canon_tiles x h
  all_goals obtain rfl : r = x 0 := Fin.ext h0
  · obtain rfl : d = ⟨1536 + (x 1).1, lt_of_lt_of_le (Nat.add_lt_add_left x1_lt 1536) (by decide)⟩ := Fin.ext h1
    refine Eq.trans ?_ (Rows.normed_at _ _ _ 1536 (by omega) rfl (x 1))
    pointwise [k0_pay23]
    try rfl
  · obtain rfl : d = ⟨1280 + (x 1).1, lt_of_lt_of_le (Nat.add_lt_add_left x1_lt 1280) (by decide)⟩ := Fin.ext h1
    refine Eq.trans ?_ (Rows.normed_at _ _ _ 1280 (by omega) rfl (x 1))
    pointwise [k0_pay22]
    try rfl
  · obtain rfl : d = ⟨1024 + (x 1).1, lt_of_lt_of_le (Nat.add_lt_add_left x1_lt 1024) (by decide)⟩ := Fin.ext h1
    refine Eq.trans ?_ (Rows.normed_at _ _ _ 1024 (by omega) rfl (x 1))
    pointwise [k0_pay21, k0_pay19, k0_pay20]
    try rfl
  · obtain rfl : d = ⟨768 + (x 1).1, lt_of_lt_of_le (Nat.add_lt_add_left x1_lt 768) (by decide)⟩ := Fin.ext h1
    refine Eq.trans ?_ (Rows.normed_at _ _ _ 768 (by omega) rfl (x 1))
    pointwise [k0_pay18]
    try rfl
  · obtain rfl : d = ⟨512 + (x 1).1, lt_of_lt_of_le (Nat.add_lt_add_left x1_lt 512) (by decide)⟩ := Fin.ext h1
    refine Eq.trans ?_ (Rows.normed_at _ _ _ 512 (by omega) rfl (x 1))
    pointwise [k0_pay17]
    try rfl
  · obtain rfl : d = ⟨256 + (x 1).1, lt_of_lt_of_le (Nat.add_lt_add_left x1_lt 256) (by decide)⟩ := Fin.ext h1
    refine Eq.trans ?_ (Rows.normed_at _ _ _ 256 (by omega) rfl (x 1))
    pointwise []
    try rfl
  · obtain rfl : d = ⟨(x 1).1, lt_of_lt_of_le x1_lt (by decide)⟩ := Fin.ext h1
    refine Eq.trans ?_ (Rows.normed_zero _ _ _ (x 1))
    pointwise
    try rfl

/-- A tile of the third output: the values, positions along the last axis. -/
theorem p3_at (m : (ℓ : Loc nD τ sig) → Buf (Elt Ideal) ℓ) (c : Dev nD) (t : Fin cfg0.N) (s : Fin 2) (d : Fin 1152) (q : Fin 256) :
    (outsAt0 m c t).2.2 (ix3 s d q) = ∑ k, Rows.rms (fun k => iblk m c 0 t (ix2 ⟨s.1 * 256 + q.1, by omega⟩ k))
      (fun k => iblk m c 1 t (ix2 0 k)) k * iblk m c 6 t (ix3 0 k d) := by
  unfold outsAt0
  frame_out
  simp only [← norm_at]
  generalize iblk m c 6 t = x6
  generalize k0_pay3 (iblk m c 0 t) (iblk m c 1 t) = v
  canon_tiles x h using View.cover_of_tiledBy _ ![1, 128, 256] (by sl_kernel_rfl) _
  all_goals obtain rfl : q = x 2 := Fin.ext h2
  · obtain rfl : d = ⟨1024 + (x 1).1, lt_of_lt_of_le (Nat.add_lt_add_left x1_lt 1024) (by decide)⟩ := Fin.ext h1
    obtain rfl : s = 1 := Fin.ext (show s.1 = 1 by have e : s.1 = 1 + (x 0).1 := h0; omega)
    pointwise [k0_pay2, k0_pay37]
  · obtain rfl : d = ⟨1024 + (x 1).1, lt_of_lt_of_le (Nat.add_lt_add_left x1_lt 1024) (by decide)⟩ := Fin.ext h1
    obtain rfl : s = 0 := Fin.ext (show s.1 = 0 by have e : s.1 = (x 0).1 := h0; omega)
    pointwise [k0_pay1, k0_pay38, k0_pay37]
  · obtain rfl : d = ⟨768 + (x 1).1, lt_of_lt_of_le (Nat.add_lt_add_left x1_lt 768) (by decide)⟩ := Fin.ext h1
    obtain rfl : s = 1 := Fin.ext (show s.1 = 1 by have e : s.1 = 1 + (x 0).1 := h0; omega)
    pointwise [k0_pay36, k0_pay34]
  · obtain rfl : d = ⟨768 + (x 1).1, lt_of_lt_of_le (Nat.add_lt_add_left x1_lt 768) (by decide)⟩ := Fin.ext h1
    obtain rfl : s = 0 := Fin.ext (show s.1 = 0 by have e : s.1 = (x 0).1 := h0; omega)
    pointwise [k0_pay35, k0_pay34]
  · obtain rfl : d = ⟨512 + (x 1).1, lt_of_lt_of_le (Nat.add_lt_add_left x1_lt 512) (by decide)⟩ := Fin.ext h1
    obtain rfl : s = 1 := Fin.ext (show s.1 = 1 by have e : s.1 = 1 + (x 0).1 := h0; omega)
    pointwise [k0_pay33, k0_pay31, k0_pay30]
  · obtain rfl : d = ⟨512 + (x 1).1, lt_of_lt_of_le (Nat.add_lt_add_left x1_lt 512) (by decide)⟩ := Fin.ext h1
    obtain rfl : s = 0 := Fin.ext (show s.1 = 0 by have e : s.1 = (x 0).1 := h0; omega)
    pointwise [k0_pay32, k0_pay31, k0_pay30]
  · obtain rfl : d = ⟨256 + (x 1).1, lt_of_lt_of_le (Nat.add_lt_add_left x1_lt 256) (by decide)⟩ := Fin.ext h1
    obtain rfl : s = 1 := Fin.ext (show s.1 = 1 by have e : s.1 = 1 + (x 0).1 := h0; omega)
    pointwise [k0_pay29, k0_pay27]
  · obtain rfl : d = ⟨256 + (x 1).1, lt_of_lt_of_le (Nat.add_lt_add_left x1_lt 256) (by decide)⟩ := Fin.ext h1
    obtain rfl : s = 0 := Fin.ext (show s.1 = 0 by have e : s.1 = (x 0).1 := h0; omega)
    pointwise [k0_pay28, k0_pay27]
  · obtain rfl : d = ⟨(x 1).1, lt_of_lt_of_le x1_lt (by decide)⟩ := Fin.ext h1
    obtain rfl : s = 1 := Fin.ext (show s.1 = 1 by have e : s.1 = 1 + (x 0).1 := h0; omega)
    pointwise [k0_pay26, k0_pay24]
  · obtain rfl : d = ⟨(x 1).1, lt_of_lt_of_le x1_lt (by decide)⟩ := Fin.ext h1
    obtain rfl : s = 0 := Fin.ext (show s.1 = 0 by have e : s.1 = (x 0).1 := h0; omega)
    pointwise [k0_pay25, k0_pay24]

end Cert.Proj
-- ==== Proof.Heads.lean ====
module

public import proofs.«01_k».proof.Proof.Sums

/-! What the input projections compute for one token: the gates, the per-head normalized queries and keys, the values. -/

@[expose] public section

noncomputable section

namespace Cert.Rows

open Idealize.ShloMosaic

/-- A channel of the projected row. -/
def proj (h : Fin 1024 → EReal) (W : Fin 1024 → Fin 6912 → EReal) (o : Fin 6912) : EReal := ∑ k, h k * W k o

/-- The factor on the queries. -/
abbrev qscale : EReal := Ideal.ofBits .f32 1043900987#32

theorem qscale_eq : qscale = (((12102203 : ℝ) / 67108864 : ℝ) : EReal) := by
  simp [Ideal.ofBits, Ideal.ieee, -EReal.coe_mul]; norm_num

theorem qscale_nonneg : (0 : EReal) ≤ qscale := qscale_eq ▸ EReal.coe_nonneg.mpr (by norm_num)

theorem qscale_ne_top : qscale ≠ (⊤ : EReal) := qscale_eq ▸ EReal.coe_ne_top _

theorem sixtyfourth_eq : Ideal.ofBits .f32 1015021568#32 = (((1 : ℝ) / 64 : ℝ) : EReal) := by
  simp [Ideal.ofBits, Ideal.ieee, -EReal.coe_mul]; norm_num

theorem sixtyfour_eq : Ideal.ofBits .f32 1115684864#32 = ((64 : ℝ) : EReal) := by
  simp [Ideal.ofBits, Ideal.ieee, -EReal.coe_mul]; norm_num

/-- A finite factor that is not negative comes out of a sum. -/
theorem sum_factor {ι : Type} (s : Finset ι) (f : ι → EReal) (c : EReal) (h0 : 0 ≤ c) (h1 : c ≠ ⊤) :
    ∑ i ∈ s, f i * c = (∑ i ∈ s, f i) * c := by
  classical
  induction s using Finset.induction_on with
  | empty => simp
  | insert a s ha ih => rw [Finset.sum_insert ha, Finset.sum_insert ha, ih, EReal.right_distrib_of_nonneg_of_ne_top h0 h1]

/-- A quotient by 64 is a product with 1/64. -/
theorem div_sixtyfour (x : EReal) : Ideal.div x (Ideal.ofBits .f32 1115684864#32) = x * Ideal.ofBits .f32 1015021568#32 := by
  rw [sixtyfour_eq, sixtyfourth_eq, Ideal.div, if_neg (by exact_mod_cast (by norm_num : (64 : ℝ) ≠ 0)), ← EReal.coe_inv]
  norm_num

/-- The matrix that averages over each group of 64 channels. -/
def groups (q s : Fin 256) : EReal := if q.1 / 64 = s.1 / 64 then Ideal.ofBits .f32 1015021568#32 else 0

/-- A sum over 256 channels against one of the matrix's columns is the mean over the column's group. -/
theorem sum_groups (a : Fin 256 → EReal) (s : Fin 256) :
    ∑ q, a q * groups q s = Ideal.div (∑ i : Fin 64, a ⟨s.1 / 64 * 64 + i.1, by omega⟩) (Ideal.ofBits .f32 1115684864#32) := by
  rw [div_sixtyfour, ← sum_factor _ _ _ (by rw [sixtyfourth_eq]; exact EReal.coe_nonneg.mpr (by norm_num))
    (by rw [sixtyfourth_eq]; exact EReal.coe_ne_top _)]
  rw [← (finProdFinEquiv : Fin 4 × Fin 64 ≃ Fin 256).sum_comp, Fintype.sum_prod_type]
  rw [Finset.sum_eq_single (⟨s.1 / 64, by omega⟩ : Fin 4)]
  · refine Finset.sum_congr rfl fun i _ => ?_
    have e : (finProdFinEquiv ((⟨s.1 / 64, by omega⟩ : Fin 4), i) : Fin 256) = ⟨s.1 / 64 * 64 + i.1, by omega⟩ :=
      Fin.ext (by simp [finProdFinEquiv]; omega)
    rw [e, groups, if_pos (by simp only; omega)]
  · intro j _ hj
    refine Finset.sum_eq_zero fun i _ => ?_
    have hj' : j.1 ≠ s.1 / 64 := fun e => hj (Fin.ext e)
    rw [groups, if_neg (by simp [finProdFinEquiv]; omega), mul_zero]
  · intro h; exact absurd (Finset.mem_univ _) h

/-- Where channel `d` of the gate and stick-breaking channels lies in the projected row. -/
def gateCols (W : Fin 6912 → EReal) (d : Fin 4096) : EReal :=
  if h : d.1 < 512 then W ⟨d.1, by omega⟩ * qscale
  else if h' : d.1 < 1024 then W ⟨d.1, by omega⟩ else W ⟨d.1 + 2816, by omega⟩

/-- Where channel `d` of the queries and keys lies in the projected row. -/
def headCol (d : Fin 1792) : Fin 6912 :=
  if h : d.1 < 1024 then ⟨1536 + d.1, by omega⟩ else if h' : d.1 < 1600 then ⟨2048 + d.1, by omega⟩
  else if h'' : d.1 < 1728 then ⟨1984 + d.1, by omega⟩ else ⟨1920 + d.1, by omega⟩

/-- Where channel `d` of the values lies in the projected row. -/
def valCol (d : Fin 1152) : Fin 6912 :=
  if h : d.1 < 512 then ⟨1024 + d.1, by omega⟩ else if h' : d.1 < 1024 then ⟨2048 + d.1, by omega⟩
  else ⟨2688 + d.1, by omega⟩

/-- The factor on channel `d` of the normalized queries and keys. -/
def headGain (qd kd qs ks : Fin 64 → EReal) (d : Fin 1792) : EReal :=
  if d.1 < 512 then qd ⟨d.1 % 64, by omega⟩ * qscale else if d.1 < 1024 then kd ⟨d.1 % 64, by omega⟩
  else if d.1 < 1536 then qs ⟨d.1 % 64, by omega⟩ * qscale else ks ⟨d.1 % 64, by omega⟩

/-- A gate or stick-breaking channel. -/
def gate (h : Fin 1024 → EReal) (W : Fin 1024 → Fin 6912 → EReal) (d : Fin 4096) : EReal := gateCols (proj h W) d

/-- A normalized query or key channel. -/
def head (h : Fin 1024 → EReal) (W : Fin 1024 → Fin 6912 → EReal) (qd kd qs ks : Fin 64 → EReal) (d : Fin 1792) : EReal :=
  proj h W (headCol d) * Ideal.rsqrt (Ideal.div (∑ i : Fin 64, proj h W (headCol ⟨d.1 / 64 * 64 + i.1, by omega⟩)
    * proj h W (headCol ⟨d.1 / 64 * 64 + i.1, by omega⟩)) (Ideal.ofBits .f32 1115684864#32)
    + Ideal.ofBits .f32 897988541#32) * headGain qd kd qs ks d

/-- The factor on the weights is the factor on the products. -/
theorem gate_eq (h : Fin 1024 → EReal) (W : Fin 1024 → Fin 6912 → EReal) (d : Fin 4096) :
    ∑ k, h k * gateCols (W k) d = gate h W d := by
  unfold gate gateCols
  split_ifs with h1 h2
  · rw [proj, ← sum_factor _ _ _ qscale_nonneg qscale_ne_top]
    exact Finset.sum_congr rfl fun k _ => (mul_assoc _ _ _).symm
  · rfl
  · rfl

/-- The mean over a head by the averaging matrix is the quotient of its sum. -/
theorem head_eq (h : Fin 1024 → EReal) (W : Fin 1024 → Fin 6912 → EReal) (qd kd qs ks : Fin 64 → EReal) (d : Fin 1792) :
    normed (fun d => ∑ k, h k * W k (headCol d)) groups (headGain qd kd qs ks) d = head h W qd kd qs ks d := by
  unfold normed head
  rw [sum_groups (fun q => (∑ k, h k * W k (headCol ⟨d.1 / 256 * 256 + q.1, by omega⟩))
    * ∑ k, h k * W k (headCol ⟨d.1 / 256 * 256 + q.1, by omega⟩))]
  have e : ∀ i : Fin 64, d.1 / 256 * 256 + (d.1 % 256 / 64 * 64 + i.1) = d.1 / 64 * 64 + i.1 := fun i => by omega
  simp only [e]
  rfl

theorem gateCols_lo (W : Fin 6912 → EReal) (d : Fin 4096) (h : d.1 < 512) : gateCols W d = W ⟨d.1, by omega⟩ * qscale :=
  dif_pos h

theorem gateCols_mid (W : Fin 6912 → EReal) (d : Fin 4096) (h : ¬ d.1 < 512) (h' : d.1 < 1024) :
    gateCols W d = W ⟨d.1, by omega⟩ :=
  (dif_neg h).trans (dif_pos h')

theorem gateCols_hi (W : Fin 6912 → EReal) (d : Fin 4096) (h : ¬ d.1 < 1024) : gateCols W d = W ⟨d.1 + 2816, by omega⟩ :=
  (dif_neg (by omega)).trans (dif_neg h)

theorem headCol_val (d : Fin 1792) : (headCol d).1 = if d.1 < 1024 then 1536 + d.1 else if d.1 < 1600 then 2048 + d.1
    else if d.1 < 1728 then 1984 + d.1 else 1920 + d.1 := by
  unfold headCol
  split_ifs <;> rfl

theorem valCol_val (d : Fin 1152) : (valCol d).1 = if d.1 < 512 then 1024 + d.1 else if d.1 < 1024 then 2048 + d.1
    else 2688 + d.1 := by
  unfold valCol
  split_ifs <;> rfl

theorem headGain_qd (qd kd qs ks : Fin 64 → EReal) (d : Fin 1792) (i : Fin 64) (h : d.1 < 512) (hi : i.1 = d.1 % 64) :
    qd i * qscale = headGain qd kd qs ks d := by
  rw [Fin.ext (b := ⟨d.1 % 64, Nat.mod_lt _ (by decide)⟩) hi]
  exact (if_pos h).symm

theorem headGain_kd (qd kd qs ks : Fin 64 → EReal) (d : Fin 1792) (i : Fin 64) (h : ¬ d.1 < 512) (h' : d.1 < 1024)
    (hi : i.1 = d.1 % 64) : kd i = headGain qd kd qs ks d := by
  rw [Fin.ext (b := ⟨d.1 % 64, Nat.mod_lt _ (by decide)⟩) hi]
  exact ((if_neg h).trans (if_pos h')).symm

theorem headGain_qs (qd kd qs ks : Fin 64 → EReal) (d : Fin 1792) (i : Fin 64) (h : ¬ d.1 < 1024) (h' : d.1 < 1536)
    (hi : i.1 = d.1 % 64) : qs i * qscale = headGain qd kd qs ks d := by
  rw [Fin.ext (b := ⟨d.1 % 64, Nat.mod_lt _ (by decide)⟩) hi]
  exact ((if_neg (by omega)).trans ((if_neg h).trans (if_pos h'))).symm

theorem headGain_ks (qd kd qs ks : Fin 64 → EReal) (d : Fin 1792) (i : Fin 64) (h : ¬ d.1 < 1536)
    (hi : i.1 = d.1 % 64) : ks i = headGain qd kd qs ks d := by
  rw [Fin.ext (b := ⟨d.1 % 64, Nat.mod_lt _ (by decide)⟩) hi]
  exact ((if_neg (by omega)).trans ((if_neg (by omega)).trans (if_neg h))).symm

/-- A normalized channel, read where its head lies in the projected row. -/
theorem head_of (h : Fin 1024 → EReal) (W : Fin 1024 → Fin 6912 → EReal) (qd kd qs ks : Fin 64 → EReal) (d : Fin 1792)
    (a : Fin 6912) (b : Fin 64 → Fin 6912) (g : EReal) (ha : a.1 = (headCol d).1)
    (hb : ∀ i : Fin 64, (b i).1 = (headCol ⟨d.1 / 64 * 64 + i.1, by omega⟩).1) (hg : g = headGain qd kd qs ks d) :
    proj h W a * Ideal.rsqrt (Ideal.div (∑ i : Fin 64, proj h W (b i) * proj h W (b i)) (Ideal.ofBits .f32 1115684864#32)
      + Ideal.ofBits .f32 897988541#32) * g = head h W qd kd qs ks d := by
  obtain rfl : b = fun i => headCol ⟨d.1 / 64 * 64 + i.1, by omega⟩ := funext fun i => Fin.ext (hb i)
  obtain rfl : a = headCol d := Fin.ext ha
  rw [hg]
  rfl

/-- The same, with the queries' factor applied last. -/
theorem head_of_scaled (h : Fin 1024 → EReal) (W : Fin 1024 → Fin 6912 → EReal) (qd kd qs ks : Fin 64 → EReal) (d : Fin 1792)
    (a : Fin 6912) (b : Fin 64 → Fin 6912) (g : EReal) (ha : a.1 = (headCol d).1)
    (hb : ∀ i : Fin 64, (b i).1 = (headCol ⟨d.1 / 64 * 64 + i.1, by omega⟩).1) (hg : g * qscale = headGain qd kd qs ks d) :
    proj h W a * Ideal.rsqrt (Ideal.div (∑ i : Fin 64, proj h W (b i) * proj h W (b i)) (Ideal.ofBits .f32 1115684864#32)
      + Ideal.ofBits .f32 897988541#32) * g * Ideal.ofBits .f32 1043900987#32 = head h W qd kd qs ks d := by
  rw [mul_assoc]
  exact head_of h W qd kd qs ks d a b _ ha hb hg

end Cert.Rows
-- ==== Proof.ProjArgs.lean ====
module

public import proofs.«01_k».proof.Proof.Proj
public import proofs.«01_k».proof.Proof.Heads
public import Idealize.ShloMosaic.Lib.StableHlo.RunRead

/-! The arguments of the projections' call: what each window's block holds, in terms of the call's arguments. -/

@[expose] public section

set_option maxRecDepth 16384

noncomputable section

namespace Cert.Proj

open Cert.Kernel4Ideal Cert.Kernel4Ideal.Gen Idealize.ShloMosaic Idealize.ShloMosaic.TcCoe Idealize.SL.Sem

variable (m : (ℓ : Loc nD τ sig) → Buf (Elt Ideal) ℓ) (c : Dev nD) (t : Fin cfg0.N)

theorem e0 : ∀ t : Fin cfg0.N, win0_0.index t = ![(grid0.coords t 0).val, 0] := (by decide +kernel : ∀ t : Fin grid0.N, _)
theorem e1 : ∀ t : Fin cfg0.N, win0_1.index t = ![0, 0] := (by decide +kernel : ∀ t : Fin grid0.N, _)
theorem e2 : ∀ t : Fin cfg0.N, win0_2.index t = ![0, 0, 0] := (by decide +kernel : ∀ t : Fin grid0.N, _)
theorem e3 : ∀ t : Fin cfg0.N, win0_3.index t = ![0, 0, 0] := (by decide +kernel : ∀ t : Fin grid0.N, _)
theorem e4 : ∀ t : Fin cfg0.N, win0_4.index t = ![0, 0] := (by decide +kernel : ∀ t : Fin grid0.N, _)
theorem e5 : ∀ t : Fin cfg0.N, win0_5.index t = ![0, 0] := (by decide +kernel : ∀ t : Fin grid0.N, _)
theorem e6 : ∀ t : Fin cfg0.N, win0_6.index t = ![0, 0, 0] := (by decide +kernel : ∀ t : Fin grid0.N, _)

/-- The normalized rows of the call's argument. -/
def krow (r : Fin 32768) (k : Fin 1024) : EReal :=
  Rows.rms (fun k => m ((c.tc : Thread nD τ).loc main_arg0) (ix3 (Rows.seqOf r) (Rows.posOf r) k)) (fun k => m ((c.tc : Thread nD τ).loc main_arg1) (ix2 0 k)) k

/-- The projection weights of the call's argument. -/
def kw (k : Fin 1024) (o : Fin 6912) : EReal := m ((c.tc : Thread nD τ).loc main_arg2) (ix3 0 k o)

theorem x_at (r : Fin 512) (k : Fin 1024) (R : Fin 32768) (hR : R.1 = (grid0.coords t 0).val * 512 + r.1) :
    @Eq EReal (iblk m c 0 t (ix2 r k)) (m ((c.tc : Thread nD τ).loc main_arg0) (ix3 (Rows.seqOf R) (Rows.posOf R) k)) := by
  have e : @Eq EReal (iblk m c 0 t (ix2 r k)) (V m c main_v48 (ix2 R k)) := by
    blk_ext [iblk, e0 t]
  rw [e]
  simp only [V, List.flatten_cons, List.flatten_nil, List.append_nil]
  after_reads_simp
  pointwise

theorem g_at (k : Fin 1024) : @Eq EReal (iblk m c 1 t (ix2 0 k)) (m ((c.tc : Thread nD τ).loc main_arg1) (ix2 0 k)) := by
  have e : @Eq EReal (iblk m c 1 t (ix2 0 k)) (V m c main_v60 (ix2 0 k)) := by blk_ext [iblk, e1 t]
  rw [e]
  simp only [V, List.flatten_cons, List.flatten_nil, List.append_nil]
  after_reads_simp
  pointwise

/-- A row of the block is the token's row. -/
theorem row_at (r : Fin 512) (R : Fin 32768) (hR : R.1 = (grid0.coords t 0).val * 512 + r.1) (k : Fin 1024) :
    Rows.rms (fun k => iblk m c 0 t (ix2 r k)) (fun k => iblk m c 1 t (ix2 0 k)) k = krow m c R k := by
  unfold krow
  congr 1
  · exact funext fun k => x_at m c t r k R hR
  · exact funext fun k => g_at m c t k

set_option maxHeartbeats 1000000 in
theorem w1_at (k : Fin 1024) (d : Fin 4096) : @Eq EReal (iblk m c 2 t (ix3 0 k d))
    (Rows.gateCols (fun o => m ((c.tc : Thread nD τ).loc main_arg2) (ix3 0 k o)) d) := by
  have e : @Eq EReal (iblk m c 2 t (ix3 0 k d)) (V m c main_v17 (ix3 0 k d)) := by blk_ext [iblk, e2 t]
  rw [e]
  simp only [V, List.flatten_cons, List.flatten_nil, List.append_nil]
  after_reads_simp
  pointwise
  unfold Rows.gateCols
  by_cases h0 : d.1 < 512
  · rw [dif_pos h0]
    after_reads_simp
    pointwise
    rw [dif_pos (show d.1 < 512 by omega)]
  by_cases h1 : d.1 - 512 < 512
  · rw [dif_neg h0, dif_pos h1]
    after_reads_simp
    pointwise
    rw [dif_neg (show ¬ d.1 < 512 by omega), dif_pos (show d.1 < 1024 by omega)]
    blk_ext
  by_cases h2 : d.1 - 512 - 512 < 1024
  · rw [dif_neg h0, dif_neg h1, dif_pos h2]
    after_reads_simp
    pointwise
    rw [dif_neg (show ¬ d.1 < 512 by omega), dif_neg (show ¬ d.1 < 1024 by omega)]
    blk_ext
  by_cases h3 : d.1 - 512 - 512 - 1024 < 1024
  · rw [dif_neg h0, dif_neg h1, dif_neg h2, dif_pos h3]
    after_reads_simp
    pointwise
    rw [dif_neg (show ¬ d.1 < 512 by omega), dif_neg (show ¬ d.1 < 1024 by omega)]
    blk_ext
  rw [dif_neg h0, dif_neg h1, dif_neg h2, dif_neg h3]
  after_reads_simp
  pointwise
  rw [dif_neg (show ¬ d.1 < 512 by omega), dif_neg (show ¬ d.1 < 1024 by omega)]
  blk_ext

set_option maxHeartbeats 1000000 in
theorem w2_at (k : Fin 1024) (d : Fin 1792) : @Eq EReal (iblk m c 3 t (ix3 0 k d))
    (m ((c.tc : Thread nD τ).loc main_arg2) (ix3 0 k (Rows.headCol d))) := by
  have e : @Eq EReal (iblk m c 3 t (ix3 0 k d)) (V m c main_v19 (ix3 0 k d)) := by blk_ext [iblk, e3 t]
  rw [e]
  simp only [V, List.flatten_cons, List.flatten_nil, List.append_nil]
  after_reads_simp
  pointwise
  unfold Rows.headCol
  by_cases h0 : d.1 < 512
  · rw [dif_pos h0]
    after_reads_simp
    pointwise
    rw [dif_pos (show d.1 < 1024 by omega)]
    blk_ext
  by_cases h1 : d.1 - 512 < 512
  · rw [dif_neg h0, dif_pos h1]
    after_reads_simp
    pointwise
    rw [dif_pos (show d.1 < 1024 by omega)]
    blk_ext
  by_cases h2 : d.1 - 512 - 512 < 512
  · rw [dif_neg h0, dif_neg h1, dif_pos h2]
    after_reads_simp
    pointwise
    rw [dif_neg (show ¬ d.1 < 1024 by omega), dif_pos (show d.1 < 1600 by omega)]
    blk_ext
  by_cases h3 : d.1 - 512 - 512 - 512 < 64
  · rw [dif_neg h0, dif_neg h1, dif_neg h2, dif_pos h3]
    after_reads_simp
    pointwise
    rw [dif_neg (show ¬ d.1 < 1024 by omega), dif_pos (show d.1 < 1600 by omega)]
    blk_ext
  by_cases h4 : d.1 - 512 - 512 - 512 - 64 < 64
  · rw [dif_neg h0, dif_neg h1, dif_neg h2, dif_neg h3, dif_pos h4]
    after_reads_simp
    pointwise
    rw [dif_neg (show ¬ d.1 < 1024 by omega), dif_neg (show ¬ d.1 < 1600 by omega), dif_pos (show d.1 < 1728 by omega)]
    blk_ext
  by_cases h5 : d.1 - 512 - 512 - 512 - 64 - 64 < 64
  · rw [dif_neg h0, dif_neg h1, dif_neg h2, dif_neg h3, dif_neg h4, dif_pos h5]
    after_reads_simp
    pointwise
    rw [dif_neg (show ¬ d.1 < 1024 by omega), dif_neg (show ¬ d.1 < 1600 by omega), dif_pos (show d.1 < 1728 by omega)]
    blk_ext
  rw [dif_neg h0, dif_neg h1, dif_neg h2, dif_neg h3, dif_neg h4, dif_neg h5]
  after_reads_simp
  pointwise
  rw [dif_neg (show ¬ d.1 < 1024 by omega), dif_neg (show ¬ d.1 < 1600 by omega), dif_neg (show ¬ d.1 < 1728 by omega)]
  blk_ext

set_option maxHeartbeats 1000000 in
theorem w3_at (k : Fin 1024) (d : Fin 1152) : @Eq EReal (iblk m c 6 t (ix3 0 k d))
    (m ((c.tc : Thread nD τ).loc main_arg2) (ix3 0 k (Rows.valCol d))) := by
  have e : @Eq EReal (iblk m c 6 t (ix3 0 k d)) (V m c main_v21 (ix3 0 k d)) := by blk_ext [iblk, e6 t]
  rw [e]
  simp only [V, List.flatten_cons, List.flatten_nil, List.append_nil]
  after_reads_simp
  pointwise
  unfold Rows.valCol
  by_cases h0 : d.1 < 512
  · rw [dif_pos h0]
    after_reads_simp
    pointwise
    rw [dif_pos (show d.1 < 512 by omega)]
    blk_ext
  by_cases h1 : d.1 - 512 < 512
  · rw [dif_neg h0, dif_pos h1]
    after_reads_simp
    pointwise
    rw [dif_neg (show ¬ d.1 < 512 by omega), dif_pos (show d.1 < 1024 by omega)]
    blk_ext
  rw [dif_neg h0, dif_neg h1]
  after_reads_simp
  pointwise
  rw [dif_neg (show ¬ d.1 < 512 by omega), dif_neg (show ¬ d.1 < 1024 by omega)]
  blk_ext

/-- The word that the host's floor division leaves at channel `q`. -/
def groupWord (q : Fin 256) : BitVec 32 :=
  Scalar.select
    (IntOp.andi
      (IntOp.cmpi CmpIPredicate.ne
        (if BitVec.ofNat 32 q.1 = 0 then (0 : BitVec 32) else if (BitVec.ofNat 32 q.1).msb = true then -1 else 1)
        (if 64#32 = 0 then (0 : BitVec 32) else if (64#32).msb = true then -1 else 1))
      (IntOp.cmpi CmpIPredicate.ne (IntOp.remsi ArithUnit.host (BitVec.ofNat 32 q.1) 64#32) 0#32))
    (IntOp.subi (IntOp.divsi ArithUnit.host (BitVec.ofNat 32 q.1) 64#32) 1#32)
    (IntOp.divsi ArithUnit.host (BitVec.ofNat 32 q.1) 64#32)

theorem group_word : ∀ q : Fin 256, groupWord q = BitVec.ofNat 32 (q.1 / 64) := by
  decide +kernel

theorem same_word : ∀ a b : Fin 4, IntOp.cmpi CmpIPredicate.eq (BitVec.ofNat 32 a.1) (BitVec.ofNat 32 b.1)
    = if a.1 = b.1 then 1#1 else 0#1 := by
  decide +kernel

theorem gm_at (q s : Fin 256) : @Eq EReal (iblk m c 5 t (ix2 q s)) (Rows.groups q s) := by
  have e : @Eq EReal (iblk m c 5 t (ix2 q s)) (V m c main_v59 (ix2 q s)) := by blk_ext [iblk, e5 t]
  rw [e]
  simp only [V, List.flatten_cons, List.flatten_nil, List.append_nil]
  after_reads_simp
  simp only [StableHlo.TRef.ofBuf_toBuf]
  simp only [StableHlo.TRef.ofBuf, StableHlo.TRef.toBuf, StableHlo.TRef.of]
  clean_types
  simp only [cast_eq, id_eq]
  pointwise
  change Scalar.select (IntOp.cmpi CmpIPredicate.eq (groupWord q) (groupWord s)) (Ideal.ofBits FTy.f32 1015021568#32) (0 : EReal) = _
  rw [group_word, group_word, same_word ⟨q.1 / 64, by omega⟩ ⟨s.1 / 64, by omega⟩]
  unfold Rows.groups
  split
  · rfl
  · rfl

set_option maxHeartbeats 1000000 in
theorem g2_at (d : Fin 1792) : @Eq EReal (iblk m c 4 t (ix2 0 d))
    (Rows.headGain (fun i => m ((c.tc : Thread nD τ).loc main_arg3) (ix2 0 i)) (fun i => m ((c.tc : Thread nD τ).loc main_arg4) (ix2 0 i))
    (fun i => m ((c.tc : Thread nD τ).loc main_arg5) (ix2 0 i)) (fun i => m ((c.tc : Thread nD τ).loc main_arg6) (ix2 0 i)) d) := by
  have e : @Eq EReal (iblk m c 4 t (ix2 0 d)) (V m c main_v47 (ix2 0 d)) := by blk_ext [iblk, e4 t]
  rw [e]
  simp only [V, List.flatten_cons, List.flatten_nil, List.append_nil]
  after_reads_simp
  pointwise
  unfold Rows.headGain
  by_cases h0 : d.1 < 512
  · rw [dif_pos h0]
    after_reads_simp
    pointwise
    rw [if_pos (show d.1 < 512 by omega)]
  by_cases h1 : d.1 - 512 < 512
  · rw [dif_neg h0, dif_pos h1]
    after_reads_simp
    pointwise
    rw [if_neg (show ¬ d.1 < 512 by omega), if_pos (show d.1 < 1024 by omega)]
    blk_ext
  by_cases h2 : d.1 - 512 - 512 < 512
  · rw [dif_neg h0, dif_neg h1, dif_pos h2]
    after_reads_simp
    pointwise
    rw [if_neg (show ¬ d.1 < 512 by omega), if_neg (show ¬ d.1 < 1024 by omega), if_pos (show d.1 < 1536 by omega)]
    first | (congr 1; done) | (congr 1; blk_ext)
  rw [dif_neg h0, dif_neg h1, dif_neg h2]
  after_reads_simp
  pointwise
  rw [if_neg (show ¬ d.1 < 512 by omega), if_neg (show ¬ d.1 < 1024 by omega), if_neg (show ¬ d.1 < 1536 by omega)]
  blk_ext

end Cert.Proj
-- ==== Proof.ProjRef.lean ====
module

public import proofs.«01_k».proof.Proof.Proj
public import proofs.«01_k».proof.Proof.Heads

/-! The reference of the projections' call, channel by channel. -/

@[expose] public section

set_option maxRecDepth 16384

noncomputable section

namespace Cert.Proj

open Cert.Kernel4Ideal Cert.Kernel4Ideal.Gen Idealize.ShloMosaic Idealize.ShloMosaic.TcCoe Idealize.SL.Sem

variable (m : (ℓ : Loc Reference4Ideal.nD Reference4Ideal.τ Reference4Ideal.sig) → Buf (Elt Ideal) ℓ)
  (c : Dev Reference4Ideal.nD)

/-- The reference's normalized rows. -/
def rrow (r : Fin 32768) (k : Fin 1024) : EReal :=
  Rows.rms (fun k => m ((c.tc : Thread Reference4Ideal.nD Reference4Ideal.τ).loc Reference4Ideal.main_arg0) (ix3 (Rows.seqOf r) (Rows.posOf r) k)) (fun k => m ((c.tc : Thread Reference4Ideal.nD Reference4Ideal.τ).loc Reference4Ideal.main_arg1) (ix2 0 k)) k

/-- The reference's projection weights. -/
def rw0 (k : Fin 1024) (o : Fin 6912) : EReal := m ((c.tc : Thread Reference4Ideal.nD Reference4Ideal.τ).loc Reference4Ideal.main_arg2) (ix3 0 k o)

theorem res0_at (r : Fin 32768) (d : Fin 4096) :
    Reference4Ideal.Value.res_out0 m c (ix2 r d) = Rows.gate (rrow m c r) (rw0 m c) d := by
  unfold Reference4Ideal.Value.res_out0 Reference4Ideal.Value.res_main_v111
  clean_types
  generalize hP : Host.dotGeneral (F := Ideal) _ _ _ _ = P
  have hp : ∀ o, P (ix3 (Rows.seqOf r) (Rows.posOf r) o) = Rows.proj (rrow m c r) (rw0 m c) o := by
    intro o
    rw [← hP]
    pointwise
    rfl
  clear hP
  pointwise
  simp only [hp]
  unfold Rows.gate
  by_cases h0 : d.1 < 512
  · rw [dif_pos h0, Rows.gateCols_lo _ _ h0]
  by_cases h1 : d.1 - 512 < 512
  · rw [dif_neg h0, dif_pos h1, Rows.gateCols_mid _ _ h0 (by omega)]
    exact congrArg _ (Fin.ext (by simp only; omega))
  rw [Rows.gateCols_hi _ _ (by omega), dif_neg h0, dif_neg h1]
  by_cases h2 : d.1 - 512 - 512 < 1024
  · rw [dif_pos h2]
    exact congrArg _ (Fin.ext (by simp only; omega))
  by_cases h3 : d.1 - 512 - 512 - 1024 < 1024
  · rw [dif_neg h2, dif_pos h3]
    exact congrArg _ (Fin.ext (by simp only; omega))
  · rw [dif_neg h2, dif_neg h3]
    exact congrArg _ (Fin.ext (by simp only; omega))

set_option maxHeartbeats 1000000 in
theorem res1_at (r : Fin 32768) (d : Fin 1792) :
    Reference4Ideal.Value.res_out1 m c (ix2 r d) = Rows.head (rrow m c r) (rw0 m c) (fun i => m ((c.tc : Thread Reference4Ideal.nD Reference4Ideal.τ).loc Reference4Ideal.main_arg3) (ix2 0 i))
      (fun i => m ((c.tc : Thread Reference4Ideal.nD Reference4Ideal.τ).loc Reference4Ideal.main_arg4) (ix2 0 i))
      (fun i => m ((c.tc : Thread Reference4Ideal.nD Reference4Ideal.τ).loc Reference4Ideal.main_arg5) (ix2 0 i))
      (fun i => m ((c.tc : Thread Reference4Ideal.nD Reference4Ideal.τ).loc Reference4Ideal.main_arg6) (ix2 0 i)) d := by
  unfold Reference4Ideal.Value.res_out1 Reference4Ideal.Value.res_main_v113
  clean_types
  generalize hP : Host.dotGeneral (F := Ideal) _ _ _ _ = P
  have hp : ∀ o, P (ix3 (Rows.seqOf r) (Rows.posOf r) o) = Rows.proj (rrow m c r) (rw0 m c) o := by
    intro o
    rw [← hP]
    pointwise
    rfl
  clear hP
  pointwise
  simp only [hp]
  by_cases h0 : d.1 < 512
  · rw [dif_pos h0]
    refine Rows.head_of_scaled _ _ _ _ _ _ d _ _ _ ?_ (fun i => ?_) ?_
    · simp only [Rows.headCol_val]; split_ifs <;> omega
    · simp only [Rows.headCol_val]; split_ifs <;> omega
    · exact Rows.headGain_qd (fun i => m ((c.tc : Thread Reference4Ideal.nD Reference4Ideal.τ).loc Reference4Ideal.main_arg3) (ix2 0 i)) _ _ _ d _ h0 rfl
  by_cases h1 : d.1 - 512 < 512
  · rw [dif_neg h0, dif_pos h1]
    refine Rows.head_of _ _ _ _ _ _ d _ _ _ ?_ (fun i => ?_) ?_
    · simp only [Rows.headCol_val]; split_ifs <;> omega
    · simp only [Rows.headCol_val]; split_ifs <;> omega
    · exact Rows.headGain_kd _ (fun i => m ((c.tc : Thread Reference4Ideal.nD Reference4Ideal.τ).loc Reference4Ideal.main_arg4) (ix2 0 i)) _ _ d _ h0 (by omega) (by simp only; omega)
  by_cases h2 : d.1 - 512 - 512 < 512
  · rw [dif_neg h0, dif_neg h1, dif_pos h2]
    refine Rows.head_of_scaled _ _ _ _ _ _ d _ _ _ ?_ (fun i => ?_) ?_
    · simp only [Rows.headCol_val]; split_ifs <;> omega
    · simp only [Rows.headCol_val]; split_ifs <;> omega
    · exact Rows.headGain_qs _ _ (fun i => m ((c.tc : Thread Reference4Ideal.nD Reference4Ideal.τ).loc Reference4Ideal.main_arg5) (ix2 0 i)) _ d _ (by omega) (by omega) (by simp only; omega)
  by_cases h3 : d.1 - 512 - 512 - 512 < 64
  · rw [dif_neg h0, dif_neg h1, dif_neg h2, dif_pos h3]
    refine Rows.head_of _ _ _ _ _ _ d _ _ _ ?_ (fun i => ?_) ?_
    · simp only [Rows.headCol_val]; split_ifs <;> omega
    · simp only [Rows.headCol_val]; split_ifs <;> omega
    · exact Rows.headGain_ks _ _ _ (fun i => m ((c.tc : Thread Reference4Ideal.nD Reference4Ideal.τ).loc Reference4Ideal.main_arg6) (ix2 0 i)) d _ (by omega) (by simp only; omega)
  by_cases h4 : d.1 - 512 - 512 - 512 - 64 < 64
  · rw [dif_neg h0, dif_neg h1, dif_neg h2, dif_neg h3, dif_pos h4]
    refine Rows.head_of _ _ _ _ _ _ d _ _ _ ?_ (fun i => ?_) ?_
    · simp only [Rows.headCol_val]; split_ifs <;> omega
    · simp only [Rows.headCol_val]; split_ifs <;> omega
    · exact Rows.headGain_ks _ _ _ (fun i => m ((c.tc : Thread Reference4Ideal.nD Reference4Ideal.τ).loc Reference4Ideal.main_arg6) (ix2 0 i)) d _ (by omega) (by simp only; omega)
  by_cases h5 : d.1 - 512 - 512 - 512 - 64 - 64 < 64
  · rw [dif_neg h0, dif_neg h1, dif_neg h2, dif_neg h3, dif_neg h4, dif_pos h5]
    refine Rows.head_of _ _ _ _ _ _ d _ _ _ ?_ (fun i => ?_) ?_
    · simp only [Rows.headCol_val]; split_ifs <;> omega
    · simp only [Rows.headCol_val]; split_ifs <;> omega
    · exact Rows.headGain_ks _ _ _ (fun i => m ((c.tc : Thread Reference4Ideal.nD Reference4Ideal.τ).loc Reference4Ideal.main_arg6) (ix2 0 i)) d _ (by omega) (by simp only; omega)
  rw [dif_neg h0, dif_neg h1, dif_neg h2, dif_neg h3, dif_neg h4, dif_neg h5]
  refine Rows.head_of _ _ _ _ _ _ d _ _ _ ?_ (fun i => ?_) ?_
  · simp only [Rows.headCol_val]; split_ifs <;> omega
  · simp only [Rows.headCol_val]; split_ifs <;> omega
  · exact Rows.headGain_ks _ _ _ (fun i => m ((c.tc : Thread Reference4Ideal.nD Reference4Ideal.τ).loc Reference4Ideal.main_arg6) (ix2 0 i)) d _ (by omega) (by simp only; omega)

theorem res2_at (r : Fin 128) (d : Fin 1152) (q : Fin 256) :
    Reference4Ideal.Value.res_out2 m c (ix3 r d q) = Rows.proj (rrow m c ⟨r.1 * 256 + q.1, by omega⟩) (rw0 m c) (Rows.valCol d) := by
  unfold Reference4Ideal.Value.res_out2 Reference4Ideal.Value.res_main_v116
  clean_types
  generalize hP : Host.dotGeneral (F := Ideal) _ _ _ _ = P
  have hp : ∀ o, P (ix3 ⟨r.1 / 8, by omega⟩ ⟨r.1 % 8 * 256 + q.1, by omega⟩ o) = Rows.proj (rrow m c ⟨r.1 * 256 + q.1, by omega⟩) (rw0 m c) o := by
    intro o
    rw [← hP]
    pointwise
    have e1 : (⟨(r.1 * 256 + q.1) / 2048, by omega⟩ : Fin 16) = ⟨r.1 / 8, by omega⟩ := Fin.ext (by simp only; omega)
    have e2 : (⟨(r.1 * 256 + q.1) % 2048, by omega⟩ : Fin 2048) = ⟨r.1 % 8 * 256 + q.1, by omega⟩ := Fin.ext (by simp only; omega)
    unfold Rows.proj rrow Rows.seqOf Rows.posOf
    simp only [e1, e2]
    rfl
  clear hP
  pointwise
  simp only [hp]
  by_cases h0 : d.1 < 512
  · rw [dif_pos h0]
    exact congrArg _ (Fin.ext (by simp only [Rows.valCol_val]; split_ifs <;> omega))
  by_cases h1 : d.1 - 512 < 512
  · rw [dif_neg h0, dif_pos h1]
    exact congrArg _ (Fin.ext (by simp only [Rows.valCol_val]; split_ifs <;> omega))
  · rw [dif_neg h0, dif_neg h1]
    exact congrArg _ (Fin.ext (by simp only [Rows.valCol_val]; split_ifs <;> omega))

end Cert.Proj
-- ==== Proof.ProjValue.lean ====
module

public import proofs.«01_k».proof.Proof.ProjArgs
public import proofs.«01_k».proof.Proof.ProjRef

/-! The projections' call against the reference: gates, normalized queries and keys, values. -/

@[expose] public section

set_option maxRecDepth 16384

noncomputable section

namespace Cert.Proj

open Cert.Kernel4Ideal Cert.Kernel4Ideal.Gen Idealize.ShloMosaic Idealize.ShloMosaic.TcCoe Idealize.SL.Sem

theorem e7 : ∀ t : Fin cfg0.N, win0_7.index t = ![(grid0.coords t 0).val, 0] := (by decide +kernel : ∀ t : Fin grid0.N, _)
theorem e8 : ∀ t : Fin cfg0.N, win0_8.index t = ![(grid0.coords t 0).val, 0] := (by decide +kernel : ∀ t : Fin grid0.N, _)
theorem e9 : ∀ t : Fin cfg0.N, win0_9.index t = ![(grid0.coords t 0).val, 0, 0] := (by decide +kernel : ∀ t : Fin grid0.N, _)

section Arrays

variable (m : (ℓ : Loc nD τ sig) → Buf (Elt Ideal) ℓ) (c : Dev nD)

def G7 : S32768x4096.Idx → EReal := fun j => Rows.gate (krow m c (j 0)) (kw m c) (j 1)

def G8 : S32768x1792.Idx → EReal := fun j => Rows.head (krow m c (j 0)) (kw m c)
  (fun i => m ((c.tc : Thread nD τ).loc main_arg3) (ix2 0 i)) (fun i => m ((c.tc : Thread nD τ).loc main_arg4) (ix2 0 i))
  (fun i => m ((c.tc : Thread nD τ).loc main_arg5) (ix2 0 i)) (fun i => m ((c.tc : Thread nD τ).loc main_arg6) (ix2 0 i)) (j 1)

def G9 : S128x1152x256.Idx → EReal := fun j =>
  Rows.proj (krow m c ⟨(j 0).1 * 256 + (j 2).1, by have h : (j 0).1 < 128 := (j 0).2; have h' : (j 2).1 < 256 := (j 2).2; omega⟩) (kw m c) (Rows.valCol (j 1))

variable (t : Fin cfg0.N)

theorem gate_at (r : Fin 512) (d : Fin 4096) (R : Fin 32768) (hR : R.1 = (grid0.coords t 0).val * 512 + r.1) :
    (outsAt0 m c t).1 (ix2 r d) = Rows.gate (krow m c R) (kw m c) d := by
  rw [p1_at, ← Rows.gate_eq]
  exact Finset.sum_congr rfl fun k _ => congrArg₂ (· * ·) (row_at m c t r R hR k) (w1_at m c t k d)

theorem head_at (r : Fin 512) (d : Fin 1792) (R : Fin 32768) (hR : R.1 = (grid0.coords t 0).val * 512 + r.1) :
    (outsAt0 m c t).2.1 (ix2 r d) = Rows.head (krow m c R) (kw m c)
      (fun i => m ((c.tc : Thread nD τ).loc main_arg3) (ix2 0 i)) (fun i => m ((c.tc : Thread nD τ).loc main_arg4) (ix2 0 i))
      (fun i => m ((c.tc : Thread nD τ).loc main_arg5) (ix2 0 i)) (fun i => m ((c.tc : Thread nD τ).loc main_arg6) (ix2 0 i)) d := by
  have h1 : (fun d : Fin 1792 => ∑ k, Rows.rms (fun k => iblk m c 0 t (ix2 r k)) (fun k => iblk m c 1 t (ix2 0 k)) k
      * iblk m c 3 t (ix3 0 k d)) = fun d => ∑ k, krow m c R k * kw m c k (Rows.headCol d) :=
    funext fun d => Finset.sum_congr rfl fun k _ => congrArg₂ (· * ·) (row_at m c t r R hR k) (w2_at m c t k d)
  have h2 : (fun q s => iblk m c 5 t (ix2 q s)) = Rows.groups := funext fun q => funext fun s => gm_at m c t q s
  have h3 := funext fun d => g2_at m c t d
  exact (p2_at m c t r d).trans ((congrFun (congr (congr (congrArg Rows.normed h1) h2) h3) d).trans (Rows.head_eq _ _ _ _ _ _ d))

theorem val_at (s : Fin 2) (d : Fin 1152) (q : Fin 256) (R : Fin 32768)
    (hR : R.1 = (grid0.coords t 0).val * 512 + (s.1 * 256 + q.1)) :
    (outsAt0 m c t).2.2 (ix3 s d q) = Rows.proj (krow m c R) (kw m c) (Rows.valCol d) := by
  rw [p3_at]
  exact Finset.sum_congr rfl fun k _ => congrArg₂ (· * ·) (row_at m c t _ R hR k) (w3_at m c t k d)

theorem arr7_eq : (dats m 0 c).arrAt 7 cfg0.N = G7 m c := by
  refine (dats m 0 c).arrAt_eq_of_covers 7 _ (by decide +kernel) fun t hf y => ?_
  blk_simp
  rw [after0_7]
  have ey : (outsAt0 m c t).1 y = (outsAt0 m c t).1 (ix2 (y 0) (y 1)) := by blk_ext
  rw [ey]
  unfold G7
  refine (gate_at m c t (y 0) (y 1) (((win0_7.blk t).view.emb y) 0) ?_).trans (congrArg (Rows.gate _ _) (Fin.ext ?_))
  · blk_simp [e7 t]
  · blk_simp [e7 t]

theorem arr8_eq : (dats m 0 c).arrAt 8 cfg0.N = G8 m c := by
  refine (dats m 0 c).arrAt_eq_of_covers 8 _ (by decide +kernel) fun t hf y => ?_
  blk_simp
  rw [after0_8]
  have ey : (outsAt0 m c t).2.1 y = (outsAt0 m c t).2.1 (ix2 (y 0) (y 1)) := by blk_ext
  rw [ey]
  unfold G8
  refine (head_at m c t (y 0) (y 1) (((win0_8.blk t).view.emb y) 0) ?_).trans (congrArg (Rows.head _ _ _ _ _ _) (Fin.ext ?_))
  · blk_simp [e8 t]
  · blk_simp [e8 t]

theorem arr9_eq : (dats m 0 c).arrAt 9 cfg0.N = G9 m c := by
  refine (dats m 0 c).arrAt_eq_of_covers 9 _ (by decide +kernel) fun t hf y => ?_
  blk_simp
  rw [after0_9]
  have ey : (outsAt0 m c t).2.2 y = (outsAt0 m c t).2.2 (ix3 (y 0) (y 1) (y 2)) := by blk_ext
  rw [ey]
  unfold G9
  refine (val_at m c t (y 0) (y 1) (y 2) _ ?_).trans (congrArg (fun d => Rows.proj _ _ (Rows.valCol d)) (Fin.ext ?_))
  · blk_simp [e9 t]
    all_goals (dsimp only; omega)
  · blk_simp [e9 t]

end Arrays

theorem algebraic [Kernel4Ideal.Facts] [Reference4Ideal.Facts] : algebraic_Kernel4Ideal_Reference4Ideal := by
  intro m ρ m' ρ' _ hagree
  refine ⟨fun c => G7 m c, fun c => G8 m c, fun c => G9 m c, (θ_run _ _ _).mono (fun r h c => ?_) (Kernel4Ideal.Value.run_blocks m ρ),
    (θ_run _ _ _).mono (fun r h c => ?_) (Reference4Ideal.Value.run m' ρ')⟩
  · obtain ⟨h0, h1, h2, h3⟩ := h c
    exact ⟨h0.trans (arr7_eq m c), h1.trans (arr8_eq m c), h2.trans (arr9_eq m c), h3⟩
  · obtain ⟨h0, h1, h2, h3⟩ := h c
    refine ⟨h0.trans (funext fun j => ?_), h1.trans (funext fun j => ?_), h2.trans (funext fun j => ?_), h3⟩
    · have e : j = ix2 (j 0) (j 1) := by blk_ext
      refine ((congrArg _ e).trans (res0_at m' c (j 0) (j 1))).trans ?_
      unfold rrow rw0 G7 krow kw
      simp only [hagree c]
    · have e : j = ix2 (j 0) (j 1) := by blk_ext
      refine ((congrArg _ e).trans (res1_at m' c (j 0) (j 1))).trans ?_
      unfold rrow rw0 G8 krow kw
      simp only [hagree c]
    · have e : j = ix3 (j 0) (j 1) (j 2) := by blk_ext
      refine ((congrArg _ e).trans (res2_at m' c (j 0) (j 1) (j 2))).trans ?_
      unfold rrow rw0 G9 krow kw
      simp only [hagree c]

end Cert.Proj
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Reference2Ideal
public import proofs.«01_k».proof.Proof.Gen.Kernel2Ideal.Value
public import proofs.«01_k».proof.Proof.Gen.Reference2Ideal.Run
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Reference3Ideal
public import proofs.«01_k».proof.Proof.Gen.Kernel3Ideal.Value
public import proofs.«01_k».proof.Proof.Gen.Reference3Ideal.Run
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Reference4Ideal
public import proofs.«01_k».proof.Proof.Gen.Kernel4Ideal.Value
public import proofs.«01_k».proof.Proof.Gen.Reference4Ideal.Run
public import proofs.«01_k».proof.Proof.Frame
public import proofs.«01_k».proof.Proof.Ffn
public import proofs.«01_k».proof.Proof.MergeFfn
public import proofs.«01_k».proof.Proof.ProjValue
public import Idealize.ShloMosaic.Lib.Quiescent
public import Idealize.ShloMosaic.Adequacy
public import Idealize.ShloMosaic.Init

@[expose] public section

noncomputable section

namespace Cert.Proof

open Idealize.ShloMosaic Idealize.SL.Sem Cert.Kernel

theorem claim : Cert.Claim :=
  ⟨Cert.Kernel.Gen.facts, Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts,
    fun m g _ => Cert.Attention.run m g,
    fun m g _ => Cert.Kernel2.Gen.frame m g,
    fun m g _ => Cert.Kernel2Ideal.Gen.frame m g,
    fun m g _ => (θ_run _ _ _).mono (fun _ h => ⟨fun c => (h c).2, sem_eq_zero_of_no_sems rfl _⟩)
      (Cert.Reference2Ideal.Value.run m g),
    fun m g _ => Cert.Kernel3.Gen.frame m g,
    fun m g _ => Cert.Kernel3Ideal.Gen.frame m g,
    fun m g _ => (θ_run _ _ _).mono (fun _ h => ⟨fun c => (h c).2, sem_eq_zero_of_no_sems rfl _⟩)
      (Cert.Reference3Ideal.Value.run m g),
    fun m g _ => Cert.Kernel4.Gen.frame m g,
    fun m g _ => Cert.Kernel4Ideal.Gen.frame m g,
    fun m g _ => (θ_run _ _ _).mono (fun _ h => ⟨fun c => (h c).2.2.2, sem_eq_zero_of_no_sems rfl _⟩)
      (Cert.Reference4Ideal.Value.run m g),
    trivial,
    Cert.Ffn.algebraic,
    trivial,
    Cert.MergeFfn.algebraic,
    trivial,
    Cert.Proj.algebraic⟩

end Cert.Proof

end
